-- ==== Defs.lean ====
def Pre_Kernel [hPre_some_chunks : Cert.Pre_some_chunks.Facts] (m : (ℓ : Loc Cert.Kernel.nD Cert.Kernel.τ Cert.Kernel.sig) → Buf (Elt Bits) ℓ) : Prop :=
  ∀ c : Dev Cert.Kernel.nD,
    (Cert.Pre_some_chunks.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_some_chunks : Cert.Pre_some_chunks.Facts] (m : (ℓ : Loc Cert.KernelIdeal.nD Cert.KernelIdeal.τ Cert.KernelIdeal.sig) → Buf (Elt Ideal) ℓ) : Prop :=
  ∀ c : Dev Cert.KernelIdeal.nD,
    (Cert.Pre_some_chunks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_some_chunks : Cert.Pre_some_chunks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_chunks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_AmaxKernel (m : (ℓ : Loc Cert.AmaxKernel.nD Cert.AmaxKernel.τ Cert.AmaxKernel.sig) → Buf (Elt Bits) ℓ) : Prop :=
  True

def Pre_AmaxKernelIdeal (m : (ℓ : Loc Cert.AmaxKernelIdeal.nD Cert.AmaxKernelIdeal.τ Cert.AmaxKernelIdeal.sig) → Buf (Elt Ideal) ℓ) : Prop :=
  True

def Pre_AmaxReferenceIdeal (m : (ℓ : Loc Cert.AmaxReferenceIdeal.nD Cert.AmaxReferenceIdeal.τ Cert.AmaxReferenceIdeal.sig) → Buf (Elt Ideal) ℓ) : Prop :=
  True

def quiescent_Kernel [hKernel : Cert.Kernel.Facts] [hPre_some_chunks : Cert.Pre_some_chunks.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_some_chunks : Cert.Pre_some_chunks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_some_chunks : Cert.Pre_some_chunks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_AmaxKernel [hAmaxKernel : Cert.AmaxKernel.Facts] : Prop :=
  ∀ (m : (ℓ : Loc Cert.AmaxKernel.nD Cert.AmaxKernel.τ Cert.AmaxKernel.sig) → Buf (Elt Bits) ℓ) (g : Dev Cert.AmaxKernel.nD → PrngReg), Pre_AmaxKernel m →
    θ_run (Cert.AmaxKernel.defs (F := Bits)) (onTc (τ := Cert.AmaxKernel.τ) (Cert.AmaxKernel.main (F := Bits))) ⟨m, fun _ => 0, g⟩ (fun r => (∀ c : Dev Cert.AmaxKernel.nD,
      r.2.mem ((c.tc : Thread Cert.AmaxKernel.nD Cert.AmaxKernel.τ).loc Cert.AmaxKernel.main_arg0) = m ((c.tc : Thread Cert.AmaxKernel.nD Cert.AmaxKernel.τ).loc Cert.AmaxKernel.main_arg0)
      ∧ r.2.mem ((c.tc : Thread Cert.AmaxKernel.nD Cert.AmaxKernel.τ).loc Cert.AmaxKernel.main_arg1) = m ((c.tc : Thread Cert.AmaxKernel.nD Cert.AmaxKernel.τ).loc Cert.AmaxKernel.main_arg1))
      ∧ r.2.sem = fun _ => 0)

def quiescent_AmaxKernelIdeal [hAmaxKernelIdeal : Cert.AmaxKernelIdeal.Facts] : Prop :=
  ∀ (m : (ℓ : Loc Cert.AmaxKernelIdeal.nD Cert.AmaxKernelIdeal.τ Cert.AmaxKernelIdeal.sig) → Buf (Elt Ideal) ℓ) (g : Dev Cert.AmaxKernelIdeal.nD → PrngReg), Pre_AmaxKernelIdeal m →
    θ_run (Cert.AmaxKernelIdeal.defs (F := Ideal)) (onTc (τ := Cert.AmaxKernelIdeal.τ) (Cert.AmaxKernelIdeal.main (F := Ideal))) ⟨m, fun _ => 0, g⟩ (fun r => (∀ c : Dev Cert.AmaxKernelIdeal.nD,
      r.2.mem ((c.tc : Thread Cert.AmaxKernelIdeal.nD Cert.AmaxKernelIdeal.τ).loc Cert.AmaxKernelIdeal.main_arg0) = m ((c.tc : Thread Cert.AmaxKernelIdeal.nD Cert.AmaxKernelIdeal.τ).loc Cert.AmaxKernelIdeal.main_arg0)
      ∧ r.2.mem ((c.tc : Thread Cert.AmaxKernelIdeal.nD Cert.AmaxKernelIdeal.τ).loc Cert.AmaxKernelIdeal.main_arg1) = m ((c.tc : Thread Cert.AmaxKernelIdeal.nD Cert.AmaxKernelIdeal.τ).loc Cert.AmaxKernelIdeal.main_arg1))
      ∧ r.2.sem = fun _ => 0)

def quiescent_AmaxReferenceIdeal [hAmaxReferenceIdeal : Cert.AmaxReferenceIdeal.Facts] : Prop :=
  ∀ (m : (ℓ : Loc Cert.AmaxReferenceIdeal.nD Cert.AmaxReferenceIdeal.τ Cert.AmaxReferenceIdeal.sig) → Buf (Elt Ideal) ℓ) (g : Dev Cert.AmaxReferenceIdeal.nD → PrngReg), Pre_AmaxReferenceIdeal m →
    θ_run (Cert.AmaxReferenceIdeal.defs (F := Ideal)) (onTc (τ := Cert.AmaxReferenceIdeal.τ) (Cert.AmaxReferenceIdeal.main (F := Ideal))) ⟨m, fun _ => 0, g⟩ (fun r => (∀ c : Dev Cert.AmaxReferenceIdeal.nD,
      r.2.mem ((c.tc : Thread Cert.AmaxReferenceIdeal.nD Cert.AmaxReferenceIdeal.τ).loc Cert.AmaxReferenceIdeal.main_arg0) = m ((c.tc : Thread Cert.AmaxReferenceIdeal.nD Cert.AmaxReferenceIdeal.τ).loc Cert.AmaxReferenceIdeal.main_arg0)
      ∧ r.2.mem ((c.tc : Thread Cert.AmaxReferenceIdeal.nD Cert.AmaxReferenceIdeal.τ).loc Cert.AmaxReferenceIdeal.main_arg1) = m ((c.tc : Thread Cert.AmaxReferenceIdeal.nD Cert.AmaxReferenceIdeal.τ).loc Cert.AmaxReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_some_chunks : Cert.Pre_some_chunks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_AmaxKernel_AmaxKernelIdeal : Prop :=
  True

def algebraic_AmaxKernelIdeal_AmaxReferenceIdeal [hAmaxKernelIdeal : Cert.AmaxKernelIdeal.Facts] [hAmaxReferenceIdeal : Cert.AmaxReferenceIdeal.Facts] : Prop :=
  ∀ (m : (ℓ : Loc Cert.AmaxKernelIdeal.nD Cert.AmaxKernelIdeal.τ Cert.AmaxKernelIdeal.sig) → Buf (Elt Ideal) ℓ) (g : Dev Cert.AmaxKernelIdeal.nD → PrngReg)
    (m' : (ℓ : Loc Cert.AmaxReferenceIdeal.nD Cert.AmaxReferenceIdeal.τ Cert.AmaxReferenceIdeal.sig) → Buf (Elt Ideal) ℓ) (g' : Dev Cert.AmaxReferenceIdeal.nD → PrngReg), Pre_AmaxKernelIdeal m →
    (∀ c : Dev Cert.AmaxKernelIdeal.nD,
      m' ((c.tc : Thread Cert.AmaxReferenceIdeal.nD Cert.AmaxReferenceIdeal.τ).loc Cert.AmaxReferenceIdeal.main_arg0) = m ((c.tc : Thread Cert.AmaxKernelIdeal.nD Cert.AmaxKernelIdeal.τ).loc Cert.AmaxKernelIdeal.main_arg0)
      ∧ m' ((c.tc : Thread Cert.AmaxReferenceIdeal.nD Cert.AmaxReferenceIdeal.τ).loc Cert.AmaxReferenceIdeal.main_arg1) = m ((c.tc : Thread Cert.AmaxKernelIdeal.nD Cert.AmaxKernelIdeal.τ).loc Cert.AmaxKernelIdeal.main_arg1)) →
    ∃ (v0 : (c : Dev Cert.AmaxKernelIdeal.nD) → Buf (Elt Ideal) ((c.tc : Thread Cert.AmaxKernelIdeal.nD Cert.AmaxKernelIdeal.τ).loc Cert.AmaxKernelIdeal.main_v36)),
      θ_run (Cert.AmaxKernelIdeal.defs (F := Ideal)) (onTc (τ := Cert.AmaxKernelIdeal.τ) (Cert.AmaxKernelIdeal.main (F := Ideal))) ⟨m, fun _ => 0, g⟩ (fun r => ∀ c : Dev Cert.AmaxKernelIdeal.nD,
          r.2.mem ((c.tc : Thread Cert.AmaxKernelIdeal.nD Cert.AmaxKernelIdeal.τ).loc Cert.AmaxKernelIdeal.main_v36) = v0 c
          ∧ r.2.mem ((c.tc : Thread Cert.AmaxKernelIdeal.nD Cert.AmaxKernelIdeal.τ).loc Cert.AmaxKernelIdeal.main_arg0) = m ((c.tc : Thread Cert.AmaxKernelIdeal.nD Cert.AmaxKernelIdeal.τ).loc Cert.AmaxKernelIdeal.main_arg0)
          ∧ r.2.mem ((c.tc : Thread Cert.AmaxKernelIdeal.nD Cert.AmaxKernelIdeal.τ).loc Cert.AmaxKernelIdeal.main_arg1) = m ((c.tc : Thread Cert.AmaxKernelIdeal.nD Cert.AmaxKernelIdeal.τ).loc Cert.AmaxKernelIdeal.main_arg1))
      ∧ θ_run (Cert.AmaxReferenceIdeal.defs (F := Ideal)) (onTc (τ := Cert.AmaxReferenceIdeal.τ) (Cert.AmaxReferenceIdeal.main (F := Ideal))) ⟨m', fun _ => 0, g'⟩ (fun r => ∀ c : Dev Cert.AmaxReferenceIdeal.nD,
          r.2.mem ((c.tc : Thread Cert.AmaxReferenceIdeal.nD Cert.AmaxReferenceIdeal.τ).loc Cert.AmaxReferenceIdeal.main_v27) = v0 c
          ∧ r.2.mem ((c.tc : Thread Cert.AmaxReferenceIdeal.nD Cert.AmaxReferenceIdeal.τ).loc Cert.AmaxReferenceIdeal.main_arg0) = m' ((c.tc : Thread Cert.AmaxReferenceIdeal.nD Cert.AmaxReferenceIdeal.τ).loc Cert.AmaxReferenceIdeal.main_arg0)
          ∧ r.2.mem ((c.tc : Thread Cert.AmaxReferenceIdeal.nD Cert.AmaxReferenceIdeal.τ).loc Cert.AmaxReferenceIdeal.main_arg1) = m' ((c.tc : Thread Cert.AmaxReferenceIdeal.nD Cert.AmaxReferenceIdeal.τ).loc Cert.AmaxReferenceIdeal.main_arg1))

def Claim : Prop :=
  ∃ (hKernel : Cert.Kernel.Facts) (hKernelIdeal : Cert.KernelIdeal.Facts) (hReferenceIdeal : Cert.ReferenceIdeal.Facts) (hAmaxKernel : Cert.AmaxKernel.Facts) (hAmaxKernelIdeal : Cert.AmaxKernelIdeal.Facts) (hAmaxReferenceIdeal : Cert.AmaxReferenceIdeal.Facts) (hPre_some_chunks : Cert.Pre_some_chunks.Facts),
    quiescent_Kernel (hKernel := hKernel) (hPre_some_chunks := hPre_some_chunks)
    ∧ quiescent_KernelIdeal (hKernelIdeal := hKernelIdeal) (hPre_some_chunks := hPre_some_chunks)
    ∧ quiescent_ReferenceIdeal (hReferenceIdeal := hReferenceIdeal) (hPre_some_chunks := hPre_some_chunks)
    ∧ quiescent_AmaxKernel (hAmaxKernel := hAmaxKernel)
    ∧ quiescent_AmaxKernelIdeal (hAmaxKernelIdeal := hAmaxKernelIdeal)
    ∧ quiescent_AmaxReferenceIdeal (hAmaxReferenceIdeal := hAmaxReferenceIdeal)
    ∧ preserves_Kernel_KernelIdeal
    ∧ algebraic_KernelIdeal_ReferenceIdeal (hKernelIdeal := hKernelIdeal) (hReferenceIdeal := hReferenceIdeal) (hPre_some_chunks := hPre_some_chunks)
    ∧ preserves_AmaxKernel_AmaxKernelIdeal
    ∧ algebraic_AmaxKernelIdeal_AmaxReferenceIdeal (hAmaxKernelIdeal := hAmaxKernelIdeal) (hAmaxReferenceIdeal := hAmaxReferenceIdeal)
-- ==== Pre_some_chunks.lean ====
abbrev S16x80x512x128 : Shape := ⟨4, ![16, 80, 512, 128]⟩
abbrev S48x5120x128 : Shape := ⟨3, ![48, 5120, 128]⟩
abbrev S8 : Shape := ⟨1, ![8]⟩
abbrev S2 : Shape := ⟨1, ![2]⟩
abbrev S1 : Shape := ⟨1, ![1]⟩
abbrev S_ : Shape := ⟨0, ![]⟩

class Facts : Prop where
  slices_S8_S1_0 : S8.Slices ![0] S1
  shapeCasts_S1_S_ : S1.ShapeCasts S_

variable [Facts]

def fn {F : FTy → Type} [FloatOps F] (main_arg0 : IVec S16x80x512x128 32) (main_arg1 : IVec S48x5120x128 32) (main_arg2 : IVec S8 32) (main_arg3 : FVec F S2 .f32) : IVec S_ 1 :=
  let main_v0 : IVec S1 32 := (extractStridedSlice S1 ![0] · slices_S8_S1_0) main_arg2
  let main_v1 : IVec S_ 32 := shapeCast S_ main_v0 shapeCasts_S1_S_
  let main_c : IVec S_ 32 := constantI S_ 32 1#32
  let main_v2 : IVec S_ 1 := cmpi .sge main_v1 main_c
  let main_v3 : IVec S1 32 := (extractStridedSlice S1 ![0] · slices_S8_S1_0) main_arg2
  let main_v4 : IVec S_ 32 := shapeCast S_ main_v3 shapeCasts_S1_S_
  let main_c_0 : IVec S_ 32 := constantI S_ 32 40#32
  let main_v5 : IVec S_ 1 := cmpi .sle main_v4 main_c_0
  let main_v6 : IVec S_ 1 := andi main_v2 main_v5
  main_v6
-- ==== Kernel.lean ====
abbrev S16x80x512x128 : Shape := ⟨4, ![16, 80, 512, 128]⟩
abbrev S48x5120x128 : Shape := ⟨3, ![48, 5120, 128]⟩
abbrev S8 : Shape := ⟨1, ![8]⟩
abbrev S2 : Shape := ⟨1, ![2]⟩
abbrev S16384x6144 : Shape := ⟨2, ![16384, 6144]⟩
abbrev S80x512x128 : Shape := ⟨3, ![80, 512, 128]⟩
abbrev S8x4x128x128 : Shape := ⟨4, ![8, 4, 128, 128]⟩
abbrev S2x1024x512 : Shape := ⟨3, ![2, 1024, 512]⟩
abbrev S_ : Shape := ⟨0, ![]⟩
abbrev S1 : Shape := ⟨1, ![1]⟩
abbrev S256x256 : Shape := ⟨2, ![256, 256]⟩
abbrev S1x4x128x128 : Shape := ⟨4, ![1, 4, 128, 128]⟩
abbrev S4x128x128 : Shape := ⟨3, ![4, 128, 128]⟩
abbrev S1x1x128x128 : Shape := ⟨4, ![1, 1, 128, 128]⟩
abbrev S128x128 : Shape := ⟨2, ![128, 128]⟩
abbrev S256x128 : Shape := ⟨2, ![256, 128]⟩
abbrev S1x80x512x128 : Shape := ⟨4, ![1, 80, 512, 128]⟩
abbrev S1024x512 : Shape := ⟨2, ![1024, 512]⟩
abbrev S1x1024x512 : Shape := ⟨3, ![1, 1024, 512]⟩
abbrev S1x128x128 : Shape := ⟨3, ![1, 128, 128]⟩
abbrev S1x256x256 : Shape := ⟨3, ![1, 256, 256]⟩

abbrev nBuf : Space → Nat
  | .hbm => 5
  | .vmem => 3
  | .smem => 2
  | _ => 0

abbrev bufTy : (tb : Table) → Fin (tcTables nBuf tb) → BufTy
  | .hbm, ⟨0, _⟩ => ⟨S16x80x512x128, .i32⟩
  | .hbm, ⟨1, _⟩ => ⟨S48x5120x128, .i32⟩
  | .hbm, ⟨2, _⟩ => ⟨S8, .i32⟩
  | .hbm, ⟨3, _⟩ => ⟨S2, .f32⟩
  | .hbm, ⟨4, _⟩ => ⟨S16384x6144, .f32⟩
  | .local _ .vmem, ⟨0, _⟩ => ⟨S80x512x128, .i32⟩
  | .local _ .vmem, ⟨1, _⟩ => ⟨S8x4x128x128, .i32⟩
  | .local _ .vmem, ⟨2, _⟩ => ⟨S2x1024x512, .f32⟩
  | .local _ .smem, ⟨0, _⟩ => ⟨S8, .i32⟩
  | .local _ .smem, ⟨1, _⟩ => ⟨S2, .f32⟩
  | _, _ => ⟨S16x80x512x128, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_2_r0 : BitVec 32 := 0#32
  let c8_i32_r0 : BitVec 32 := 8#32
  let v13_r0 : BitVec 32 := Scalar.addi c0_i32_2_r0 c8_i32_r0
  let c1_i32_r0 : BitVec 32 := 1#32
  ⟨c0_i32_2_r0, v13_r0, c1_i32_r0⟩
def k0_mult1 (arg13_r0 : BitVec 32) : BitVec 32 :=
  let c128_i32_r0 : BitVec 32 := 128#32
  let v126_r0 : BitVec 32 := Scalar.muli arg13_r0 c128_i32_r0
  v126_r0
def k0_cond1 (v0 : BitVec 32) (k0_t1 : Fin k0_t1_loop.trips) : BitVec 1 :=
  let c0_i32_2_r0 : BitVec 32 := 0#32
  let c1_i32_r0 : BitVec 32 := 1#32
  let arg11_r0 : BitVec 32 := Scf.iv c0_i32_2_r0 c1_i32_r0 k0_t1
  let c192_i32 : BitVec 32 := 192#32
  let v3 : BitVec 32 := Scalar.muli c192_i32 v0
  let v115_r0 : BitVec 1 := Scalar.cmpi .slt arg11_r0 v3
  let v116_r0 : BitVec 32 := Scalar.extui v115_r0
  let c0_i32_71_r0 : BitVec 32 := 0#32
  let v117_r0 : BitVec 1 := Scalar.cmpi .ne v116_r0 c0_i32_71_r0
  v117_r0

def k0_off1 (k0_t1 : Fin k0_t1_loop.trips) : Fin 1 → Nat :=
  let c0_i32_2_r0 : BitVec 32 := 0#32
  let c1_i32_r0 : BitVec 32 := 1#32
  let arg11_r0 : BitVec 32 := Scf.iv c0_i32_2_r0 c1_i32_r0 k0_t1
  ![arg11_r0.toNat]
def k0_off2 (k0_t1 : Fin k0_t1_loop.trips) : Fin 4 → Nat :=
  let c0_i32_2_r0 : BitVec 32 := 0#32
  let c1_i32_r0 : BitVec 32 := 1#32
  let arg11_r0 : BitVec 32 := Scf.iv c0_i32_2_r0 c1_i32_r0 k0_t1
  let c0_i32_76_r0 : BitVec 32 := 0#32
  let c0_i32_77_r0 : BitVec 32 := 0#32
  let c0_i32_78_r0 : BitVec 32 := 0#32
  ![arg11_r0.toNat, 0, 0, 0]
def k0_off3 (arg12_r0 : BitVec 32) (arg13_r0 : BitVec 32) : Fin 3 → Nat :=
  let c4_i32_r0 : BitVec 32 := 4#32
  let v125_r0 : BitVec 32 := Scalar.muli arg12_r0 c4_i32_r0
  let c128_i32_r0 : BitVec 32 := 128#32
  let v126_r0 : BitVec 32 := Scalar.muli arg13_r0 c128_i32_r0
  let v127_r0 : BitVec 32 := v126_r0
  let c0_i32_79_r0 : BitVec 32 := 0#32
  ![v125_r0.toNat, v127_r0.toNat, 0]

def k0_chk1 (v0 : BitVec 32) (k0_t1 : Fin k0_t1_loop.trips) (arg12_r0 : BitVec 32) (arg13_r0 : BitVec 32) : Prop :=
  (∀ (k0_h1 : k0_cond1 v0 k0_t1 = 1#1), 128 ∣ (k0_mult1 arg13_r0).toNat) ∧
  (∀ (k0_h1 : k0_cond1 v0 k0_t1 = 1#1), ∀ a, (k0_off3 arg12_r0 arg13_r0) a + S4x128x128.size a ≤ S48x5120x128.size a)
theorem k0_mult1_dvd : ∀ (v0 : BitVec 32) (k0_t1 : Fin k0_t1_loop.trips) (arg12_r0 : BitVec 32) (arg13_r0 : BitVec 32) (k0_hw1 : k0_chk1 v0 k0_t1 arg12_r0 arg13_r0), ∀ (k0_h1 : k0_cond1 v0 k0_t1 = 1#1), 128 ∣ (k0_mult1 arg13_r0).toNat := fun v0 k0_t1 arg12_r0 arg13_r0 k0_hw1 k0_h1 => k0_hw1.1 k0_h1
theorem k0_off3_inb : ∀ (v0 : BitVec 32) (k0_t1 : Fin k0_t1_loop.trips) (arg12_r0 : BitVec 32) (arg13_r0 : BitVec 32) (k0_hw1 : k0_chk1 v0 k0_t1 arg12_r0 arg13_r0), ∀ (k0_h1 : k0_cond1 v0 k0_t1 = 1#1), ∀ a, (k0_off3 arg12_r0 arg13_r0) a + S4x128x128.size a ≤ S48x5120x128.size a := fun v0 k0_t1 arg12_r0 arg13_r0 k0_hw1 k0_h1 => k0_hw1.2 k0_h1

def k0_mult2 : BitVec 32 :=
  let c0_i32_4_r0 : BitVec 32 := 0#32
  c0_i32_4_r0
@[reducible] def k0_t2_loop : Scf.Loop 32 :=
  let c0_i32_26_r0 : BitVec 32 := 0#32
  let c16_i32_r0 : BitVec 32 := 16#32
  let v35_r0 : BitVec 32 := Scalar.addi c0_i32_26_r0 c16_i32_r0
  let c1_i32_27_r0 : BitVec 32 := 1#32
  ⟨c0_i32_26_r0, v35_r0, c1_i32_27_r0⟩
def k0_off4 (k0_t2 : Fin k0_t2_loop.trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c0_i32_71_r0 : BitVec 32 := 0#32
  let c0_i32_72_r0 : BitVec 32 := 0#32
  let c0_i32_73_r0 : BitVec 32 := 0#32
  ![arg11_r0.toNat, 0, 0, 0]
@[reducible] def k0_t3_loop : Scf.Loop 32 :=
  let c0_i32_77_r0 : BitVec 32 := 0#32
  let c12_i32_r0 : BitVec 32 := 12#32
  let v119_r0 : BitVec 32 := Scalar.addi c0_i32_77_r0 c12_i32_r0
  let c1_i32_78_r0 : BitVec 32 := 1#32
  ⟨c0_i32_77_r0, v119_r0, c1_i32_78_r0⟩
def k0_cond2 (k0_t2 : Fin k0_t2_loop.trips) (k0_t3 : Fin k0_t3_loop.trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c3_i32_r0 : BitVec 32 := 3#32
  let v126_r0 : BitVec 1 := Scalar.cmpi .sge v122_r0 c3_i32_r0
  let v127_r0 : BitVec 32 := Scalar.extui v126_r0
  let c0_i32_83_r0 : BitVec 32 := 0#32
  let v128_r0 : BitVec 1 := Scalar.cmpi .ne v127_r0 c0_i32_83_r0
  v128_r0

def k0_mult3 : BitVec 32 :=
  let c0_i32_152_r0 : BitVec 32 := 0#32
  c0_i32_152_r0
def k0_mult4 : BitVec 32 :=
  let c0_i32_153_r0 : BitVec 32 := 0#32
  c0_i32_153_r0
def k0_off5 (k0_t2 : Fin k0_t2_loop.trips) (k0_t3 : Fin k0_t3_loop.trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  ![v125_r0.toNat]
def k0_off6 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let c0_i32_154_r0 : BitVec 32 := 0#32
  let c0_i32_155_r0 : BitVec 32 := 0#32
  ![v125_r0.toNat, 0, 0]
def k0_mult5 : BitVec 32 :=
  let c0_i32_154_r0 : BitVec 32 := 0#32
  c0_i32_154_r0
def k0_off7 (v0 : BitVec 32) (k0_t2 : Fin k0_t2_loop.trips) (k0_t3 : Fin k0_t3_loop.trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_152_r0 : BitVec 32 := 1#32
  let v260_r0 : BitVec 32 := Scalar.addi v123_r0 c1_i32_152_r0
  let c7_i32_153_r0 : BitVec 32 := 7#32
  let v261_r0 : BitVec 32 := Scalar.andi v260_r0 c7_i32_153_r0
  ![v261_r0.toNat]
def k0_cond3 (v0 : BitVec 32) (k0_t2 : Fin k0_t2_loop.trips) (k0_t3 : Fin k0_t3_loop.trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_84_r0 : BitVec 32 := 1#32
  let v129_r0 : BitVec 32 := Scalar.addi v123_r0 c1_i32_84_r0
  let c192_i32 : BitVec 32 := 192#32
  let v3 : BitVec 32 := Scalar.muli c192_i32 v0
  let v130_r0 : BitVec 1 := Scalar.cmpi .slt v129_r0 v3
  let v131_r0 : BitVec 32 := Scalar.extui v130_r0
  let c0_i32_85_r0 : BitVec 32 := 0#32
  let v132_r0 : BitVec 1 := Scalar.cmpi .ne v131_r0 c0_i32_85_r0
  v132_r0

def k0_off8 (v0 : BitVec 32) (k0_t2 : Fin k0_t2_loop.trips) (k0_t3 : Fin k0_t3_loop.trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_152_r0 : BitVec 32 := 1#32
  let v260_r0 : BitVec 32 := Scalar.addi v123_r0 c1_i32_152_r0
  let c7_i32_153_r0 : BitVec 32 := 7#32
  let v261_r0 : BitVec 32 := Scalar.andi v260_r0 c7_i32_153_r0
  let c0_i32_155_r0 : BitVec 32 := 0#32
  let c0_i32_156_r0 : BitVec 32 := 0#32
  let c0_i32_157_r0 : BitVec 32 := 0#32
  ![v261_r0.toNat, 0, 0, 0]
def k0_mult6 (arg16_r0 : BitVec 32) : BitVec 32 :=
  let c128_i32_r0 : BitVec 32 := 128#32
  let v262_r0 : BitVec 32 := Scalar.muli arg16_r0 c128_i32_r0
  v262_r0
def k0_cond4 (v0 : BitVec 32) (k0_t2 : Fin k0_t2_loop.trips) (k0_t3 : Fin k0_t3_loop.trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c8_i32_86_r0 : BitVec 32 := 8#32
  let v133_r0 : BitVec 32 := Scalar.addi v123_r0 c8_i32_86_r0
  let c192_i32 : BitVec 32 := 192#32
  let v3 : BitVec 32 := Scalar.muli c192_i32 v0
  let v134_r0 : BitVec 1 := Scalar.cmpi .slt v133_r0 v3
  let v135_r0 : BitVec 32 := Scalar.extui v134_r0
  let c0_i32_87_r0 : BitVec 32 := 0#32
  let v136_r0 : BitVec 1 := Scalar.cmpi .ne v135_r0 c0_i32_87_r0
  v136_r0

def k0_off9 (v0 : BitVec 32) (k0_t2 : Fin k0_t2_loop.trips) (k0_t3 : Fin k0_t3_loop.trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c7_i32_152_r0 : BitVec 32 := 7#32
  let v260_r0 : BitVec 32 := Scalar.andi v123_r0 c7_i32_152_r0
  ![v260_r0.toNat]
def k0_off10 (v0 : BitVec 32) (k0_t2 : Fin k0_t2_loop.trips) (k0_t3 : Fin k0_t3_loop.trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c7_i32_152_r0 : BitVec 32 := 7#32
  let v260_r0 : BitVec 32 := Scalar.andi v123_r0 c7_i32_152_r0
  let c0_i32_153_r0 : BitVec 32 := 0#32
  let c0_i32_154_r0 : BitVec 32 := 0#32
  let c0_i32_155_r0 : BitVec 32 := 0#32
  ![v260_r0.toNat, 0, 0, 0]
def k0_off11 (arg15_r0 : BitVec 32) (arg16_r0 : BitVec 32) : Fin 3 → Nat :=
  let c4_i32_r0 : BitVec 32 := 4#32
  let v261_r0 : BitVec 32 := Scalar.muli arg15_r0 c4_i32_r0
  let c128_i32_r0 : BitVec 32 := 128#32
  let v262_r0 : BitVec 32 := Scalar.muli arg16_r0 c128_i32_r0
  let v263_r0 : BitVec 32 := v262_r0
  let c0_i32_156_r0 : BitVec 32 := 0#32
  ![v261_r0.toNat, v263_r0.toNat, 0]

def k0_chk3 (v0 : BitVec 32) (k0_t2 : Fin k0_t2_loop.trips) (k0_t3 : Fin k0_t3_loop.trips) (arg15_r0 : BitVec 32) (arg16_r0 : BitVec 32) : Prop :=
  (∀ (k0_h4 : k0_cond4 v0 k0_t2 k0_t3 = 1#1), 128 ∣ (k0_mult6 arg16_r0).toNat) ∧
  (∀ (k0_h4 : k0_cond4 v0 k0_t2 k0_t3 = 1#1), ∀ a, (k0_off11 arg15_r0 arg16_r0) a + S4x128x128.size a ≤ S48x5120x128.size a)
theorem k0_mult6_dvd : ∀ (v0 : BitVec 32) (k0_t2 : Fin k0_t2_loop.trips) (k0_t3 : Fin k0_t3_loop.trips) (arg15_r0 : BitVec 32) (arg16_r0 : BitVec 32) (k0_hw3 : k0_chk3 v0 k0_t2 k0_t3 arg15_r0 arg16_r0), ∀ (k0_h4 : k0_cond4 v0 k0_t2 k0_t3 = 1#1), 128 ∣ (k0_mult6 arg16_r0).toNat := fun v0 k0_t2 k0_t3 arg15_r0 arg16_r0 k0_hw3 k0_h4 => k0_hw3.1 k0_h4
theorem k0_off11_inb : ∀ (v0 : BitVec 32) (k0_t2 : Fin k0_t2_loop.trips) (k0_t3 : Fin k0_t3_loop.trips) (arg15_r0 : BitVec 32) (arg16_r0 : BitVec 32) (k0_hw3 : k0_chk3 v0 k0_t2 k0_t3 arg15_r0 arg16_r0), ∀ (k0_h4 : k0_cond4 v0 k0_t2 k0_t3 = 1#1), ∀ a, (k0_off11 arg15_r0 arg16_r0) a + S4x128x128.size a ≤ S48x5120x128.size a := fun v0 k0_t2 k0_t3 arg15_r0 arg16_r0 k0_hw3 k0_h4 => k0_hw3.2 k0_h4

def k0_off12 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v147_r0 : Index := Scalar.indexCast v125_r0
  let c0_94_r0 : Index := 0#32
  let c0_95_r0 : Index := 0#32
  ![v147_r0.toNat, 0, 0]
def k0_off13 (v0 : BitVec 32) (k0_t2 : Fin k0_t2_loop.trips) (k0_t3 : Fin k0_t3_loop.trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_96_r0 : BitVec 32 := 1#32
  let v151_r0 : BitVec 32 := Scalar.addi v123_r0 c1_i32_96_r0
  let c7_i32_r0 : BitVec 32 := 7#32
  let v152_r0 : BitVec 32 := Scalar.andi v151_r0 c7_i32_r0
  let v153_r0 : Index := Scalar.indexCast v152_r0
  let c0_97_r0 : Index := 0#32
  let c0_98_r0 : Index := 0#32
  let c0_99_r0 : Index := 0#32
  ![v153_r0.toNat, 0, 0, 0]
def k0_off14 (v0 : BitVec 32) (k0_t2 : Fin k0_t2_loop.trips) (k0_t3 : Fin k0_t3_loop.trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_96_r0 : BitVec 32 := 1#32
  let v151_r0 : BitVec 32 := Scalar.addi v123_r0 c1_i32_96_r0
  let c7_i32_r0 : BitVec 32 := 7#32
  let v152_r0 : BitVec 32 := Scalar.andi v151_r0 c7_i32_r0
  let v157_r0 : Index := Scalar.indexCast v152_r0
  let c1_100_r0 : Index := 1#32
  let c0_101_r0 : Index := 0#32
  let c0_102_r0 : Index := 0#32
  ![v157_r0.toNat, 1, 0, 0]
def k0_off15 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v165_r0 : Index := Scalar.indexCast v125_r0
  let c0_103_r0 : Index := 0#32
  let c256_104_r0 : Index := 256#32
  ![v165_r0.toNat, 0, 256]
def k0_off16 (v0 : BitVec 32) (k0_t2 : Fin k0_t2_loop.trips) (k0_t3 : Fin k0_t3_loop.trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_105_r0 : BitVec 32 := 1#32
  let v169_r0 : BitVec 32 := Scalar.addi v123_r0 c1_i32_105_r0
  let c7_i32_106_r0 : BitVec 32 := 7#32
  let v170_r0 : BitVec 32 := Scalar.andi v169_r0 c7_i32_106_r0
  let v171_r0 : Index := Scalar.indexCast v170_r0
  let c2_107_r0 : Index := 2#32
  let c0_108_r0 : Index := 0#32
  let c0_109_r0 : Index := 0#32
  ![v171_r0.toNat, 2, 0, 0]
def k0_off17 (v0 : BitVec 32) (k0_t2 : Fin k0_t2_loop.trips) (k0_t3 : Fin k0_t3_loop.trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_105_r0 : BitVec 32 := 1#32
  let v169_r0 : BitVec 32 := Scalar.addi v123_r0 c1_i32_105_r0
  let c7_i32_106_r0 : BitVec 32 := 7#32
  let v170_r0 : BitVec 32 := Scalar.andi v169_r0 c7_i32_106_r0
  let v175_r0 : Index := Scalar.indexCast v170_r0
  let c3_110_r0 : Index := 3#32
  let c0_111_r0 : Index := 0#32
  let c0_112_r0 : Index := 0#32
  ![v175_r0.toNat, 3, 0, 0]
def k0_off18 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v190_r0 : Index := Scalar.indexCast v125_r0
  let c256_118_r0 : Index := 256#32
  let c0_119_r0 : Index := 0#32
  ![v190_r0.toNat, 256, 0]
def k0_off19 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v197_r0 : Index := Scalar.indexCast v125_r0
  let c256_120_r0 : Index := 256#32
  let c256_121_r0 : Index := 256#32
  ![v197_r0.toNat, 256, 256]
def k0_off20 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v211_r0 : Index := Scalar.indexCast v125_r0
  let c512_128_r0 : Index := 512#32
  let c0_129_r0 : Index := 0#32
  ![v211_r0.toNat, 512, 0]
def k0_off21 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v218_r0 : Index := Scalar.indexCast v125_r0
  let c512_130_r0 : Index := 512#32
  let c256_131_r0 : Index := 256#32
  ![v218_r0.toNat, 512, 256]
def k0_off22 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v232_r0 : Index := Scalar.indexCast v125_r0
  let c768_137_r0 : Index := 768#32
  let c0_138_r0 : Index := 0#32
  ![v232_r0.toNat, 768, 0]
def k0_off23 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let v239_r0 : Index := Scalar.indexCast v125_r0
  let c768_139_r0 : Index := 768#32
  let c256_140_r0 : Index := 256#32
  ![v239_r0.toNat, 768, 256]
@[reducible] def k0_t4_loop (v0 : BitVec 32) : Scf.Loop 32 :=
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_148_r0 : BitVec 32 := 1#32
  ⟨c1_i32_146_r0, v254_r0, c1_i32_148_r0⟩
def k0_mult7 : BitVec 32 :=
  let c0_i32_210_r0 : BitVec 32 := 0#32
  c0_i32_210_r0
def k0_off24 (v0 : BitVec 32) (k0_t2 : Fin k0_t2_loop.trips) (k0_t3 : Fin k0_t3_loop.trips) (k0_t4 : Fin (k0_t4_loop v0).trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c1_i32_208_r0 : BitVec 32 := 1#32
  let v350_r0 : BitVec 32 := Scalar.addi v260_r0 c1_i32_208_r0
  let c7_i32_209_r0 : BitVec 32 := 7#32
  let v351_r0 : BitVec 32 := Scalar.andi v350_r0 c7_i32_209_r0
  ![v351_r0.toNat]
def k0_cond5 (v0 : BitVec 32) (k0_t2 : Fin k0_t2_loop.trips) (k0_t3 : Fin k0_t3_loop.trips) (k0_t4 : Fin (k0_t4_loop v0).trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c1_i32_152_r0 : BitVec 32 := 1#32
  let v261_r0 : BitVec 32 := Scalar.addi v260_r0 c1_i32_152_r0
  let c192_i32 : BitVec 32 := 192#32
  let v3 : BitVec 32 := Scalar.muli c192_i32 v0
  let v262_r0 : BitVec 1 := Scalar.cmpi .slt v261_r0 v3
  let v263_r0 : BitVec 32 := Scalar.extui v262_r0
  let c0_i32_153_r0 : BitVec 32 := 0#32
  let v264_r0 : BitVec 1 := Scalar.cmpi .ne v263_r0 c0_i32_153_r0
  v264_r0

def k0_off25 (v0 : BitVec 32) (k0_t2 : Fin k0_t2_loop.trips) (k0_t3 : Fin k0_t3_loop.trips) (k0_t4 : Fin (k0_t4_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c1_i32_208_r0 : BitVec 32 := 1#32
  let v350_r0 : BitVec 32 := Scalar.addi v260_r0 c1_i32_208_r0
  let c7_i32_209_r0 : BitVec 32 := 7#32
  let v351_r0 : BitVec 32 := Scalar.andi v350_r0 c7_i32_209_r0
  let c0_i32_211_r0 : BitVec 32 := 0#32
  let c0_i32_212_r0 : BitVec 32 := 0#32
  let c0_i32_213_r0 : BitVec 32 := 0#32
  ![v351_r0.toNat, 0, 0, 0]
def k0_mult8 (arg19_r0 : BitVec 32) : BitVec 32 :=
  let c128_i32_r0 : BitVec 32 := 128#32
  let v352_r0 : BitVec 32 := Scalar.muli arg19_r0 c128_i32_r0
  v352_r0
def k0_cond6 (v0 : BitVec 32) (k0_t2 : Fin k0_t2_loop.trips) (k0_t3 : Fin k0_t3_loop.trips) (k0_t4 : Fin (k0_t4_loop v0).trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c8_i32_154_r0 : BitVec 32 := 8#32
  let v265_r0 : BitVec 32 := Scalar.addi v260_r0 c8_i32_154_r0
  let c192_i32 : BitVec 32 := 192#32
  let v3 : BitVec 32 := Scalar.muli c192_i32 v0
  let v266_r0 : BitVec 1 := Scalar.cmpi .slt v265_r0 v3
  let v267_r0 : BitVec 32 := Scalar.extui v266_r0
  let c0_i32_155_r0 : BitVec 32 := 0#32
  let v268_r0 : BitVec 1 := Scalar.cmpi .ne v267_r0 c0_i32_155_r0
  v268_r0

def k0_off26 (v0 : BitVec 32) (k0_t2 : Fin k0_t2_loop.trips) (k0_t3 : Fin k0_t3_loop.trips) (k0_t4 : Fin (k0_t4_loop v0).trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c7_i32_208_r0 : BitVec 32 := 7#32
  let v350_r0 : BitVec 32 := Scalar.andi v260_r0 c7_i32_208_r0
  ![v350_r0.toNat]
def k0_off27 (v0 : BitVec 32) (k0_t2 : Fin k0_t2_loop.trips) (k0_t3 : Fin k0_t3_loop.trips) (k0_t4 : Fin (k0_t4_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c7_i32_208_r0 : BitVec 32 := 7#32
  let v350_r0 : BitVec 32 := Scalar.andi v260_r0 c7_i32_208_r0
  let c0_i32_209_r0 : BitVec 32 := 0#32
  let c0_i32_210_r0 : BitVec 32 := 0#32
  let c0_i32_211_r0 : BitVec 32 := 0#32
  ![v350_r0.toNat, 0, 0, 0]
def k0_off28 (arg18_r0 : BitVec 32) (arg19_r0 : BitVec 32) : Fin 3 → Nat :=
  let c4_i32_r0 : BitVec 32 := 4#32
  let v351_r0 : BitVec 32 := Scalar.muli arg18_r0 c4_i32_r0
  let c128_i32_r0 : BitVec 32 := 128#32
  let v352_r0 : BitVec 32 := Scalar.muli arg19_r0 c128_i32_r0
  let v353_r0 : BitVec 32 := v352_r0
  let c0_i32_212_r0 : BitVec 32 := 0#32
  ![v351_r0.toNat, v353_r0.toNat, 0]

def k0_chk4 (v0 : BitVec 32) (k0_t2 : Fin k0_t2_loop.trips) (k0_t3 : Fin k0_t3_loop.trips) (k0_t4 : Fin (k0_t4_loop v0).trips) (arg18_r0 : BitVec 32) (arg19_r0 : BitVec 32) : Prop :=
  (∀ (k0_h6 : k0_cond6 v0 k0_t2 k0_t3 k0_t4 = 1#1), 128 ∣ (k0_mult8 arg19_r0).toNat) ∧
  (∀ (k0_h6 : k0_cond6 v0 k0_t2 k0_t3 k0_t4 = 1#1), ∀ a, (k0_off28 arg18_r0 arg19_r0) a + S4x128x128.size a ≤ S48x5120x128.size a)
theorem k0_mult8_dvd : ∀ (v0 : BitVec 32) (k0_t2 : Fin k0_t2_loop.trips) (k0_t3 : Fin k0_t3_loop.trips) (k0_t4 : Fin (k0_t4_loop v0).trips) (arg18_r0 : BitVec 32) (arg19_r0 : BitVec 32) (k0_hw4 : k0_chk4 v0 k0_t2 k0_t3 k0_t4 arg18_r0 arg19_r0), ∀ (k0_h6 : k0_cond6 v0 k0_t2 k0_t3 k0_t4 = 1#1), 128 ∣ (k0_mult8 arg19_r0).toNat := fun v0 k0_t2 k0_t3 k0_t4 arg18_r0 arg19_r0 k0_hw4 k0_h6 => k0_hw4.1 k0_h6
theorem k0_off28_inb : ∀ (v0 : BitVec 32) (k0_t2 : Fin k0_t2_loop.trips) (k0_t3 : Fin k0_t3_loop.trips) (k0_t4 : Fin (k0_t4_loop v0).trips) (arg18_r0 : BitVec 32) (arg19_r0 : BitVec 32) (k0_hw4 : k0_chk4 v0 k0_t2 k0_t3 k0_t4 arg18_r0 arg19_r0), ∀ (k0_h6 : k0_cond6 v0 k0_t2 k0_t3 k0_t4 = 1#1), ∀ a, (k0_off28 arg18_r0 arg19_r0) a + S4x128x128.size a ≤ S48x5120x128.size a := fun v0 k0_t2 k0_t3 k0_t4 arg18_r0 arg19_r0 k0_hw4 k0_h6 => k0_hw4.2 k0_h6

def k0_off29 (v0 : BitVec 32) (k0_t4 : Fin (k0_t4_loop v0).trips) (c0_i32_156_r0 : BitVec 32) : Fin 3 → Nat :=
  let c2_i32_r0 : BitVec 32 := 2#32
  let c1_i32_146_r0 : BitVec 32 := 1#32
  let c1_i32_148_r0 : BitVec 32 := 1#32
  let arg17_r0 : BitVec 32 := Scf.iv c1_i32_146_r0 c1_i32_148_r0 k0_t4
  let v269_r0 : BitVec 32 := Scalar.muli c2_i32_r0 arg17_r0
  let v270_r0 : BitVec 32 := Scalar.addi v269_r0 c0_i32_156_r0
  let v271_r0 : Index := Scalar.indexCast v270_r0
  let c0_157_r0 : Index := 0#32
  let c0_158_r0 : Index := 0#32
  ![v271_r0.toNat, 0, 0]
def k0_off30 (v0 : BitVec 32) (k0_t2 : Fin k0_t2_loop.trips) (k0_t3 : Fin k0_t3_loop.trips) (k0_t4 : Fin (k0_t4_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c1_i32_163_r0 : BitVec 32 := 1#32
  let v282_r0 : BitVec 32 := Scalar.addi v260_r0 c1_i32_163_r0
  let c7_i32_164_r0 : BitVec 32 := 7#32
  let v283_r0 : BitVec 32 := Scalar.andi v282_r0 c7_i32_164_r0
  let v284_r0 : Index := Scalar.indexCast v283_r0
  let c0_165_r0 : Index := 0#32
  let c0_166_r0 : Index := 0#32
  let c0_167_r0 : Index := 0#32
  ![v284_r0.toNat, 0, 0, 0]
def k0_off31 (v0 : BitVec 32) (k0_t2 : Fin k0_t2_loop.trips) (k0_t3 : Fin k0_t3_loop.trips) (k0_t4 : Fin (k0_t4_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c1_i32_163_r0 : BitVec 32 := 1#32
  let v282_r0 : BitVec 32 := Scalar.addi v260_r0 c1_i32_163_r0
  let c7_i32_164_r0 : BitVec 32 := 7#32
  let v283_r0 : BitVec 32 := Scalar.andi v282_r0 c7_i32_164_r0
  let v288_r0 : Index := Scalar.indexCast v283_r0
  let c1_168_r0 : Index := 1#32
  let c0_169_r0 : Index := 0#32
  let c0_170_r0 : Index := 0#32
  ![v288_r0.toNat, 1, 0, 0]
def k0_off32 (v0 : BitVec 32) (k0_t2 : Fin k0_t2_loop.trips) (k0_t3 : Fin k0_t3_loop.trips) (k0_t4 : Fin (k0_t4_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c1_i32_171_r0 : BitVec 32 := 1#32
  let v293_r0 : BitVec 32 := Scalar.addi v260_r0 c1_i32_171_r0
  let c7_i32_172_r0 : BitVec 32 := 7#32
  let v294_r0 : BitVec 32 := Scalar.andi v293_r0 c7_i32_172_r0
  let v295_r0 : Index := Scalar.indexCast v294_r0
  let c2_173_r0 : Index := 2#32
  let c0_174_r0 : Index := 0#32
  let c0_175_r0 : Index := 0#32
  ![v295_r0.toNat, 2, 0, 0]
def k0_off33 (v0 : BitVec 32) (k0_t2 : Fin k0_t2_loop.trips) (k0_t3 : Fin k0_t3_loop.trips) (k0_t4 : Fin (k0_t4_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let c1_i32_148_r0 : BitVec 32 := 1#32
  let arg17_r0 : BitVec 32 := Scf.iv c1_i32_146_r0 c1_i32_148_r0 k0_t4
  let v260_r0 : BitVec 32 := Scalar.addi v123_r0 arg17_r0
  let c1_i32_171_r0 : BitVec 32 := 1#32
  let v293_r0 : BitVec 32 := Scalar.addi v260_r0 c1_i32_171_r0
  let c7_i32_172_r0 : BitVec 32 := 7#32
  let v294_r0 : BitVec 32 := Scalar.andi v293_r0 c7_i32_172_r0
  let v299_r0 : Index := Scalar.indexCast v294_r0
  let c3_176_r0 : Index := 3#32
  let c0_177_r0 : Index := 0#32
  let c0_178_r0 : Index := 0#32
  ![v299_r0.toNat, 3, 0, 0]
def k0_off34 (v0 : BitVec 32) (k0_t4 : Fin (k0_t4_loop v0).trips) (c0_i32_180_r0 : BitVec 32) : Fin 3 → Nat :=
  let c2_i32_179_r0 : BitVec 32 := 2#32
  let c1_i32_146_r0 : BitVec 32 := 1#32
  let c1_i32_148_r0 : BitVec 32 := 1#32
  let arg17_r0 : BitVec 32 := Scf.iv c1_i32_146_r0 c1_i32_148_r0 k0_t4
  let v304_r0 : BitVec 32 := Scalar.muli c2_i32_179_r0 arg17_r0
  let v305_r0 : BitVec 32 := Scalar.addi v304_r0 c0_i32_180_r0
  let v306_r0 : Index := Scalar.indexCast v305_r0
  let c128_181_r0 : Index := 128#32
  let c0_182_r0 : Index := 0#32
  ![v306_r0.toNat, 128, 0]
def k0_off35 (v0 : BitVec 32) (k0_t4 : Fin (k0_t4_loop v0).trips) (c0_i32_188_r0 : BitVec 32) : Fin 3 → Nat :=
  let c2_i32_187_r0 : BitVec 32 := 2#32
  let c1_i32_146_r0 : BitVec 32 := 1#32
  let c1_i32_148_r0 : BitVec 32 := 1#32
  let arg17_r0 : BitVec 32 := Scf.iv c1_i32_146_r0 c1_i32_148_r0 k0_t4
  let v317_r0 : BitVec 32 := Scalar.muli c2_i32_187_r0 arg17_r0
  let v318_r0 : BitVec 32 := Scalar.addi v317_r0 c0_i32_188_r0
  let v319_r0 : Index := Scalar.indexCast v318_r0
  let c256_189_r0 : Index := 256#32
  let c0_190_r0 : Index := 0#32
  ![v319_r0.toNat, 256, 0]
def k0_off36 (v0 : BitVec 32) (k0_t4 : Fin (k0_t4_loop v0).trips) (c0_i32_196_r0 : BitVec 32) : Fin 3 → Nat :=
  let c2_i32_195_r0 : BitVec 32 := 2#32
  let c1_i32_146_r0 : BitVec 32 := 1#32
  let c1_i32_148_r0 : BitVec 32 := 1#32
  let arg17_r0 : BitVec 32 := Scf.iv c1_i32_146_r0 c1_i32_148_r0 k0_t4
  let v330_r0 : BitVec 32 := Scalar.muli c2_i32_195_r0 arg17_r0
  let v331_r0 : BitVec 32 := Scalar.addi v330_r0 c0_i32_196_r0
  let v332_r0 : Index := Scalar.indexCast v331_r0
  let c384_197_r0 : Index := 384#32
  let c0_198_r0 : Index := 0#32
  ![v332_r0.toNat, 384, 0]
@[reducible] def k0_t5_loop (v0 : BitVec 32) : Scf.Loop 32 :=
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let v251_r0 : BitVec 32 := Scalar.addi c1_i32_146_r0 v250_r0
  let c1_i32_149_r0 : BitVec 32 := 1#32
  ⟨v254_r0, v251_r0, c1_i32_149_r0⟩
def k0_mult9 : BitVec 32 :=
  let c0_i32_210_r0 : BitVec 32 := 0#32
  c0_i32_210_r0
def k0_off37 (v0 : BitVec 32) (k0_t2 : Fin k0_t2_loop.trips) (k0_t3 : Fin k0_t3_loop.trips) (k0_t5 : Fin (k0_t5_loop v0).trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c1_i32_208_r0 : BitVec 32 := 1#32
  let v350_r0 : BitVec 32 := Scalar.addi v260_r0 c1_i32_208_r0
  let c7_i32_209_r0 : BitVec 32 := 7#32
  let v351_r0 : BitVec 32 := Scalar.andi v350_r0 c7_i32_209_r0
  ![v351_r0.toNat]
def k0_cond7 (v0 : BitVec 32) (k0_t2 : Fin k0_t2_loop.trips) (k0_t3 : Fin k0_t3_loop.trips) (k0_t5 : Fin (k0_t5_loop v0).trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c1_i32_152_r0 : BitVec 32 := 1#32
  let v261_r0 : BitVec 32 := Scalar.addi v260_r0 c1_i32_152_r0
  let c192_i32 : BitVec 32 := 192#32
  let v3 : BitVec 32 := Scalar.muli c192_i32 v0
  let v262_r0 : BitVec 1 := Scalar.cmpi .slt v261_r0 v3
  let v263_r0 : BitVec 32 := Scalar.extui v262_r0
  let c0_i32_153_r0 : BitVec 32 := 0#32
  let v264_r0 : BitVec 1 := Scalar.cmpi .ne v263_r0 c0_i32_153_r0
  v264_r0

def k0_off38 (v0 : BitVec 32) (k0_t2 : Fin k0_t2_loop.trips) (k0_t3 : Fin k0_t3_loop.trips) (k0_t5 : Fin (k0_t5_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c1_i32_208_r0 : BitVec 32 := 1#32
  let v350_r0 : BitVec 32 := Scalar.addi v260_r0 c1_i32_208_r0
  let c7_i32_209_r0 : BitVec 32 := 7#32
  let v351_r0 : BitVec 32 := Scalar.andi v350_r0 c7_i32_209_r0
  let c0_i32_211_r0 : BitVec 32 := 0#32
  let c0_i32_212_r0 : BitVec 32 := 0#32
  let c0_i32_213_r0 : BitVec 32 := 0#32
  ![v351_r0.toNat, 0, 0, 0]
def k0_mult10 (arg19_r0 : BitVec 32) : BitVec 32 :=
  let c128_i32_r0 : BitVec 32 := 128#32
  let v352_r0 : BitVec 32 := Scalar.muli arg19_r0 c128_i32_r0
  v352_r0
def k0_cond8 (v0 : BitVec 32) (k0_t2 : Fin k0_t2_loop.trips) (k0_t3 : Fin k0_t3_loop.trips) (k0_t5 : Fin (k0_t5_loop v0).trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c8_i32_154_r0 : BitVec 32 := 8#32
  let v265_r0 : BitVec 32 := Scalar.addi v260_r0 c8_i32_154_r0
  let c192_i32 : BitVec 32 := 192#32
  let v3 : BitVec 32 := Scalar.muli c192_i32 v0
  let v266_r0 : BitVec 1 := Scalar.cmpi .slt v265_r0 v3
  let v267_r0 : BitVec 32 := Scalar.extui v266_r0
  let c0_i32_155_r0 : BitVec 32 := 0#32
  let v268_r0 : BitVec 1 := Scalar.cmpi .ne v267_r0 c0_i32_155_r0
  v268_r0

def k0_off39 (v0 : BitVec 32) (k0_t2 : Fin k0_t2_loop.trips) (k0_t3 : Fin k0_t3_loop.trips) (k0_t5 : Fin (k0_t5_loop v0).trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c7_i32_208_r0 : BitVec 32 := 7#32
  let v350_r0 : BitVec 32 := Scalar.andi v260_r0 c7_i32_208_r0
  ![v350_r0.toNat]
def k0_off40 (v0 : BitVec 32) (k0_t2 : Fin k0_t2_loop.trips) (k0_t3 : Fin k0_t3_loop.trips) (k0_t5 : Fin (k0_t5_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c7_i32_208_r0 : BitVec 32 := 7#32
  let v350_r0 : BitVec 32 := Scalar.andi v260_r0 c7_i32_208_r0
  let c0_i32_209_r0 : BitVec 32 := 0#32
  let c0_i32_210_r0 : BitVec 32 := 0#32
  let c0_i32_211_r0 : BitVec 32 := 0#32
  ![v350_r0.toNat, 0, 0, 0]
def k0_off41 (arg18_r0 : BitVec 32) (arg19_r0 : BitVec 32) : Fin 3 → Nat :=
  let c4_i32_r0 : BitVec 32 := 4#32
  let v351_r0 : BitVec 32 := Scalar.muli arg18_r0 c4_i32_r0
  let c128_i32_r0 : BitVec 32 := 128#32
  let v352_r0 : BitVec 32 := Scalar.muli arg19_r0 c128_i32_r0
  let v353_r0 : BitVec 32 := v352_r0
  let c0_i32_212_r0 : BitVec 32 := 0#32
  ![v351_r0.toNat, v353_r0.toNat, 0]

def k0_chk5 (v0 : BitVec 32) (k0_t2 : Fin k0_t2_loop.trips) (k0_t3 : Fin k0_t3_loop.trips) (k0_t5 : Fin (k0_t5_loop v0).trips) (arg18_r0 : BitVec 32) (arg19_r0 : BitVec 32) : Prop :=
  (∀ (k0_h8 : k0_cond8 v0 k0_t2 k0_t3 k0_t5 = 1#1), 128 ∣ (k0_mult10 arg19_r0).toNat) ∧
  (∀ (k0_h8 : k0_cond8 v0 k0_t2 k0_t3 k0_t5 = 1#1), ∀ a, (k0_off41 arg18_r0 arg19_r0) a + S4x128x128.size a ≤ S48x5120x128.size a)
theorem k0_mult10_dvd : ∀ (v0 : BitVec 32) (k0_t2 : Fin k0_t2_loop.trips) (k0_t3 : Fin k0_t3_loop.trips) (k0_t5 : Fin (k0_t5_loop v0).trips) (arg18_r0 : BitVec 32) (arg19_r0 : BitVec 32) (k0_hw5 : k0_chk5 v0 k0_t2 k0_t3 k0_t5 arg18_r0 arg19_r0), ∀ (k0_h8 : k0_cond8 v0 k0_t2 k0_t3 k0_t5 = 1#1), 128 ∣ (k0_mult10 arg19_r0).toNat := fun v0 k0_t2 k0_t3 k0_t5 arg18_r0 arg19_r0 k0_hw5 k0_h8 => k0_hw5.1 k0_h8
theorem k0_off41_inb : ∀ (v0 : BitVec 32) (k0_t2 : Fin k0_t2_loop.trips) (k0_t3 : Fin k0_t3_loop.trips) (k0_t5 : Fin (k0_t5_loop v0).trips) (arg18_r0 : BitVec 32) (arg19_r0 : BitVec 32) (k0_hw5 : k0_chk5 v0 k0_t2 k0_t3 k0_t5 arg18_r0 arg19_r0), ∀ (k0_h8 : k0_cond8 v0 k0_t2 k0_t3 k0_t5 = 1#1), ∀ a, (k0_off41 arg18_r0 arg19_r0) a + S4x128x128.size a ≤ S48x5120x128.size a := fun v0 k0_t2 k0_t3 k0_t5 arg18_r0 arg19_r0 k0_hw5 k0_h8 => k0_hw5.2 k0_h8

def k0_off42 (v0 : BitVec 32) (k0_t5 : Fin (k0_t5_loop v0).trips) (c0_i32_156_r0 : BitVec 32) : Fin 3 → Nat :=
  let c2_i32_r0 : BitVec 32 := 2#32
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v269_r0 : BitVec 32 := Scalar.muli c2_i32_r0 arg17_r0
  let v270_r0 : BitVec 32 := Scalar.addi v269_r0 c0_i32_156_r0
  let v271_r0 : Index := Scalar.indexCast v270_r0
  let c0_157_r0 : Index := 0#32
  let c0_158_r0 : Index := 0#32
  ![v271_r0.toNat, 0, 0]
def k0_off43 (v0 : BitVec 32) (k0_t2 : Fin k0_t2_loop.trips) (k0_t3 : Fin k0_t3_loop.trips) (k0_t5 : Fin (k0_t5_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c1_i32_163_r0 : BitVec 32 := 1#32
  let v282_r0 : BitVec 32 := Scalar.addi v260_r0 c1_i32_163_r0
  let c7_i32_164_r0 : BitVec 32 := 7#32
  let v283_r0 : BitVec 32 := Scalar.andi v282_r0 c7_i32_164_r0
  let v284_r0 : Index := Scalar.indexCast v283_r0
  let c0_165_r0 : Index := 0#32
  let c0_166_r0 : Index := 0#32
  let c0_167_r0 : Index := 0#32
  ![v284_r0.toNat, 0, 0, 0]
def k0_off44 (v0 : BitVec 32) (k0_t2 : Fin k0_t2_loop.trips) (k0_t3 : Fin k0_t3_loop.trips) (k0_t5 : Fin (k0_t5_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c1_i32_163_r0 : BitVec 32 := 1#32
  let v282_r0 : BitVec 32 := Scalar.addi v260_r0 c1_i32_163_r0
  let c7_i32_164_r0 : BitVec 32 := 7#32
  let v283_r0 : BitVec 32 := Scalar.andi v282_r0 c7_i32_164_r0
  let v288_r0 : Index := Scalar.indexCast v283_r0
  let c1_168_r0 : Index := 1#32
  let c0_169_r0 : Index := 0#32
  let c0_170_r0 : Index := 0#32
  ![v288_r0.toNat, 1, 0, 0]
def k0_off45 (v0 : BitVec 32) (k0_t2 : Fin k0_t2_loop.trips) (k0_t3 : Fin k0_t3_loop.trips) (k0_t5 : Fin (k0_t5_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c1_i32_171_r0 : BitVec 32 := 1#32
  let v293_r0 : BitVec 32 := Scalar.addi v260_r0 c1_i32_171_r0
  let c7_i32_172_r0 : BitVec 32 := 7#32
  let v294_r0 : BitVec 32 := Scalar.andi v293_r0 c7_i32_172_r0
  let v295_r0 : Index := Scalar.indexCast v294_r0
  let c2_173_r0 : Index := 2#32
  let c0_174_r0 : Index := 0#32
  let c0_175_r0 : Index := 0#32
  ![v295_r0.toNat, 2, 0, 0]
def k0_off46 (v0 : BitVec 32) (k0_t2 : Fin k0_t2_loop.trips) (k0_t3 : Fin k0_t3_loop.trips) (k0_t5 : Fin (k0_t5_loop v0).trips) : Fin 4 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let v123_r0 : BitVec 32 := Scalar.muli v122_r0 v0
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v260_r0 : BitVec 32 := Scalar.addi v123_r0 arg17_r0
  let c1_i32_171_r0 : BitVec 32 := 1#32
  let v293_r0 : BitVec 32 := Scalar.addi v260_r0 c1_i32_171_r0
  let c7_i32_172_r0 : BitVec 32 := 7#32
  let v294_r0 : BitVec 32 := Scalar.andi v293_r0 c7_i32_172_r0
  let v299_r0 : Index := Scalar.indexCast v294_r0
  let c3_176_r0 : Index := 3#32
  let c0_177_r0 : Index := 0#32
  let c0_178_r0 : Index := 0#32
  ![v299_r0.toNat, 3, 0, 0]
def k0_off47 (v0 : BitVec 32) (k0_t5 : Fin (k0_t5_loop v0).trips) (c0_i32_180_r0 : BitVec 32) : Fin 3 → Nat :=
  let c2_i32_179_r0 : BitVec 32 := 2#32
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v304_r0 : BitVec 32 := Scalar.muli c2_i32_179_r0 arg17_r0
  let v305_r0 : BitVec 32 := Scalar.addi v304_r0 c0_i32_180_r0
  let v306_r0 : Index := Scalar.indexCast v305_r0
  let c128_181_r0 : Index := 128#32
  let c0_182_r0 : Index := 0#32
  ![v306_r0.toNat, 128, 0]
def k0_off48 (v0 : BitVec 32) (k0_t5 : Fin (k0_t5_loop v0).trips) (c0_i32_188_r0 : BitVec 32) : Fin 3 → Nat :=
  let c2_i32_187_r0 : BitVec 32 := 2#32
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v317_r0 : BitVec 32 := Scalar.muli c2_i32_187_r0 arg17_r0
  let v318_r0 : BitVec 32 := Scalar.addi v317_r0 c0_i32_188_r0
  let v319_r0 : Index := Scalar.indexCast v318_r0
  let c256_189_r0 : Index := 256#32
  let c0_190_r0 : Index := 0#32
  ![v319_r0.toNat, 256, 0]
def k0_off49 (v0 : BitVec 32) (k0_t5 : Fin (k0_t5_loop v0).trips) (c0_i32_196_r0 : BitVec 32) : Fin 3 → Nat :=
  let c2_i32_195_r0 : BitVec 32 := 2#32
  let c1_i32_146_r0 : BitVec 32 := 1#32
  let v250_r0 : BitVec 32 := Scalar.subi v0 c1_i32_146_r0
  let c1_i32_147_r0 : BitVec 32 := 1#32
  let v252_r0 : BitVec 32 := Scalar.divsi v250_r0 c1_i32_147_r0
  let v253_r0 : BitVec 32 := Scalar.muli v252_r0 c1_i32_147_r0
  let v254_r0 : BitVec 32 := Scalar.addi c1_i32_146_r0 v253_r0
  let c1_i32_149_r0 : BitVec 32 := 1#32
  let arg17_r0 : BitVec 32 := Scf.iv v254_r0 c1_i32_149_r0 k0_t5
  let v330_r0 : BitVec 32 := Scalar.muli c2_i32_195_r0 arg17_r0
  let v331_r0 : BitVec 32 := Scalar.addi v330_r0 c0_i32_196_r0
  let v332_r0 : Index := Scalar.indexCast v331_r0
  let c384_197_r0 : Index := 384#32
  let c0_198_r0 : Index := 0#32
  ![v332_r0.toNat, 384, 0]

def k0_chk2_0 (v0 : BitVec 32) : Prop :=
  (∀ (k0_t2 : Fin k0_t2_loop.trips) (k0_t3 : Fin k0_t3_loop.trips), ∀ (k0_h3 : k0_cond3 v0 k0_t2 k0_t3 = 1#1), ∀ a, (k0_off7 v0 k0_t2 k0_t3) a + S1.size a ≤ S8.size a) ∧
  (∀ (k0_t2 : Fin k0_t2_loop.trips) (k0_t3 : Fin k0_t3_loop.trips), ∀ (k0_h3 : k0_cond3 v0 k0_t2 k0_t3 = 1#1), ∀ a, (k0_off8 v0 k0_t2 k0_t3) a + S1x4x128x128.size a ≤ S8x4x128x128.size a) ∧
  (∀ (k0_t2 : Fin k0_t2_loop.trips) (k0_t3 : Fin k0_t3_loop.trips), ∀ (k0_h4 : k0_cond4 v0 k0_t2 k0_t3 = 1#1), ∀ a, (k0_off9 v0 k0_t2 k0_t3) a + S1.size a ≤ S8.size a) ∧
  (∀ (k0_t2 : Fin k0_t2_loop.trips) (k0_t3 : Fin k0_t3_loop.trips), ∀ (k0_h4 : k0_cond4 v0 k0_t2 k0_t3 = 1#1), ∀ a, (k0_off10 v0 k0_t2 k0_t3) a + S1x4x128x128.size a ≤ S8x4x128x128.size a) ∧
  (∀ (k0_t2 : Fin k0_t2_loop.trips) (k0_t3 : Fin k0_t3_loop.trips), ∀ a, (k0_off13 v0 k0_t2 k0_t3) a + S1x1x128x128.size a ≤ S8x4x128x128.size a) ∧
  (∀ (k0_t2 : Fin k0_t2_loop.trips) (k0_t3 : Fin k0_t3_loop.trips), ∀ a, (k0_off14 v0 k0_t2 k0_t3) a + S1x1x128x128.size a ≤ S8x4x128x128.size a) ∧
  (∀ (k0_t2 : Fin k0_t2_loop.trips) (k0_t3 : Fin k0_t3_loop.trips), ∀ a, (k0_off16 v0 k0_t2 k0_t3) a + S1x1x128x128.size a ≤ S8x4x128x128.size a) ∧
  (∀ (k0_t2 : Fin k0_t2_loop.trips) (k0_t3 : Fin k0_t3_loop.trips), ∀ a, (k0_off17 v0 k0_t2 k0_t3) a + S1x1x128x128.size a ≤ S8x4x128x128.size a) ∧
  ((k0_t4_loop v0).OK) ∧
  (∀ (k0_t2 : Fin k0_t2_loop.trips) (k0_t3 : Fin k0_t3_loop.trips) (k0_t4 : Fin (k0_t4_loop v0).trips), ∀ (k0_h5 : k0_cond5 v0 k0_t2 k0_t3 k0_t4 = 1#1), ∀ a, (k0_off24 v0 k0_t2 k0_t3 k0_t4) a + S1.size a ≤ S8.size a) ∧
  (∀ (k0_t2 : Fin k0_t2_loop.trips) (k0_t3 : Fin k0_t3_loop.trips) (k0_t4 : Fin (k0_t4_loop v0).trips), ∀ (k0_h5 : k0_cond5 v0 k0_t2 k0_t3 k0_t4 = 1#1), ∀ a, (k0_off25 v0 k0_t2 k0_t3 k0_t4) a + S1x4x128x128.size a ≤ S8x4x128x128.size a) ∧
  (∀ (k0_t2 : Fin k0_t2_loop.trips) (k0_t3 : Fin k0_t3_loop.trips) (k0_t4 : Fin (k0_t4_loop v0).trips), ∀ (k0_h6 : k0_cond6 v0 k0_t2 k0_t3 k0_t4 = 1#1), ∀ a, (k0_off26 v0 k0_t2 k0_t3 k0_t4) a + S1.size a ≤ S8.size a) ∧
  (∀ (k0_t2 : Fin k0_t2_loop.trips) (k0_t3 : Fin k0_t3_loop.trips) (k0_t4 : Fin (k0_t4_loop v0).trips), ∀ (k0_h6 : k0_cond6 v0 k0_t2 k0_t3 k0_t4 = 1#1), ∀ a, (k0_off27 v0 k0_t2 k0_t3 k0_t4) a + S1x4x128x128.size a ≤ S8x4x128x128.size a) ∧
  (∀ k0_t4 : Fin (k0_t4_loop v0).trips, ∀ (r : Fin 2), ∀ a, (k0_off29 v0 k0_t4 (BitVec.ofNat 32 r.val)) a + S1x128x128.size a ≤ S80x512x128.size a) ∧
  (∀ (k0_t2 : Fin k0_t2_loop.trips) (k0_t3 : Fin k0_t3_loop.trips) (k0_t4 : Fin (k0_t4_loop v0).trips), ∀ a, (k0_off30 v0 k0_t2 k0_t3 k0_t4) a + S1x1x128x128.size a ≤ S8x4x128x128.size a) ∧
  (∀ (k0_t2 : Fin k0_t2_loop.trips) (k0_t3 : Fin k0_t3_loop.trips) (k0_t4 : Fin (k0_t4_loop v0).trips), ∀ a, (k0_off31 v0 k0_t2 k0_t3 k0_t4) a + S1x1x128x128.size a ≤ S8x4x128x128.size a) ∧
  (∀ (k0_t2 : Fin k0_t2_loop.trips) (k0_t3 : Fin k0_t3_loop.trips) (k0_t4 : Fin (k0_t4_loop v0).trips), ∀ a, (k0_off32 v0 k0_t2 k0_t3 k0_t4) a + S1x1x128x128.size a ≤ S8x4x128x128.size a) ∧
  (∀ (k0_t2 : Fin k0_t2_loop.trips) (k0_t3 : Fin k0_t3_loop.trips) (k0_t4 : Fin (k0_t4_loop v0).trips), ∀ a, (k0_off33 v0 k0_t2 k0_t3 k0_t4) a + S1x1x128x128.size a ≤ S8x4x128x128.size a) ∧
  (∀ k0_t4 : Fin (k0_t4_loop v0).trips, ∀ (r : Fin 2), ∀ a, (k0_off34 v0 k0_t4 (BitVec.ofNat 32 r.val)) a + S1x128x128.size a ≤ S80x512x128.size a) ∧
  (∀ k0_t4 : Fin (k0_t4_loop v0).trips, ∀ (r : Fin 2), ∀ a, (k0_off35 v0 k0_t4 (BitVec.ofNat 32 r.val)) a + S1x128x128.size a ≤ S80x512x128.size a) ∧
  (∀ k0_t4 : Fin (k0_t4_loop v0).trips, ∀ (r : Fin 2), ∀ a, (k0_off36 v0 k0_t4 (BitVec.ofNat 32 r.val)) a + S1x128x128.size a ≤ S80x512x128.size a) ∧
  ((k0_t5_loop v0).OK) ∧
  (∀ (k0_t2 : Fin k0_t2_loop.trips) (k0_t3 : Fin k0_t3_loop.trips) (k0_t5 : Fin (k0_t5_loop v0).trips), ∀ (k0_h7 : k0_cond7 v0 k0_t2 k0_t3 k0_t5 = 1#1), ∀ a, (k0_off37 v0 k0_t2 k0_t3 k0_t5) a + S1.size a ≤ S8.size a) ∧
  (∀ (k0_t2 : Fin k0_t2_loop.trips) (k0_t3 : Fin k0_t3_loop.trips) (k0_t5 : Fin (k0_t5_loop v0).trips), ∀ (k0_h7 : k0_cond7 v0 k0_t2 k0_t3 k0_t5 = 1#1), ∀ a, (k0_off38 v0 k0_t2 k0_t3 k0_t5) a + S1x4x128x128.size a ≤ S8x4x128x128.size a) ∧
  (∀ (k0_t2 : Fin k0_t2_loop.trips) (k0_t3 : Fin k0_t3_loop.trips) (k0_t5 : Fin (k0_t5_loop v0).trips), ∀ (k0_h8 : k0_cond8 v0 k0_t2 k0_t3 k0_t5 = 1#1), ∀ a, (k0_off39 v0 k0_t2 k0_t3 k0_t5) a + S1.size a ≤ S8.size a) ∧
  (∀ (k0_t2 : Fin k0_t2_loop.trips) (k0_t3 : Fin k0_t3_loop.trips) (k0_t5 : Fin (k0_t5_loop v0).trips), ∀ (k0_h8 : k0_cond8 v0 k0_t2 k0_t3 k0_t5 = 1#1), ∀ a, (k0_off40 v0 k0_t2 k0_t3 k0_t5) a + S1x4x128x128.size a ≤ S8x4x128x128.size a) ∧
  (∀ k0_t5 : Fin (k0_t5_loop v0).trips, ∀ (r : Fin 2), ∀ a, (k0_off42 v0 k0_t5 (BitVec.ofNat 32 r.val)) a + S1x128x128.size a ≤ S80x512x128.size a) ∧
  (∀ (k0_t2 : Fin k0_t2_loop.trips) (k0_t3 : Fin k0_t3_loop.trips) (k0_t5 : Fin (k0_t5_loop v0).trips), ∀ a, (k0_off43 v0 k0_t2 k0_t3 k0_t5) a + S1x1x128x128.size a ≤ S8x4x128x128.size a) ∧
  (∀ (k0_t2 : Fin k0_t2_loop.trips) (k0_t3 : Fin k0_t3_loop.trips) (k0_t5 : Fin (k0_t5_loop v0).trips), ∀ a, (k0_off44 v0 k0_t2 k0_t3 k0_t5) a + S1x1x128x128.size a ≤ S8x4x128x128.size a) ∧
  (∀ (k0_t2 : Fin k0_t2_loop.trips) (k0_t3 : Fin k0_t3_loop.trips) (k0_t5 : Fin (k0_t5_loop v0).trips), ∀ a, (k0_off45 v0 k0_t2 k0_t3 k0_t5) a + S1x1x128x128.size a ≤ S8x4x128x128.size a) ∧
  (∀ (k0_t2 : Fin k0_t2_loop.trips) (k0_t3 : Fin k0_t3_loop.trips) (k0_t5 : Fin (k0_t5_loop v0).trips), ∀ a, (k0_off46 v0 k0_t2 k0_t3 k0_t5) a + S1x1x128x128.size a ≤ S8x4x128x128.size a) ∧
  (∀ k0_t5 : Fin (k0_t5_loop v0).trips, ∀ (r : Fin 2), ∀ a, (k0_off47 v0 k0_t5 (BitVec.ofNat 32 r.val)) a + S1x128x128.size a ≤ S80x512x128.size a)
def k0_chk2_1 (v0 : BitVec 32) : Prop :=
  (∀ k0_t5 : Fin (k0_t5_loop v0).trips, ∀ (r : Fin 2), ∀ a, (k0_off48 v0 k0_t5 (BitVec.ofNat 32 r.val)) a + S1x128x128.size a ≤ S80x512x128.size a) ∧
  (∀ k0_t5 : Fin (k0_t5_loop v0).trips, ∀ (r : Fin 2), ∀ a, (k0_off49 v0 k0_t5 (BitVec.ofNat 32 r.val)) a + S1x128x128.size a ≤ S80x512x128.size a)
def k0_chk2 (v0 : BitVec 32) : Prop :=
  k0_chk2_0 v0 ∧
  k0_chk2_1 v0
theorem k0_off7_inb : ∀ (v0 : BitVec 32) (k0_hw2 : k0_chk2 v0) (k0_t2 : Fin k0_t2_loop.trips) (k0_t3 : Fin k0_t3_loop.trips), ∀ (k0_h3 : k0_cond3 v0 k0_t2 k0_t3 = 1#1), ∀ a, (k0_off7 v0 k0_t2 k0_t3) a + S1.size a ≤ S8.size a := fun v0 k0_hw2 k0_t2 k0_t3 k0_h3 => k0_hw2.1.1 k0_t2 k0_t3 k0_h3
theorem k0_off8_inb : ∀ (v0 : BitVec 32) (k0_hw2 : k0_chk2 v0) (k0_t2 : Fin k0_t2_loop.trips) (k0_t3 : Fin k0_t3_loop.trips), ∀ (k0_h3 : k0_cond3 v0 k0_t2 k0_t3 = 1#1), ∀ a, (k0_off8 v0 k0_t2 k0_t3) a + S1x4x128x128.size a ≤ S8x4x128x128.size a := fun v0 k0_hw2 k0_t2 k0_t3 k0_h3 => k0_hw2.1.2.1 k0_t2 k0_t3 k0_h3
theorem k0_off9_inb : ∀ (v0 : BitVec 32) (k0_hw2 : k0_chk2 v0) (k0_t2 : Fin k0_t2_loop.trips) (k0_t3 : Fin k0_t3_loop.trips), ∀ (k0_h4 : k0_cond4 v0 k0_t2 k0_t3 = 1#1), ∀ a, (k0_off9 v0 k0_t2 k0_t3) a + S1.size a ≤ S8.size a := fun v0 k0_hw2 k0_t2 k0_t3 k0_h4 => k0_hw2.1.2.2.1 k0_t2 k0_t3 k0_h4
theorem k0_off10_inb : ∀ (v0 : BitVec 32) (k0_hw2 : k0_chk2 v0) (k0_t2 : Fin k0_t2_loop.trips) (k0_t3 : Fin k0_t3_loop.trips), ∀ (k0_h4 : k0_cond4 v0 k0_t2 k0_t3 = 1#1), ∀ a, (k0_off10 v0 k0_t2 k0_t3) a + S1x4x128x128.size a ≤ S8x4x128x128.size a := fun v0 k0_hw2 k0_t2 k0_t3 k0_h4 => k0_hw2.1.2.2.2.1 k0_t2 k0_t3 k0_h4
theorem k0_off13_inb : ∀ (v0 : BitVec 32) (k0_hw2 : k0_chk2 v0) (k0_t2 : Fin k0_t2_loop.trips) (k0_t3 : Fin k0_t3_loop.trips), ∀ a, (k0_off13 v0 k0_t2 k0_t3) a + S1x1x128x128.size a ≤ S8x4x128x128.size a := fun v0 k0_hw2 k0_t2 k0_t3 => k0_hw2.1.2.2.2.2.1 k0_t2 k0_t3
theorem k0_off14_inb : ∀ (v0 : BitVec 32) (k0_hw2 : k0_chk2 v0) (k0_t2 : Fin k0_t2_loop.trips) (k0_t3 : Fin k0_t3_loop.trips), ∀ a, (k0_off14 v0 k0_t2 k0_t3) a + S1x1x128x128.size a ≤ S8x4x128x128.size a := fun v0 k0_hw2 k0_t2 k0_t3 => k0_hw2.1.2.2.2.2.2.1 k0_t2 k0_t3
theorem k0_off16_inb : ∀ (v0 : BitVec 32) (k0_hw2 : k0_chk2 v0) (k0_t2 : Fin k0_t2_loop.trips) (k0_t3 : Fin k0_t3_loop.trips), ∀ a, (k0_off16 v0 k0_t2 k0_t3) a + S1x1x128x128.size a ≤ S8x4x128x128.size a := fun v0 k0_hw2 k0_t2 k0_t3 => k0_hw2.1.2.2.2.2.2.2.1 k0_t2 k0_t3
theorem k0_off17_inb : ∀ (v0 : BitVec 32) (k0_hw2 : k0_chk2 v0) (k0_t2 : Fin k0_t2_loop.trips) (k0_t3 : Fin k0_t3_loop.trips), ∀ a, (k0_off17 v0 k0_t2 k0_t3) a + S1x1x128x128.size a ≤ S8x4x128x128.size a := fun v0 k0_hw2 k0_t2 k0_t3 => k0_hw2.1.2.2.2.2.2.2.2.1 k0_t2 k0_t3
theorem k0_t4_ok : ∀ (v0 : BitVec 32) (k0_hw2 : k0_chk2 v0), (k0_t4_loop v0).OK := fun v0 k0_hw2 => k0_hw2.1.2.2.2.2.2.2.2.2.1
theorem k0_off24_inb : ∀ (v0 : BitVec 32) (k0_hw2 : k0_chk2 v0) (k0_t2 : Fin k0_t2_loop.trips) (k0_t3 : Fin k0_t3_loop.trips) (k0_t4 : Fin (k0_t4_loop v0).trips), ∀ (k0_h5 : k0_cond5 v0 k0_t2 k0_t3 k0_t4 = 1#1), ∀ a, (k0_off24 v0 k0_t2 k0_t3 k0_t4) a + S1.size a ≤ S8.size a := fun v0 k0_hw2 k0_t2 k0_t3 k0_t4 k0_h5 => k0_hw2.1.2.2.2.2.2.2.2.2.2.1 k0_t2 k0_t3 k0_t4 k0_h5
theorem k0_off25_inb : ∀ (v0 : BitVec 32) (k0_hw2 : k0_chk2 v0) (k0_t2 : Fin k0_t2_loop.trips) (k0_t3 : Fin k0_t3_loop.trips) (k0_t4 : Fin (k0_t4_loop v0).trips), ∀ (k0_h5 : k0_cond5 v0 k0_t2 k0_t3 k0_t4 = 1#1), ∀ a, (k0_off25 v0 k0_t2 k0_t3 k0_t4) a + S1x4x128x128.size a ≤ S8x4x128x128.size a := fun v0 k0_hw2 k0_t2 k0_t3 k0_t4 k0_h5 => k0_hw2.1.2.2.2.2.2.2.2.2.2.2.1 k0_t2 k0_t3 k0_t4 k0_h5
theorem k0_off26_inb : ∀ (v0 : BitVec 32) (k0_hw2 : k0_chk2 v0) (k0_t2 : Fin k0_t2_loop.trips) (k0_t3 : Fin k0_t3_loop.trips) (k0_t4 : Fin (k0_t4_loop v0).trips), ∀ (k0_h6 : k0_cond6 v0 k0_t2 k0_t3 k0_t4 = 1#1), ∀ a, (k0_off26 v0 k0_t2 k0_t3 k0_t4) a + S1.size a ≤ S8.size a := fun v0 k0_hw2 k0_t2 k0_t3 k0_t4 k0_h6 => k0_hw2.1.2.2.2.2.2.2.2.2.2.2.2.1 k0_t2 k0_t3 k0_t4 k0_h6
theorem k0_off27_inb : ∀ (v0 : BitVec 32) (k0_hw2 : k0_chk2 v0) (k0_t2 : Fin k0_t2_loop.trips) (k0_t3 : Fin k0_t3_loop.trips) (k0_t4 : Fin (k0_t4_loop v0).trips), ∀ (k0_h6 : k0_cond6 v0 k0_t2 k0_t3 k0_t4 = 1#1), ∀ a, (k0_off27 v0 k0_t2 k0_t3 k0_t4) a + S1x4x128x128.size a ≤ S8x4x128x128.size a := fun v0 k0_hw2 k0_t2 k0_t3 k0_t4 k0_h6 => k0_hw2.1.2.2.2.2.2.2.2.2.2.2.2.2.1 k0_t2 k0_t3 k0_t4 k0_h6
theorem k0_off29_inb : ∀ (v0 : BitVec 32) (k0_hw2 : k0_chk2 v0) (k0_t4 : Fin (k0_t4_loop v0).trips), ∀ (r : Fin 2), ∀ a, (k0_off29 v0 k0_t4 (BitVec.ofNat 32 r.val)) a + S1x128x128.size a ≤ S80x512x128.size a := fun v0 k0_hw2 k0_t4 r => k0_hw2.1.2.2.2.2.2.2.2.2.2.2.2.2.2.1 k0_t4 r
theorem k0_off30_inb : ∀ (v0 : BitVec 32) (k0_hw2 : k0_chk2 v0) (k0_t2 : Fin k0_t2_loop.trips) (k0_t3 : Fin k0_t3_loop.trips) (k0_t4 : Fin (k0_t4_loop v0).trips), ∀ a, (k0_off30 v0 k0_t2 k0_t3 k0_t4) a + S1x1x128x128.size a ≤ S8x4x128x128.size a := fun v0 k0_hw2 k0_t2 k0_t3 k0_t4 => k0_hw2.1.2.2.2.2.2.2.2.2.2.2.2.2.2.2.1 k0_t2 k0_t3 k0_t4
theorem k0_off31_inb : ∀ (v0 : BitVec 32) (k0_hw2 : k0_chk2 v0) (k0_t2 : Fin k0_t2_loop.trips) (k0_t3 : Fin k0_t3_loop.trips) (k0_t4 : Fin (k0_t4_loop v0).trips), ∀ a, (k0_off31 v0 k0_t2 k0_t3 k0_t4) a + S1x1x128x128.size a ≤ S8x4x128x128.size a := fun v0 k0_hw2 k0_t2 k0_t3 k0_t4 => k0_hw2.1.2.2.2.2.2.2.2.2.2.2.2.2.2.2.2.1 k0_t2 k0_t3 k0_t4
theorem k0_off32_inb : ∀ (v0 : BitVec 32) (k0_hw2 : k0_chk2 v0) (k0_t2 : Fin k0_t2_loop.trips) (k0_t3 : Fin k0_t3_loop.trips) (k0_t4 : Fin (k0_t4_loop v0).trips), ∀ a, (k0_off32 v0 k0_t2 k0_t3 k0_t4) a + S1x1x128x128.size a ≤ S8x4x128x128.size a := fun v0 k0_hw2 k0_t2 k0_t3 k0_t4 => k0_hw2.1.2.2.2.2.2.2.2.2.2.2.2.2.2.2.2.2.1 k0_t2 k0_t3 k0_t4
theorem k0_off33_inb : ∀ (v0 : BitVec 32) (k0_hw2 : k0_chk2 v0) (k0_t2 : Fin k0_t2_loop.trips) (k0_t3 : Fin k0_t3_loop.trips) (k0_t4 : Fin (k0_t4_loop v0).trips), ∀ a, (k0_off33 v0 k0_t2 k0_t3 k0_t4) a + S1x1x128x128.size a ≤ S8x4x128x128.size a := fun v0 k0_hw2 k0_t2 k0_t3 k0_t4 => k0_hw2.1.2.2.2.2.2.2.2.2.2.2.2.2.2.2.2.2.2.1 k0_t2 k0_t3 k0_t4
theorem k0_off34_inb : ∀ (v0 : BitVec 32) (k0_hw2 : k0_chk2 v0) (k0_t4 : Fin (k0_t4_loop v0).trips), ∀ (r : Fin 2), ∀ a, (k0_off34 v0 k0_t4 (BitVec.ofNat 32 r.val)) a + S1x128x128.size a ≤ S80x512x128.size a := fun v0 k0_hw2 k0_t4 r => k0_hw2.1.2.2.2.2.2.2.2.2.2.2.2.2.2.2.2.2.2.2.1 k0_t4 r
theorem k0_off35_inb : ∀ (v0 : BitVec 32) (k0_hw2 : k0_chk2 v0) (k0_t4 : Fin (k0_t4_loop v0).trips), ∀ (r : Fin 2), ∀ a, (k0_off35 v0 k0_t4 (BitVec.ofNat 32 r.val)) a + S1x128x128.size a ≤ S80x512x128.size a := fun v0 k0_hw2 k0_t4 r => k0_hw2.1.2.2.2.2.2.2.2.2.2.2.2.2.2.2.2.2.2.2.2.1 k0_t4 r
theorem k0_off36_inb : ∀ (v0 : BitVec 32) (k0_hw2 : k0_chk2 v0) (k0_t4 : Fin (k0_t4_loop v0).trips), ∀ (r : Fin 2), ∀ a, (k0_off36 v0 k0_t4 (BitVec.ofNat 32 r.val)) a + S1x128x128.size a ≤ S80x512x128.size a := fun v0 k0_hw2 k0_t4 r => k0_hw2.1.2.2.2.2.2.2.2.2.2.2.2.2.2.2.2.2.2.2.2.2.1 k0_t4 r
theorem k0_t5_ok : ∀ (v0 : BitVec 32) (k0_hw2 : k0_chk2 v0), (k0_t5_loop v0).OK := fun v0 k0_hw2 => k0_hw2.1.2.2.2.2.2.2.2.2.2.2.2.2.2.2.2.2.2.2.2.2.2.1
theorem k0_off37_inb : ∀ (v0 : BitVec 32) (k0_hw2 : k0_chk2 v0) (k0_t2 : Fin k0_t2_loop.trips) (k0_t3 : Fin k0_t3_loop.trips) (k0_t5 : Fin (k0_t5_loop v0).trips), ∀ (k0_h7 : k0_cond7 v0 k0_t2 k0_t3 k0_t5 = 1#1), ∀ a, (k0_off37 v0 k0_t2 k0_t3 k0_t5) a + S1.size a ≤ S8.size a := fun v0 k0_hw2 k0_t2 k0_t3 k0_t5 k0_h7 => k0_hw2.1.2.2.2.2.2.2.2.2.2.2.2.2.2.2.2.2.2.2.2.2.2.2.1 k0_t2 k0_t3 k0_t5 k0_h7
theorem k0_off38_inb : ∀ (v0 : BitVec 32) (k0_hw2 : k0_chk2 v0) (k0_t2 : Fin k0_t2_loop.trips) (k0_t3 : Fin k0_t3_loop.trips) (k0_t5 : Fin (k0_t5_loop v0).trips), ∀ (k0_h7 : k0_cond7 v0 k0_t2 k0_t3 k0_t5 = 1#1), ∀ a, (k0_off38 v0 k0_t2 k0_t3 k0_t5) a + S1x4x128x128.size a ≤ S8x4x128x128.size a := fun v0 k0_hw2 k0_t2 k0_t3 k0_t5 k0_h7 => k0_hw2.1.2.2.2.2.2.2.2.2.2.2.2.2.2.2.2.2.2.2.2.2.2.2.2.1 k0_t2 k0_t3 k0_t5 k0_h7
theorem k0_off39_inb : ∀ (v0 : BitVec 32) (k0_hw2 : k0_chk2 v0) (k0_t2 : Fin k0_t2_loop.trips) (k0_t3 : Fin k0_t3_loop.trips) (k0_t5 : Fin (k0_t5_loop v0).trips), ∀ (k0_h8 : k0_cond8 v0 k0_t2 k0_t3 k0_t5 = 1#1), ∀ a, (k0_off39 v0 k0_t2 k0_t3 k0_t5) a + S1.size a ≤ S8.size a := fun v0 k0_hw2 k0_t2 k0_t3 k0_t5 k0_h8 => k0_hw2.1.2.2.2.2.2.2.2.2.2.2.2.2.2.2.2.2.2.2.2.2.2.2.2.2.1 k0_t2 k0_t3 k0_t5 k0_h8
theorem k0_off40_inb : ∀ (v0 : BitVec 32) (k0_hw2 : k0_chk2 v0) (k0_t2 : Fin k0_t2_loop.trips) (k0_t3 : Fin k0_t3_loop.trips) (k0_t5 : Fin (k0_t5_loop v0).trips), ∀ (k0_h8 : k0_cond8 v0 k0_t2 k0_t3 k0_t5 = 1#1), ∀ a, (k0_off40 v0 k0_t2 k0_t3 k0_t5) a + S1x4x128x128.size a ≤ S8x4x128x128.size a := fun v0 k0_hw2 k0_t2 k0_t3 k0_t5 k0_h8 => k0_hw2.1.2.2.2.2.2.2.2.2.2.2.2.2.2.2.2.2.2.2.2.2.2.2.2.2.2.1 k0_t2 k0_t3 k0_t5 k0_h8
theorem k0_off42_inb : ∀ (v0 : BitVec 32) (k0_hw2 : k0_chk2 v0) (k0_t5 : Fin (k0_t5_loop v0).trips), ∀ (r : Fin 2), ∀ a, (k0_off42 v0 k0_t5 (BitVec.ofNat 32 r.val)) a + S1x128x128.size a ≤ S80x512x128.size a := fun v0 k0_hw2 k0_t5 r => k0_hw2.1.2.2.2.2.2.2.2.2.2.2.2.2.2.2.2.2.2.2.2.2.2.2.2.2.2.2.1 k0_t5 r
theorem k0_off43_inb : ∀ (v0 : BitVec 32) (k0_hw2 : k0_chk2 v0) (k0_t2 : Fin k0_t2_loop.trips) (k0_t3 : Fin k0_t3_loop.trips) (k0_t5 : Fin (k0_t5_loop v0).trips), ∀ a, (k0_off43 v0 k0_t2 k0_t3 k0_t5) a + S1x1x128x128.size a ≤ S8x4x128x128.size a := fun v0 k0_hw2 k0_t2 k0_t3 k0_t5 => k0_hw2.1.2.2.2.2.2.2.2.2.2.2.2.2.2.2.2.2.2.2.2.2.2.2.2.2.2.2.2.1 k0_t2 k0_t3 k0_t5
theorem k0_off44_inb : ∀ (v0 : BitVec 32) (k0_hw2 : k0_chk2 v0) (k0_t2 : Fin k0_t2_loop.trips) (k0_t3 : Fin k0_t3_loop.trips) (k0_t5 : Fin (k0_t5_loop v0).trips), ∀ a, (k0_off44 v0 k0_t2 k0_t3 k0_t5) a + S1x1x128x128.size a ≤ S8x4x128x128.size a := fun v0 k0_hw2 k0_t2 k0_t3 k0_t5 => k0_hw2.1.2.2.2.2.2.2.2.2.2.2.2.2.2.2.2.2.2.2.2.2.2.2.2.2.2.2.2.2.1 k0_t2 k0_t3 k0_t5
theorem k0_off45_inb : ∀ (v0 : BitVec 32) (k0_hw2 : k0_chk2 v0) (k0_t2 : Fin k0_t2_loop.trips) (k0_t3 : Fin k0_t3_loop.trips) (k0_t5 : Fin (k0_t5_loop v0).trips), ∀ a, (k0_off45 v0 k0_t2 k0_t3 k0_t5) a + S1x1x128x128.size a ≤ S8x4x128x128.size a := fun v0 k0_hw2 k0_t2 k0_t3 k0_t5 => k0_hw2.1.2.2.2.2.2.2.2.2.2.2.2.2.2.2.2.2.2.2.2.2.2.2.2.2.2.2.2.2.2.1 k0_t2 k0_t3 k0_t5
theorem k0_off46_inb : ∀ (v0 : BitVec 32) (k0_hw2 : k0_chk2 v0) (k0_t2 : Fin k0_t2_loop.trips) (k0_t3 : Fin k0_t3_loop.trips) (k0_t5 : Fin (k0_t5_loop v0).trips), ∀ a, (k0_off46 v0 k0_t2 k0_t3 k0_t5) a + S1x1x128x128.size a ≤ S8x4x128x128.size a := fun v0 k0_hw2 k0_t2 k0_t3 k0_t5 => k0_hw2.1.2.2.2.2.2.2.2.2.2.2.2.2.2.2.2.2.2.2.2.2.2.2.2.2.2.2.2.2.2.2.1 k0_t2 k0_t3 k0_t5
theorem k0_off47_inb : ∀ (v0 : BitVec 32) (k0_hw2 : k0_chk2 v0) (k0_t5 : Fin (k0_t5_loop v0).trips), ∀ (r : Fin 2), ∀ a, (k0_off47 v0 k0_t5 (BitVec.ofNat 32 r.val)) a + S1x128x128.size a ≤ S80x512x128.size a := fun v0 k0_hw2 k0_t5 r => k0_hw2.1.2.2.2.2.2.2.2.2.2.2.2.2.2.2.2.2.2.2.2.2.2.2.2.2.2.2.2.2.2.2.2 k0_t5 r
theorem k0_off48_inb : ∀ (v0 : BitVec 32) (k0_hw2 : k0_chk2 v0) (k0_t5 : Fin (k0_t5_loop v0).trips), ∀ (r : Fin 2), ∀ a, (k0_off48 v0 k0_t5 (BitVec.ofNat 32 r.val)) a + S1x128x128.size a ≤ S80x512x128.size a := fun v0 k0_hw2 k0_t5 r => k0_hw2.2.1 k0_t5 r
theorem k0_off49_inb : ∀ (v0 : BitVec 32) (k0_hw2 : k0_chk2 v0) (k0_t5 : Fin (k0_t5_loop v0).trips), ∀ (r : Fin 2), ∀ a, (k0_off49 v0 k0_t5 (BitVec.ofNat 32 r.val)) a + S1x128x128.size a ≤ S80x512x128.size a := fun v0 k0_hw2 k0_t5 r => k0_hw2.2.2 k0_t5 r

def k0_cond9 (k0_t2 : Fin k0_t2_loop.trips) (k0_t3 : Fin k0_t3_loop.trips) : BitVec 1 :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_150_r0 : BitVec 32 := 1#32
  let v257_r0 : BitVec 1 := Scalar.cmpi .sge v122_r0 c1_i32_150_r0
  let v258_r0 : BitVec 32 := Scalar.extui v257_r0
  let c0_i32_151_r0 : BitVec 32 := 0#32
  let v259_r0 : BitVec 1 := Scalar.cmpi .ne v258_r0 c0_i32_151_r0
  v259_r0

def k0_mult11 (k0_t2 : Fin k0_t2_loop.trips) (k0_t3 : Fin k0_t3_loop.trips) : BitVec 32 :=
  let c0_i32_77_r0 : BitVec 32 := 0#32
  let c1_i32_78_r0 : BitVec 32 := 1#32
  let arg14_r0 : BitVec 32 := Scf.iv c0_i32_77_r0 c1_i32_78_r0 k0_t3
  let c0_i32_152_r0 : BitVec 32 := 0#32
  let v260_r0 : BitVec 1 := Scalar.cmpi .eq arg14_r0 c0_i32_152_r0
  let c0_i32_26_r0 : BitVec 32 := 0#32
  let c1_i32_27_r0 : BitVec 32 := 1#32
  let arg11_r0 : BitVec 32 := Scf.iv c0_i32_26_r0 c1_i32_27_r0 k0_t2
  let c1_i32_153_r0 : BitVec 32 := 1#32
  let v261_r0 : BitVec 32 := Scalar.subi arg11_r0 c1_i32_153_r0
  let v262_r0 : BitVec 32 := Scalar.select v260_r0 v261_r0 arg11_r0
  let c1024_i32_r0 : BitVec 32 := 1024#32
  let v266_r0 : BitVec 32 := Scalar.muli v262_r0 c1024_i32_r0
  v266_r0
def k0_mult12 (k0_t3 : Fin k0_t3_loop.trips) : BitVec 32 :=
  let c0_i32_77_r0 : BitVec 32 := 0#32
  let c1_i32_78_r0 : BitVec 32 := 1#32
  let arg14_r0 : BitVec 32 := Scf.iv c0_i32_77_r0 c1_i32_78_r0 k0_t3
  let c0_i32_154_r0 : BitVec 32 := 0#32
  let v263_r0 : BitVec 1 := Scalar.cmpi .eq arg14_r0 c0_i32_154_r0
  let c11_i32_r0 : BitVec 32 := 11#32
  let c1_i32_155_r0 : BitVec 32 := 1#32
  let v264_r0 : BitVec 32 := Scalar.subi arg14_r0 c1_i32_155_r0
  let v265_r0 : BitVec 32 := Scalar.select v263_r0 c11_i32_r0 v264_r0
  let c512_i32_r0 : BitVec 32 := 512#32
  let v268_r0 : BitVec 32 := Scalar.muli v265_r0 c512_i32_r0
  v268_r0
def k0_off50 (k0_t2 : Fin k0_t2_loop.trips) (k0_t3 : Fin k0_t3_loop.trips) : Fin 1 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  ![v125_r0.toNat]
def k0_off51 (k0_t2 : Fin k0_t2_loop.trips) (k0_t3 : Fin k0_t3_loop.trips) : Fin 2 → Nat :=
  let c0_i32_77_r0 : BitVec 32 := 0#32
  let c1_i32_78_r0 : BitVec 32 := 1#32
  let arg14_r0 : BitVec 32 := Scf.iv c0_i32_77_r0 c1_i32_78_r0 k0_t3
  let c0_i32_152_r0 : BitVec 32 := 0#32
  let v260_r0 : BitVec 1 := Scalar.cmpi .eq arg14_r0 c0_i32_152_r0
  let c0_i32_26_r0 : BitVec 32 := 0#32
  let c1_i32_27_r0 : BitVec 32 := 1#32
  let arg11_r0 : BitVec 32 := Scf.iv c0_i32_26_r0 c1_i32_27_r0 k0_t2
  let c1_i32_153_r0 : BitVec 32 := 1#32
  let v261_r0 : BitVec 32 := Scalar.subi arg11_r0 c1_i32_153_r0
  let v262_r0 : BitVec 32 := Scalar.select v260_r0 v261_r0 arg11_r0
  let c1024_i32_r0 : BitVec 32 := 1024#32
  let v266_r0 : BitVec 32 := Scalar.muli v262_r0 c1024_i32_r0
  let v267_r0 : BitVec 32 := v266_r0
  let c0_i32_154_r0 : BitVec 32 := 0#32
  let v263_r0 : BitVec 1 := Scalar.cmpi .eq arg14_r0 c0_i32_154_r0
  let c11_i32_r0 : BitVec 32 := 11#32
  let c1_i32_155_r0 : BitVec 32 := 1#32
  let v264_r0 : BitVec 32 := Scalar.subi arg14_r0 c1_i32_155_r0
  let v265_r0 : BitVec 32 := Scalar.select v263_r0 c11_i32_r0 v264_r0
  let c512_i32_r0 : BitVec 32 := 512#32
  let v268_r0 : BitVec 32 := Scalar.muli v265_r0 c512_i32_r0
  let v269_r0 : BitVec 32 := v268_r0
  ![v267_r0.toNat, v269_r0.toNat]
def k0_off52 (k0_t2 : Fin k0_t2_loop.trips) (k0_t3 : Fin k0_t3_loop.trips) : Fin 3 → Nat :=
  let c0_i32_26_r0 : BitVec 32 := 0#32
  let c1_i32_27_r0 : BitVec 32 := 1#32
  let arg11_r0 : BitVec 32 := Scf.iv c0_i32_26_r0 c1_i32_27_r0 k0_t2
  let c12_i32_80_r0 : BitVec 32 := 12#32
  let v121_r0 : BitVec 32 := Scalar.muli arg11_r0 c12_i32_80_r0
  let c0_i32_77_r0 : BitVec 32 := 0#32
  let c1_i32_78_r0 : BitVec 32 := 1#32
  let arg14_r0 : BitVec 32 := Scf.iv c0_i32_77_r0 c1_i32_78_r0 k0_t3
  let v122_r0 : BitVec 32 := Scalar.addi v121_r0 arg14_r0
  let c1_i32_81_r0 : BitVec 32 := 1#32
  let v124_r0 : BitVec 32 := Scalar.addi v122_r0 c1_i32_81_r0
  let c1_i32_82_r0 : BitVec 32 := 1#32
  let v125_r0 : BitVec 32 := Scalar.andi v124_r0 c1_i32_82_r0
  let c0_i32_156_r0 : BitVec 32 := 0#32
  let c0_i32_157_r0 : BitVec 32 := 0#32
  ![v125_r0.toNat, 0, 0]
def k0_mult13 : BitVec 32 :=
  let c0_i32_29_r0 : BitVec 32 := 0#32
  c0_i32_29_r0
def k0_mult14 : BitVec 32 :=
  let c0_i32_30_r0 : BitVec 32 := 0#32
  c0_i32_30_r0
def k0_mult15 : BitVec 32 :=
  let c15360_i32_r0 : BitVec 32 := 15360#32
  c15360_i32_r0
def k0_mult16 : BitVec 32 :=
  let c5632_i32_r0 : BitVec 32 := 5632#32
  c5632_i32_r0
def k0_mult17 : BitVec 32 :=
  let c0_i32_61_r0 : BitVec 32 := 0#32
  c0_i32_61_r0
def k0_mult18 : BitVec 32 :=
  let c0_i32_62_r0 : BitVec 32 := 0#32
  c0_i32_62_r0
abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x80x512x128 : Shape := ⟨4, ![16, 80, 512, 128]⟩
abbrev S48x5120x128 : Shape := ⟨3, ![48, 5120, 128]⟩
abbrev S8 : Shape := ⟨1, ![8]⟩
abbrev S2 : Shape := ⟨1, ![2]⟩
abbrev S48x5120x128x2 : Shape := ⟨4, ![48, 5120, 128, 2]⟩
abbrev S5120x2x48x128 : Shape := ⟨4, ![5120, 2, 48, 128]⟩
abbrev S10240x6144 : Shape := ⟨2, ![10240, 6144]⟩
abbrev S16x80x512x128x2 : Shape := ⟨5, ![16, 80, 512, 128, 2]⟩
abbrev S80x128x16x512x2 : Shape := ⟨5, ![80, 128, 16, 512, 2]⟩
abbrev S10240x16384 : Shape := ⟨2, ![10240, 16384]⟩
abbrev S10240 : Shape := ⟨1, ![10240]⟩
abbrev S1 : Shape := ⟨1, ![1]⟩
abbrev S_ : Shape := ⟨0, ![]⟩
abbrev S10240x1 : Shape := ⟨2, ![10240, 1]⟩
abbrev S16384x6144 : Shape := ⟨2, ![16384, 6144]⟩

abbrev nBuf : Space → Nat
  | .hbm => 34
  | .vmem => 0
  | .smem => 0
  | _ => 0

abbrev bufTy : (tb : Table) → Fin (tcTables nBuf tb) → BufTy
  | .hbm, ⟨0, _⟩ => ⟨S16x80x512x128, .i32⟩
  | .hbm, ⟨1, _⟩ => ⟨S48x5120x128, .i32⟩
  | .hbm, ⟨2, _⟩ => ⟨S8, .i32⟩
  | .hbm, ⟨3, _⟩ => ⟨S2, .f32⟩
  | .hbm, ⟨4, _⟩ => ⟨S48x5120x128x2, .bf16⟩
  | .hbm, ⟨5, _⟩ => ⟨S5120x2x48x128, .bf16⟩
  | .hbm, ⟨6, _⟩ => ⟨S10240x6144, .bf16⟩
  | .hbm, ⟨7, _⟩ => ⟨S16x80x512x128x2, .bf16⟩
  | .hbm, ⟨8, _⟩ => ⟨S80x128x16x512x2, .bf16⟩
  | .hbm, ⟨9, _⟩ => ⟨S10240x16384, .bf16⟩
  | .hbm, ⟨10, _⟩ => ⟨S10240, .i32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S10240, .i32⟩
  | .hbm, ⟨16, _⟩ => ⟨S10240, .i1⟩
  | .hbm, ⟨17, _⟩ => ⟨S10240x1, .i1⟩
  | .hbm, ⟨18, _⟩ => ⟨S_, .bf16⟩
  | .hbm, ⟨19, _⟩ => ⟨S10240x6144, .i1⟩
  | .hbm, ⟨20, _⟩ => ⟨S10240x6144, .bf16⟩
  | .hbm, ⟨21, _⟩ => ⟨S10240x6144, .bf16⟩
  | .hbm, ⟨22, _⟩ => ⟨S_, .bf16⟩
  | .hbm, ⟨23, _⟩ => ⟨S10240x16384, .i1⟩
  | .hbm, ⟨24, _⟩ => ⟨S10240x16384, .bf16⟩
  | .hbm, ⟨25, _⟩ => ⟨S10240x16384, .bf16⟩
  | .hbm, ⟨26, _⟩ => ⟨S16384x6144, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S16384x6144, .f32⟩
  | .hbm, ⟨33, _⟩ => ⟨S16384x6144, .f32⟩
  | _, _ => ⟨S16x80x512x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== AmaxKernel.lean ====
abbrev S10240x6144 : Shape := ⟨2, ![10240, 6144]⟩
abbrev S16 : Shape := ⟨1, ![16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S1x16 : Shape := ⟨2, ![1, 16]⟩
abbrev S256 : Shape := ⟨1, ![256]⟩
abbrev S1x256 : Shape := ⟨2, ![1, 256]⟩
abbrev S1x256x256 : Shape := ⟨3, ![1, 256, 256]⟩
abbrev S3x256x256 : Shape := ⟨3, ![3, 256, 256]⟩
abbrev S1 : Shape := ⟨1, ![1]⟩
abbrev S8x128 : Shape := ⟨2, ![8, 128]⟩
abbrev S512x6144 : Shape := ⟨2, ![512, 6144]⟩
abbrev S8x512 : Shape := ⟨2, ![8, 512]⟩
abbrev S256x512 : Shape := ⟨2, ![256, 512]⟩
abbrev S32x8x512 : Shape := ⟨3, ![32, 8, 512]⟩
abbrev S1x8x512 : Shape := ⟨3, ![1, 8, 512]⟩
abbrev S1x1x1 : Shape := ⟨3, ![1, 1, 1]⟩

abbrev nBuf : Space → Nat
  | .hbm => 49
  | .vmem => 5
  | .smem => 1
  | _ => 0

abbrev bufTy : (tb : Table) → Fin (tcTables nBuf tb) → BufTy
  | .hbm, ⟨0, _⟩ => ⟨S10240x6144, .bf16⟩
  | .hbm, ⟨1, _⟩ => ⟨S16, .f32⟩
  | .hbm, ⟨2, _⟩ => ⟨S16x16, .f32⟩
  | .hbm, ⟨3, _⟩ => ⟨S16x16, .i32⟩
  | .hbm, ⟨4, _⟩ => ⟨S16x16, .i32⟩
  | .hbm, ⟨5, _⟩ => ⟨S_, .i32⟩
  | .hbm, ⟨6, _⟩ => ⟨S16x16, .i32⟩
  | .hbm, ⟨7, _⟩ => ⟨S16x16, .i32⟩
  | .hbm, ⟨8, _⟩ => ⟨S16x16, .i1⟩
  | .hbm, ⟨9, _⟩ => ⟨S16x16, .f32⟩
  | .hbm, ⟨10, _⟩ => ⟨S16x1x16x1, .f32⟩
  | .hbm, ⟨11, _⟩ => ⟨S1x16x1x16, .f32⟩
  | .hbm, ⟨12, _⟩ => ⟨S16x16x16x16, .f32⟩
  | .hbm, ⟨13, _⟩ => ⟨S16x16x16x16, .f32⟩
  | .hbm, ⟨14, _⟩ => ⟨S16x16x16x16, .f32⟩
  | .hbm, ⟨15, _⟩ => ⟨S256x256, .f32⟩
  | .hbm, ⟨16, _⟩ => ⟨S1x16, .f32⟩
  | .hbm, ⟨17, _⟩ => ⟨S16x16, .f32⟩
  | .hbm, ⟨18, _⟩ => ⟨S256, .f32⟩
  | .hbm, ⟨19, _⟩ => ⟨S1x256, .f32⟩
  | .hbm, ⟨20, _⟩ => ⟨S_, .f32⟩
  | .hbm, ⟨21, _⟩ => ⟨S1x256, .f32⟩
  | .hbm, ⟨22, _⟩ => ⟨S1x256, .f32⟩
  | .hbm, ⟨23, _⟩ => ⟨S256x256, .f32⟩
  | .hbm, ⟨24, _⟩ => ⟨S256x256, .f32⟩
  | .hbm, ⟨25, _⟩ => ⟨S256x256, .bf16⟩
  | .hbm, ⟨26, _⟩ => ⟨S256x256, .f32⟩
  | .hbm, ⟨27, _⟩ => ⟨S256x256, .f32⟩
  | .hbm, ⟨28, _⟩ => ⟨S256x256, .bf16⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .bf16⟩
  | .hbm, ⟨34, _⟩ => ⟨S1x256x256, .bf16⟩
  | .hbm, ⟨35, _⟩ => ⟨S1x256x256, .bf16⟩
  | .hbm, ⟨36, _⟩ => ⟨S1x256x256, .bf16⟩
  | .hbm, ⟨37, _⟩ => ⟨S3x256x256, .bf16⟩
  | .hbm, ⟨38, _⟩ => ⟨S_, .bf16⟩
  | .hbm, ⟨39, _⟩ => ⟨S256x256, .bf16⟩
  | .hbm, ⟨40, _⟩ => ⟨S256x256, .i1⟩
  | .hbm, ⟨41, _⟩ => ⟨S_, .bf16⟩
  | .hbm, ⟨42, _⟩ => ⟨S256x256, .bf16⟩
  | .hbm, ⟨43, _⟩ => ⟨S256x256, .i1⟩
  | .hbm, ⟨44, _⟩ => ⟨S256x256, .i1⟩
  | .hbm, ⟨45, _⟩ => ⟨S_, .i1⟩
  | .hbm, ⟨46, _⟩ => ⟨S_, .i1⟩
  | .hbm, ⟨47, _⟩ => ⟨S_, .i32⟩
  | .hbm, ⟨48, _⟩ => ⟨S8x128, .f32⟩
  | .local _ .vmem, ⟨0, _⟩ => ⟨S3x256x256, .bf16⟩
  | .local _ .vmem, ⟨1, _⟩ => ⟨S512x6144, .bf16⟩
  | .local _ .vmem, ⟨2, _⟩ => ⟨S512x6144, .bf16⟩
  | .local _ .vmem, ⟨3, _⟩ => ⟨S8x128, .f32⟩
  | .local _ .vmem, ⟨4, _⟩ => ⟨S8x512, .f32⟩
  | .local _ .smem, ⟨0, _⟩ => ⟨S1, .i32⟩
  | _, _ => ⟨S10240x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_v33 : Ref sig .tc := ⟨.hbm, 46, rfl⟩
abbrev main_v34 : Ref sig .tc := ⟨.hbm, 47, rfl⟩
abbrev main_v36 : Ref sig .tc := ⟨.hbm, 48, rfl⟩
abbrev main_v35 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![20], ![false]⟩

abbrev pre0 : Pipeline.Prefetch sig := ⟨1, ![main_v35.idx], fun | 0 => main_v35.names | ⟨_ + 1, h⟩ => absurd h (Nat.not_lt.2 (Nat.le_add_left _ _)), fun | 0 => rfl | ⟨_ + 1, h⟩ => absurd h (Nat.not_lt.2 (Nat.le_add_left _ _))⟩

def k0_cond4 (i : grid0.Coords) : BitVec 1 :=
  let arg0 : BitVec 32 := BitVec.ofNat 32 (i 0).val
  let c19_i32 : BitVec 32 := 19#32
  let v11 : BitVec 1 := Scalar.cmpi .eq arg0 c19_i32
  let v12 : BitVec 32 := Scalar.extui v11
  let c0_i32_6 : BitVec 32 := 0#32
  let v13 : BitVec 1 := Scalar.cmpi .ne v12 c0_i32_6
  v13

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AmaxReferenceIdeal.lean ====
abbrev S10240x6144 : Shape := ⟨2, ![10240, 6144]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S640x16x6144 : Shape := ⟨3, ![640, 16, 6144]⟩
abbrev S640x6144x16 : Shape := ⟨3, ![640, 6144, 16]⟩
abbrev S6144x640x16 : Shape := ⟨3, ![6144, 640, 16]⟩
abbrev S8x128 : Shape := ⟨2, ![8, 128]⟩

abbrev nBuf : Space → Nat
  | .hbm => 42
  | .vmem => 0
  | .smem => 0
  | _ => 0

abbrev bufTy : (tb : Table) → Fin (tcTables nBuf tb) → BufTy
  | .hbm, ⟨0, _⟩ => ⟨S10240x6144, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i1⟩
  | .hbm, ⟨15, _⟩ => ⟨S_, .f32⟩
  | .hbm, ⟨16, _⟩ => ⟨S_, .f32⟩
  | .hbm, ⟨17, _⟩ => ⟨S16x16, .f32⟩
  | .hbm, ⟨18, _⟩ => ⟨S16x16, .f32⟩
  | .hbm, ⟨19, _⟩ => ⟨S16x16, .f32⟩
  | .hbm, ⟨20, _⟩ => ⟨S16x16, .f32⟩
  | .hbm, ⟨21, _⟩ => ⟨S1x16, .f32⟩
  | .hbm, ⟨22, _⟩ => ⟨S16x16, .f32⟩
  | .hbm, ⟨23, _⟩ => ⟨S16x16, .f32⟩
  | .hbm, ⟨24, _⟩ => ⟨S_, .f32⟩
  | .hbm, ⟨25, _⟩ => ⟨S16x16, .f32⟩
  | .hbm, ⟨26, _⟩ => ⟨S16x16, .f32⟩
  | .hbm, ⟨27, _⟩ => ⟨S10240x6144, .f32⟩
  | .hbm, ⟨28, _⟩ => ⟨S640x16x6144, .f32⟩
  | .hbm, ⟨29, _⟩ => ⟨S640x6144x16, .f32⟩
  | .hbm, ⟨30, _⟩ => ⟨S6144x640x16, .f32⟩
  | .hbm, ⟨31, _⟩ => ⟨S6144x640x16, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x128, .f32⟩
  | _, _ => ⟨S10240x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_call1_v0 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Base.lean ====
module
public import proofs.«01_k».proof.Proof.Gen.Kernel.Skeleton
public import Idealize.ShloMosaic.Lib.LoopRemainder
@[expose] public section
namespace Cert.Kernel.Gen
open Idealize.ShloMosaic Idealize.ShloMosaic.TcCoe

/-! The word arithmetic of the kernel as arithmetic on natural numbers: with `nv` chunks, tile `s*12+k` begins at
    step `(s*12+k)*nv` of the sequence of all steps, and every offset, condition and side condition is a function of
    the step number. -/

theorem wadd (a b : ℕ) : Scalar.addi (BitVec.ofNat 32 a) (BitVec.ofNat 32 b) = BitVec.ofNat 32 (a + b) := by
  simp only [Scalar.addi, IntOp.addi]; exact (BitVec.ofNat_add a b).symm
theorem wmul (a b : ℕ) : Scalar.muli (BitVec.ofNat 32 a) (BitVec.ofNat 32 b) = BitVec.ofNat 32 (a * b) := by
  simp only [Scalar.muli, IntOp.muli]; exact (BitVec.ofNat_mul a b).symm
theorem wsub1 (a : ℕ) (h : 1 ≤ a) : Scalar.subi (BitVec.ofNat 32 a) 1#32 = BitVec.ofNat 32 (a - 1) := by
  simp only [Scalar.subi, IntOp.subi]
  obtain ⟨b, rfl⟩ := Nat.exists_eq_add_of_le' h
  rw [Nat.add_sub_cancel, BitVec.ofNat_add]; exact BitVec.add_sub_cancel _ _
theorem wand7 (a : ℕ) : Scalar.andi (BitVec.ofNat 32 a) 7#32 = BitVec.ofNat 32 (a % 8) := by
  simp only [Scalar.andi, IntOp.andi]
  apply BitVec.eq_of_toNat_eq
  rw [BitVec.toNat_and, BitVec.toNat_ofNat, BitVec.toNat_ofNat, BitVec.toNat_ofNat]
  rw [show 7 % 2 ^ 32 = 2 ^ 3 - 1 from rfl, Nat.and_two_pow_sub_one_eq_mod]; omega
theorem wand1 (a : ℕ) : Scalar.andi (BitVec.ofNat 32 a) 1#32 = BitVec.ofNat 32 (a % 2) := by
  simp only [Scalar.andi, IntOp.andi]
  apply BitVec.eq_of_toNat_eq
  rw [BitVec.toNat_and, BitVec.toNat_ofNat, BitVec.toNat_ofNat, BitVec.toNat_ofNat]
  rw [show 1 % 2 ^ 32 = 2 ^ 1 - 1 from rfl, Nat.and_two_pow_sub_one_eq_mod]; omega
theorem wiv0 (k : ℕ) : Scf.iv (0#32) (1#32) k = BitVec.ofNat 32 k := by simp [Scf.iv]
theorem wiv1 (k : ℕ) : Scf.iv (1#32) (1#32) k = BitVec.ofNat 32 (1 + k) := by simp [Scf.iv, BitVec.ofNat_add]
theorem wnat (a : ℕ) (h : a < 4294967296) : (BitVec.ofNat 32 a).toNat = a := by
  rw [BitVec.toNat_ofNat]; exact Nat.mod_eq_of_lt h
theorem wslt (a b : ℕ) (ha : a < 2147483648) (hb : b < 2147483648) :
    (Scalar.cmpi .ne (Scalar.extui (Scalar.cmpi .slt (BitVec.ofNat 32 a) (BitVec.ofNat 32 b))) 0#32 = 1#1) ↔ a < b := by
  have h1 : (BitVec.ofNat 32 a).toInt = a := by rw [BitVec.toInt_eq_toNat_cond, wnat _ (by omega)]; split <;> omega
  have h2 : (BitVec.ofNat 32 b).toInt = b := by rw [BitVec.toInt_eq_toNat_cond, wnat _ (by omega)]; split <;> omega
  by_cases h : a < b
  · have : Scalar.cmpi .slt (BitVec.ofNat 32 a) (BitVec.ofNat 32 b) = 1#1 := by
      simp [Scalar.cmpi, IntOp.cmpi, BitVec.slt, h1, h2, h]
    rw [this]; simp only [h, iff_true]; decide
  · have : Scalar.cmpi .slt (BitVec.ofNat 32 a) (BitVec.ofNat 32 b) = 0#1 := by
      simp [Scalar.cmpi, IntOp.cmpi, BitVec.slt, h1, h2, h]
    rw [this]; simp only [h, iff_false]; decide
theorem wsge (a b : ℕ) (ha : a < 2147483648) (hb : b < 2147483648) :
    (Scalar.cmpi .ne (Scalar.extui (Scalar.cmpi .sge (BitVec.ofNat 32 a) (BitVec.ofNat 32 b))) 0#32 = 1#1) ↔ b ≤ a := by
  have h1 : (BitVec.ofNat 32 a).toInt = a := by rw [BitVec.toInt_eq_toNat_cond, wnat _ (by omega)]; split <;> omega
  have h2 : (BitVec.ofNat 32 b).toInt = b := by rw [BitVec.toInt_eq_toNat_cond, wnat _ (by omega)]; split <;> omega
  by_cases h : b ≤ a
  · have : Scalar.cmpi .sge (BitVec.ofNat 32 a) (BitVec.ofNat 32 b) = 1#1 := by
      simp [Scalar.cmpi, IntOp.cmpi, BitVec.sle, h1, h2, h]
    rw [this]; simp only [h, iff_true]; decide
  · have : Scalar.cmpi .sge (BitVec.ofNat 32 a) (BitVec.ofNat 32 b) = 0#1 := by
      simp [Scalar.cmpi, IntOp.cmpi, BitVec.sle, h1, h2, h]
    rw [this]; simp only [h, iff_false]; decide
theorem weq {α : Type} (a b : ℕ) (ha : a < 4294967296) (hb : b < 4294967296) (x y : α) :
    Scalar.select (Scalar.cmpi .eq (BitVec.ofNat 32 a) (BitVec.ofNat 32 b)) x y = if a = b then x else y := by
  have : Scalar.cmpi .eq (BitVec.ofNat 32 a) (BitVec.ofNat 32 b) = if a = b then 1#1 else 0#1 := by
    by_cases h : a = b
    · subst h; simp [Scalar.cmpi, IntOp.cmpi]
    · have hne : ¬ BitVec.ofNat 32 a = BitVec.ofNat 32 b := fun he => h (by
        have := congrArg BitVec.toNat he; rwa [wnat a ha, wnat b hb] at this)
      simp only [Scalar.cmpi, IntOp.cmpi, h, if_false, beq_eq_false_iff_ne.2 hne]; rfl
  rw [this]; by_cases h : a = b <;> simp [Scalar.select, h]

theorem trips1 : k0_t1_loop.trips = 8 := by decide
theorem trips2 : k0_t2_loop.trips = 16 := by decide
theorem trips3 : k0_t3_loop.trips = 12 := by decide
theorem lt1 (t : Fin k0_t1_loop.trips) : t.val < 8 := lt_of_lt_of_eq t.isLt trips1
theorem lt2 (t : Fin k0_t2_loop.trips) : t.val < 16 := lt_of_lt_of_eq t.isLt trips2
theorem lt3 (t : Fin k0_t3_loop.trips) : t.val < 12 := lt_of_lt_of_eq t.isLt trips3
theorem loop4 {v0 : BitVec 32} {nv : ℕ} (hv : v0 = BitVec.ofNat 32 nv) (h1 : 1 ≤ nv) (h2 : nv ≤ 40) :
    k0_t4_loop v0 = ⟨1#32, BitVec.ofNat 32 nv, 1#32⟩ := by
  subst hv; unfold k0_t4_loop; simp only [Scalar.muli_divsi_one]
  rw [wsub1 _ h1, wadd]; congr 2; omega
theorem trips4 {v0 : BitVec 32} {nv : ℕ} (hv : v0 = BitVec.ofNat 32 nv) (h1 : 1 ≤ nv) (h2 : nv ≤ 40) :
    (k0_t4_loop v0).trips = nv - 1 := by
  rw [loop4 hv h1 h2]
  show (((BitVec.ofNat 32 nv).toInt - (1#32).toInt + (1#32).toInt - 1) / (1#32).toInt).toNat = _
  have h : (BitVec.ofNat 32 nv).toInt = nv := by rw [BitVec.toInt_eq_toNat_cond, wnat _ (by omega)]; split <;> omega
  rw [h, show (1#32 : BitVec 32).toInt = 1 by decide]; omega
theorem ok4 {v0 : BitVec 32} {nv : ℕ} (hv : v0 = BitVec.ofNat 32 nv) (h1 : 1 ≤ nv) (h2 : nv ≤ 40) :
    (k0_t4_loop v0).OK := by
  have ht := trips4 hv h1 h2
  rw [loop4 hv h1 h2] at ht ⊢
  refine ⟨by show (0:ℤ) < (1#32 : BitVec 32).toInt; decide, ?_⟩
  show (1#32 : BitVec 32).toInt + (Scf.trips (1#32) (BitVec.ofNat 32 nv) (1#32) : ℕ) * (1#32 : BitVec 32).toInt < _
  have ht' : Scf.trips (1#32) (BitVec.ofNat 32 nv) (1#32) = nv - 1 := ht
  rw [ht', show (1#32 : BitVec 32).toInt = 1 by decide]; omega
theorem lt4 {v0 : BitVec 32} {nv : ℕ} (hv : v0 = BitVec.ofNat 32 nv) (h1 : 1 ≤ nv) (h2 : nv ≤ 40)
    (t : Fin (k0_t4_loop v0).trips) : t.val < nv - 1 := lt_of_lt_of_eq t.isLt (trips4 hv h1 h2)
theorem no5 {v0 : BitVec 32} (t : Fin (k0_t5_loop v0).trips) : False := Scf.rem_no_trip _ _ t
theorem tile_le {nv : ℕ} (h2 : nv ≤ 40) (t2 : Fin k0_t2_loop.trips) (t3 : Fin k0_t3_loop.trips) :
    (t2.val * 12 + t3.val) * nv ≤ 7640 :=
  (Nat.mul_le_mul (by have := lt2 t2; have := lt3 t3; omega : t2.val * 12 + t3.val ≤ 191) h2)

section
variable {v0 : BitVec 32} {nv : ℕ} (hv : v0 = BitVec.ofNat 32 nv) (h1 : 1 ≤ nv) (h2 : nv ≤ 40)
theorem off1_eq (t1 : Fin k0_t1_loop.trips) : k0_off1 t1 = ![t1.val] := by
  have := lt1 t1
  unfold k0_off1; simp only [wadd, wmul, wand7, wand1, wiv0, wiv1, Scalar.indexCast]
  simp (disch := omega) only [wnat]

theorem off2_eq (t1 : Fin k0_t1_loop.trips) : k0_off2 t1 = ![t1.val, 0, 0, 0] := by
  have := lt1 t1
  unfold k0_off2; simp only [wadd, wmul, wand7, wand1, wiv0, wiv1, Scalar.indexCast]
  simp (disch := omega) only [wnat]

theorem off4_eq (t2 : Fin k0_t2_loop.trips) : k0_off4 t2 = ![t2.val, 0, 0, 0] := by
  have := lt2 t2
  unfold k0_off4; simp only [wadd, wmul, wand7, wand1, wiv0, wiv1, Scalar.indexCast]
  simp (disch := omega) only [wnat]

theorem off5_eq (t2 : Fin k0_t2_loop.trips) (t3 : Fin k0_t3_loop.trips) : k0_off5 t2 t3 = ![((t2.val * 12 + t3.val) + 1) % 2] := by
  have := lt2 t2
  have := lt3 t3
  unfold k0_off5; simp only [wadd, wmul, wand7, wand1, wiv0, wiv1, Scalar.indexCast]
  simp (disch := omega) only [wnat]

theorem off6_eq (t2 : Fin k0_t2_loop.trips) (t3 : Fin k0_t3_loop.trips) : k0_off6 t2 t3 = ![((t2.val * 12 + t3.val) + 1) % 2, 0, 0] := by
  have := lt2 t2
  have := lt3 t3
  unfold k0_off6; simp only [wadd, wmul, wand7, wand1, wiv0, wiv1, Scalar.indexCast]
  simp (disch := omega) only [wnat]

theorem off12_eq (t2 : Fin k0_t2_loop.trips) (t3 : Fin k0_t3_loop.trips) : k0_off12 t2 t3 = ![((t2.val * 12 + t3.val) + 1) % 2, 0, 0] := by
  have := lt2 t2
  have := lt3 t3
  unfold k0_off12; simp only [wadd, wmul, wand7, wand1, wiv0, wiv1, Scalar.indexCast]
  simp (disch := omega) only [wnat]

theorem off15_eq (t2 : Fin k0_t2_loop.trips) (t3 : Fin k0_t3_loop.trips) : k0_off15 t2 t3 = ![((t2.val * 12 + t3.val) + 1) % 2, 0, 256] := by
  have := lt2 t2
  have := lt3 t3
  unfold k0_off15; simp only [wadd, wmul, wand7, wand1, wiv0, wiv1, Scalar.indexCast]
  simp (disch := omega) only [wnat]

theorem off18_eq (t2 : Fin k0_t2_loop.trips) (t3 : Fin k0_t3_loop.trips) : k0_off18 t2 t3 = ![((t2.val * 12 + t3.val) + 1) % 2, 256, 0] := by
  have := lt2 t2
  have := lt3 t3
  unfold k0_off18; simp only [wadd, wmul, wand7, wand1, wiv0, wiv1, Scalar.indexCast]
  simp (disch := omega) only [wnat]

theorem off19_eq (t2 : Fin k0_t2_loop.trips) (t3 : Fin k0_t3_loop.trips) : k0_off19 t2 t3 = ![((t2.val * 12 + t3.val) + 1) % 2, 256, 256] := by
  have := lt2 t2
  have := lt3 t3
  unfold k0_off19; simp only [wadd, wmul, wand7, wand1, wiv0, wiv1, Scalar.indexCast]
  simp (disch := omega) only [wnat]

theorem off20_eq (t2 : Fin k0_t2_loop.trips) (t3 : Fin k0_t3_loop.trips) : k0_off20 t2 t3 = ![((t2.val * 12 + t3.val) + 1) % 2, 512, 0] := by
  have := lt2 t2
  have := lt3 t3
  unfold k0_off20; simp only [wadd, wmul, wand7, wand1, wiv0, wiv1, Scalar.indexCast]
  simp (disch := omega) only [wnat]

theorem off21_eq (t2 : Fin k0_t2_loop.trips) (t3 : Fin k0_t3_loop.trips) : k0_off21 t2 t3 = ![((t2.val * 12 + t3.val) + 1) % 2, 512, 256] := by
  have := lt2 t2
  have := lt3 t3
  unfold k0_off21; simp only [wadd, wmul, wand7, wand1, wiv0, wiv1, Scalar.indexCast]
  simp (disch := omega) only [wnat]

theorem off22_eq (t2 : Fin k0_t2_loop.trips) (t3 : Fin k0_t3_loop.trips) : k0_off22 t2 t3 = ![((t2.val * 12 + t3.val) + 1) % 2, 768, 0] := by
  have := lt2 t2
  have := lt3 t3
  unfold k0_off22; simp only [wadd, wmul, wand7, wand1, wiv0, wiv1, Scalar.indexCast]
  simp (disch := omega) only [wnat]

theorem off23_eq (t2 : Fin k0_t2_loop.trips) (t3 : Fin k0_t3_loop.trips) : k0_off23 t2 t3 = ![((t2.val * 12 + t3.val) + 1) % 2, 768, 256] := by
  have := lt2 t2
  have := lt3 t3
  unfold k0_off23; simp only [wadd, wmul, wand7, wand1, wiv0, wiv1, Scalar.indexCast]
  simp (disch := omega) only [wnat]

theorem off52_eq (t2 : Fin k0_t2_loop.trips) (t3 : Fin k0_t3_loop.trips) : k0_off52 t2 t3 = ![((t2.val * 12 + t3.val) + 1) % 2, 0, 0] := by
  have := lt2 t2
  have := lt3 t3
  unfold k0_off52; simp only [wadd, wmul, wand7, wand1, wiv0, wiv1, Scalar.indexCast]
  simp (disch := omega) only [wnat]

theorem off50_eq (t2 : Fin k0_t2_loop.trips) (t3 : Fin k0_t3_loop.trips) : k0_off50 t2 t3 = ![((t2.val * 12 + t3.val) + 1) % 2] := by
  have := lt2 t2
  have := lt3 t3
  unfold k0_off50; simp only [wadd, wmul, wand7, wand1, wiv0, wiv1, Scalar.indexCast]
  simp (disch := omega) only [wnat]

theorem off3_eq (a b : ℕ) (ha : a < 1000) (hb : b < 1000) : k0_off3 (BitVec.ofNat 32 a) (BitVec.ofNat 32 b) = ![a * 4, b * 128, 0] := by
  unfold k0_off3; simp only [wadd, wmul, wand7, wand1, wiv0, wiv1, Scalar.indexCast]
  simp (disch := omega) only [wnat]

theorem off11_eq (a b : ℕ) (ha : a < 1000) (hb : b < 1000) : k0_off11 (BitVec.ofNat 32 a) (BitVec.ofNat 32 b) = ![a * 4, b * 128, 0] := by
  unfold k0_off11; simp only [wadd, wmul, wand7, wand1, wiv0, wiv1, Scalar.indexCast]
  simp (disch := omega) only [wnat]

theorem off28_eq (a b : ℕ) (ha : a < 1000) (hb : b < 1000) : k0_off28 (BitVec.ofNat 32 a) (BitVec.ofNat 32 b) = ![a * 4, b * 128, 0] := by
  unfold k0_off28; simp only [wadd, wmul, wand7, wand1, wiv0, wiv1, Scalar.indexCast]
  simp (disch := omega) only [wnat]

theorem off51_eq (t2 : Fin k0_t2_loop.trips) (t3 : Fin k0_t3_loop.trips) (h : 1 ≤ (t2.val * 12 + t3.val)) : k0_off51 t2 t3 = ![((t2.val * 12 + t3.val) - 1) / 12 * 1024, ((t2.val * 12 + t3.val) - 1) % 12 * 512] := by
  have b2 := lt2 t2; have b3 := lt3 t3
  unfold k0_off51; simp only [wadd, wmul, wand7, wand1, wiv0, wiv1, Scalar.indexCast]
  rw [weq _ _ (by omega) (by omega), weq _ _ (by omega) (by omega)]
  by_cases h0 : t3.val = 0
  · rw [if_pos h0, if_pos h0, wsub1 _ (by omega), wmul, wmul, wnat _ (by omega), wnat _ (by omega)]
    congr 2 <;> [skip; congr 1] <;> omega
  · rw [if_neg h0, if_neg h0, wsub1 _ (by omega), wmul, wmul, wnat _ (by omega), wnat _ (by omega)]
    congr 2 <;> [skip; congr 1] <;> omega

include hv h1 h2

theorem off7_eq (t2 : Fin k0_t2_loop.trips) (t3 : Fin k0_t3_loop.trips) : k0_off7 v0 t2 t3 = ![((t2.val * 12 + t3.val) * nv + 1) % 8] := by
  subst hv; have := tile_le h2 t2 t3
  unfold k0_off7; simp only [wadd, wmul, wand7, wand1, wiv0, wiv1, Scalar.indexCast]
  simp (disch := omega) only [wnat]

theorem off8_eq (t2 : Fin k0_t2_loop.trips) (t3 : Fin k0_t3_loop.trips) : k0_off8 v0 t2 t3 = ![((t2.val * 12 + t3.val) * nv + 1) % 8, 0, 0, 0] := by
  subst hv; have := tile_le h2 t2 t3
  unfold k0_off8; simp only [wadd, wmul, wand7, wand1, wiv0, wiv1, Scalar.indexCast]
  simp (disch := omega) only [wnat]

theorem off13_eq (t2 : Fin k0_t2_loop.trips) (t3 : Fin k0_t3_loop.trips) : k0_off13 v0 t2 t3 = ![((t2.val * 12 + t3.val) * nv + 1) % 8, 0, 0, 0] := by
  subst hv; have := tile_le h2 t2 t3
  unfold k0_off13; simp only [wadd, wmul, wand7, wand1, wiv0, wiv1, Scalar.indexCast]
  simp (disch := omega) only [wnat]

theorem off14_eq (t2 : Fin k0_t2_loop.trips) (t3 : Fin k0_t3_loop.trips) : k0_off14 v0 t2 t3 = ![((t2.val * 12 + t3.val) * nv + 1) % 8, 1, 0, 0] := by
  subst hv; have := tile_le h2 t2 t3
  unfold k0_off14; simp only [wadd, wmul, wand7, wand1, wiv0, wiv1, Scalar.indexCast]
  simp (disch := omega) only [wnat]

theorem off16_eq (t2 : Fin k0_t2_loop.trips) (t3 : Fin k0_t3_loop.trips) : k0_off16 v0 t2 t3 = ![((t2.val * 12 + t3.val) * nv + 1) % 8, 2, 0, 0] := by
  subst hv; have := tile_le h2 t2 t3
  unfold k0_off16; simp only [wadd, wmul, wand7, wand1, wiv0, wiv1, Scalar.indexCast]
  simp (disch := omega) only [wnat]

theorem off17_eq (t2 : Fin k0_t2_loop.trips) (t3 : Fin k0_t3_loop.trips) : k0_off17 v0 t2 t3 = ![((t2.val * 12 + t3.val) * nv + 1) % 8, 3, 0, 0] := by
  subst hv; have := tile_le h2 t2 t3
  unfold k0_off17; simp only [wadd, wmul, wand7, wand1, wiv0, wiv1, Scalar.indexCast]
  simp (disch := omega) only [wnat]

theorem off9_eq (t2 : Fin k0_t2_loop.trips) (t3 : Fin k0_t3_loop.trips) : k0_off9 v0 t2 t3 = ![(t2.val * 12 + t3.val) * nv % 8] := by
  subst hv; have := tile_le h2 t2 t3
  unfold k0_off9; simp only [wadd, wmul, wand7, wand1, wiv0, wiv1, Scalar.indexCast]
  simp (disch := omega) only [wnat]

theorem off10_eq (t2 : Fin k0_t2_loop.trips) (t3 : Fin k0_t3_loop.trips) : k0_off10 v0 t2 t3 = ![(t2.val * 12 + t3.val) * nv % 8, 0, 0, 0] := by
  subst hv; have := tile_le h2 t2 t3
  unfold k0_off10; simp only [wadd, wmul, wand7, wand1, wiv0, wiv1, Scalar.indexCast]
  simp (disch := omega) only [wnat]

theorem off24_eq (t2 : Fin k0_t2_loop.trips) (t3 : Fin k0_t3_loop.trips) (t4 : Fin (k0_t4_loop v0).trips) : k0_off24 v0 t2 t3 t4 = ![(((t2.val * 12 + t3.val) * nv + (1 + t4.val)) + 1) % 8] := by
  have := lt4 hv h1 h2 t4; subst hv; have := tile_le h2 t2 t3
  unfold k0_off24; simp only [wadd, wmul, wand7, wand1, wiv0, wiv1, Scalar.indexCast]
  simp (disch := omega) only [wnat]

theorem off25_eq (t2 : Fin k0_t2_loop.trips) (t3 : Fin k0_t3_loop.trips) (t4 : Fin (k0_t4_loop v0).trips) : k0_off25 v0 t2 t3 t4 = ![(((t2.val * 12 + t3.val) * nv + (1 + t4.val)) + 1) % 8, 0, 0, 0] := by
  have := lt4 hv h1 h2 t4; subst hv; have := tile_le h2 t2 t3
  unfold k0_off25; simp only [wadd, wmul, wand7, wand1, wiv0, wiv1, Scalar.indexCast]
  simp (disch := omega) only [wnat]

theorem off30_eq (t2 : Fin k0_t2_loop.trips) (t3 : Fin k0_t3_loop.trips) (t4 : Fin (k0_t4_loop v0).trips) : k0_off30 v0 t2 t3 t4 = ![(((t2.val * 12 + t3.val) * nv + (1 + t4.val)) + 1) % 8, 0, 0, 0] := by
  have := lt4 hv h1 h2 t4; subst hv; have := tile_le h2 t2 t3
  unfold k0_off30; simp only [wadd, wmul, wand7, wand1, wiv0, wiv1, Scalar.indexCast]
  simp (disch := omega) only [wnat]

theorem off31_eq (t2 : Fin k0_t2_loop.trips) (t3 : Fin k0_t3_loop.trips) (t4 : Fin (k0_t4_loop v0).trips) : k0_off31 v0 t2 t3 t4 = ![(((t2.val * 12 + t3.val) * nv + (1 + t4.val)) + 1) % 8, 1, 0, 0] := by
  have := lt4 hv h1 h2 t4; subst hv; have := tile_le h2 t2 t3
  unfold k0_off31; simp only [wadd, wmul, wand7, wand1, wiv0, wiv1, Scalar.indexCast]
  simp (disch := omega) only [wnat]

theorem off32_eq (t2 : Fin k0_t2_loop.trips) (t3 : Fin k0_t3_loop.trips) (t4 : Fin (k0_t4_loop v0).trips) : k0_off32 v0 t2 t3 t4 = ![(((t2.val * 12 + t3.val) * nv + (1 + t4.val)) + 1) % 8, 2, 0, 0] := by
  have := lt4 hv h1 h2 t4; subst hv; have := tile_le h2 t2 t3
  unfold k0_off32; simp only [wadd, wmul, wand7, wand1, wiv0, wiv1, Scalar.indexCast]
  simp (disch := omega) only [wnat]

theorem off33_eq (t2 : Fin k0_t2_loop.trips) (t3 : Fin k0_t3_loop.trips) (t4 : Fin (k0_t4_loop v0).trips) : k0_off33 v0 t2 t3 t4 = ![(((t2.val * 12 + t3.val) * nv + (1 + t4.val)) + 1) % 8, 3, 0, 0] := by
  have := lt4 hv h1 h2 t4; subst hv; have := tile_le h2 t2 t3
  unfold k0_off33; simp only [wadd, wmul, wand7, wand1, wiv0, wiv1, Scalar.indexCast]
  simp (disch := omega) only [wnat]

theorem off26_eq (t2 : Fin k0_t2_loop.trips) (t3 : Fin k0_t3_loop.trips) (t4 : Fin (k0_t4_loop v0).trips) : k0_off26 v0 t2 t3 t4 = ![((t2.val * 12 + t3.val) * nv + (1 + t4.val)) % 8] := by
  have := lt4 hv h1 h2 t4; subst hv; have := tile_le h2 t2 t3
  unfold k0_off26; simp only [wadd, wmul, wand7, wand1, wiv0, wiv1, Scalar.indexCast]
  simp (disch := omega) only [wnat]

theorem off27_eq (t2 : Fin k0_t2_loop.trips) (t3 : Fin k0_t3_loop.trips) (t4 : Fin (k0_t4_loop v0).trips) : k0_off27 v0 t2 t3 t4 = ![((t2.val * 12 + t3.val) * nv + (1 + t4.val)) % 8, 0, 0, 0] := by
  have := lt4 hv h1 h2 t4; subst hv; have := tile_le h2 t2 t3
  unfold k0_off27; simp only [wadd, wmul, wand7, wand1, wiv0, wiv1, Scalar.indexCast]
  simp (disch := omega) only [wnat]

theorem off29_eq (t4 : Fin (k0_t4_loop v0).trips) (c : ℕ) (hc : c < 2) : k0_off29 v0 t4 (BitVec.ofNat 32 c) = ![2 * (1 + t4.val) + c, 0, 0] := by
  have := lt4 hv h1 h2 t4; subst hv
  unfold k0_off29; simp only [wadd, wmul, wand7, wand1, wiv0, wiv1, Scalar.indexCast]
  simp (disch := omega) only [wnat]

theorem off34_eq (t4 : Fin (k0_t4_loop v0).trips) (c : ℕ) (hc : c < 2) : k0_off34 v0 t4 (BitVec.ofNat 32 c) = ![2 * (1 + t4.val) + c, 128, 0] := by
  have := lt4 hv h1 h2 t4; subst hv
  unfold k0_off34; simp only [wadd, wmul, wand7, wand1, wiv0, wiv1, Scalar.indexCast]
  simp (disch := omega) only [wnat]

theorem off35_eq (t4 : Fin (k0_t4_loop v0).trips) (c : ℕ) (hc : c < 2) : k0_off35 v0 t4 (BitVec.ofNat 32 c) = ![2 * (1 + t4.val) + c, 256, 0] := by
  have := lt4 hv h1 h2 t4; subst hv
  unfold k0_off35; simp only [wadd, wmul, wand7, wand1, wiv0, wiv1, Scalar.indexCast]
  simp (disch := omega) only [wnat]

theorem off36_eq (t4 : Fin (k0_t4_loop v0).trips) (c : ℕ) (hc : c < 2) : k0_off36 v0 t4 (BitVec.ofNat 32 c) = ![2 * (1 + t4.val) + c, 384, 0] := by
  have := lt4 hv h1 h2 t4; subst hv
  unfold k0_off36; simp only [wadd, wmul, wand7, wand1, wiv0, wiv1, Scalar.indexCast]
  simp (disch := omega) only [wnat]

theorem cond1_iff (t1 : Fin k0_t1_loop.trips) : k0_cond1 v0 t1 = 1#1 ↔ t1.val < 192 * nv := by
  have := lt1 t1; subst hv
  unfold k0_cond1; simp only [wadd, wmul, wand7, wand1, wiv0, wiv1, Scalar.indexCast]
  rw [wslt _ _ (by omega) (by omega)]

theorem cond3_iff (t2 : Fin k0_t2_loop.trips) (t3 : Fin k0_t3_loop.trips) : k0_cond3 v0 t2 t3 = 1#1 ↔ (t2.val * 12 + t3.val) * nv + 1 < 192 * nv := by
  subst hv; have := tile_le h2 t2 t3
  unfold k0_cond3; simp only [wadd, wmul, wand7, wand1, wiv0, wiv1, Scalar.indexCast]
  rw [wslt _ _ (by omega) (by omega)]

theorem cond4_iff (t2 : Fin k0_t2_loop.trips) (t3 : Fin k0_t3_loop.trips) : k0_cond4 v0 t2 t3 = 1#1 ↔ (t2.val * 12 + t3.val) * nv + 8 < 192 * nv := by
  subst hv; have := tile_le h2 t2 t3
  unfold k0_cond4; simp only [wadd, wmul, wand7, wand1, wiv0, wiv1, Scalar.indexCast]
  rw [wslt _ _ (by omega) (by omega)]

theorem cond5_iff (t2 : Fin k0_t2_loop.trips) (t3 : Fin k0_t3_loop.trips) (t4 : Fin (k0_t4_loop v0).trips) : k0_cond5 v0 t2 t3 t4 = 1#1 ↔ ((t2.val * 12 + t3.val) * nv + (1 + t4.val)) + 1 < 192 * nv := by
  have := lt4 hv h1 h2 t4; subst hv; have := tile_le h2 t2 t3
  unfold k0_cond5; simp only [wadd, wmul, wand7, wand1, wiv0, wiv1, Scalar.indexCast]
  rw [wslt _ _ (by omega) (by omega)]

theorem cond6_iff (t2 : Fin k0_t2_loop.trips) (t3 : Fin k0_t3_loop.trips) (t4 : Fin (k0_t4_loop v0).trips) : k0_cond6 v0 t2 t3 t4 = 1#1 ↔ ((t2.val * 12 + t3.val) * nv + (1 + t4.val)) + 8 < 192 * nv := by
  have := lt4 hv h1 h2 t4; subst hv; have := tile_le h2 t2 t3
  unfold k0_cond6; simp only [wadd, wmul, wand7, wand1, wiv0, wiv1, Scalar.indexCast]
  rw [wslt _ _ (by omega) (by omega)]

omit hv h1 h2

theorem cond2_iff (t2 : Fin k0_t2_loop.trips) (t3 : Fin k0_t3_loop.trips) : k0_cond2 t2 t3 = 1#1 ↔ 3 ≤ (t2.val * 12 + t3.val) := by
  have b2 := lt2 t2; have b3 := lt3 t3
  unfold k0_cond2; simp only [wadd, wmul, wand7, wand1, wiv0, wiv1, Scalar.indexCast]
  rw [wsge _ _ (by omega) (by omega)]

theorem cond9_iff (t2 : Fin k0_t2_loop.trips) (t3 : Fin k0_t3_loop.trips) : k0_cond9 t2 t3 = 1#1 ↔ 1 ≤ (t2.val * 12 + t3.val) := by
  have b2 := lt2 t2; have b3 := lt3 t3
  unfold k0_cond9; simp only [wadd, wmul, wand7, wand1, wiv0, wiv1, Scalar.indexCast]
  rw [wsge _ _ (by omega) (by omega)]

include hv h1 h2

theorem chk2_0_ok : k0_chk2_0 v0 := by
  unfold k0_chk2_0
  exact ⟨(fun t2 t3 _ => by rw [off7_eq hv h1 h2 t2 t3]; intro a; fin_cases a <;> simp [S1, S8, S1x4x128x128, S8x4x128x128, S1x1x128x128, S1x128x128, S80x512x128] <;> omega),
    (fun t2 t3 _ => by rw [off8_eq hv h1 h2 t2 t3]; intro a; fin_cases a <;> simp [S1, S8, S1x4x128x128, S8x4x128x128, S1x1x128x128, S1x128x128, S80x512x128] <;> omega),
    (fun t2 t3 _ => by rw [off9_eq hv h1 h2 t2 t3]; intro a; fin_cases a <;> simp [S1, S8, S1x4x128x128, S8x4x128x128, S1x1x128x128, S1x128x128, S80x512x128] <;> omega),
    (fun t2 t3 _ => by rw [off10_eq hv h1 h2 t2 t3]; intro a; fin_cases a <;> simp [S1, S8, S1x4x128x128, S8x4x128x128, S1x1x128x128, S1x128x128, S80x512x128] <;> omega),
    (fun t2 t3 => by rw [off13_eq hv h1 h2 t2 t3]; intro a; fin_cases a <;> simp [S1, S8, S1x4x128x128, S8x4x128x128, S1x1x128x128, S1x128x128, S80x512x128] <;> omega),
    (fun t2 t3 => by rw [off14_eq hv h1 h2 t2 t3]; intro a; fin_cases a <;> simp [S1, S8, S1x4x128x128, S8x4x128x128, S1x1x128x128, S1x128x128, S80x512x128] <;> omega),
    (fun t2 t3 => by rw [off16_eq hv h1 h2 t2 t3]; intro a; fin_cases a <;> simp [S1, S8, S1x4x128x128, S8x4x128x128, S1x1x128x128, S1x128x128, S80x512x128] <;> omega),
    (fun t2 t3 => by rw [off17_eq hv h1 h2 t2 t3]; intro a; fin_cases a <;> simp [S1, S8, S1x4x128x128, S8x4x128x128, S1x1x128x128, S1x128x128, S80x512x128] <;> omega),
    (ok4 hv h1 h2),
    (fun t2 t3 t4 _ => by rw [off24_eq hv h1 h2 t2 t3 t4]; intro a; fin_cases a <;> simp [S1, S8, S1x4x128x128, S8x4x128x128, S1x1x128x128, S1x128x128, S80x512x128] <;> omega),
    (fun t2 t3 t4 _ => by rw [off25_eq hv h1 h2 t2 t3 t4]; intro a; fin_cases a <;> simp [S1, S8, S1x4x128x128, S8x4x128x128, S1x1x128x128, S1x128x128, S80x512x128] <;> omega),
    (fun t2 t3 t4 _ => by rw [off26_eq hv h1 h2 t2 t3 t4]; intro a; fin_cases a <;> simp [S1, S8, S1x4x128x128, S8x4x128x128, S1x1x128x128, S1x128x128, S80x512x128] <;> omega),
    (fun t2 t3 t4 _ => by rw [off27_eq hv h1 h2 t2 t3 t4]; intro a; fin_cases a <;> simp [S1, S8, S1x4x128x128, S8x4x128x128, S1x1x128x128, S1x128x128, S80x512x128] <;> omega),
    (fun t4 r => by have b4 := lt4 hv h1 h2 t4; have br := r.isLt; rw [off29_eq hv h1 h2 t4 r.val r.isLt]; intro a; fin_cases a <;> simp [S1, S8, S1x4x128x128, S8x4x128x128, S1x1x128x128, S1x128x128, S80x512x128] <;> omega),
    (fun t2 t3 t4 => by rw [off30_eq hv h1 h2 t2 t3 t4]; intro a; fin_cases a <;> simp [S1, S8, S1x4x128x128, S8x4x128x128, S1x1x128x128, S1x128x128, S80x512x128] <;> omega),
    (fun t2 t3 t4 => by rw [off31_eq hv h1 h2 t2 t3 t4]; intro a; fin_cases a <;> simp [S1, S8, S1x4x128x128, S8x4x128x128, S1x1x128x128, S1x128x128, S80x512x128] <;> omega),
    (fun t2 t3 t4 => by rw [off32_eq hv h1 h2 t2 t3 t4]; intro a; fin_cases a <;> simp [S1, S8, S1x4x128x128, S8x4x128x128, S1x1x128x128, S1x128x128, S80x512x128] <;> omega),
    (fun t2 t3 t4 => by rw [off33_eq hv h1 h2 t2 t3 t4]; intro a; fin_cases a <;> simp [S1, S8, S1x4x128x128, S8x4x128x128, S1x1x128x128, S1x128x128, S80x512x128] <;> omega),
    (fun t4 r => by have b4 := lt4 hv h1 h2 t4; have br := r.isLt; rw [off34_eq hv h1 h2 t4 r.val r.isLt]; intro a; fin_cases a <;> simp [S1, S8, S1x4x128x128, S8x4x128x128, S1x1x128x128, S1x128x128, S80x512x128] <;> omega),
    (fun t4 r => by have b4 := lt4 hv h1 h2 t4; have br := r.isLt; rw [off35_eq hv h1 h2 t4 r.val r.isLt]; intro a; fin_cases a <;> simp [S1, S8, S1x4x128x128, S8x4x128x128, S1x1x128x128, S1x128x128, S80x512x128] <;> omega),
    (fun t4 r => by have b4 := lt4 hv h1 h2 t4; have br := r.isLt; rw [off36_eq hv h1 h2 t4 r.val r.isLt]; intro a; fin_cases a <;> simp [S1, S8, S1x4x128x128, S8x4x128x128, S1x1x128x128, S1x128x128, S80x512x128] <;> omega),
    (Scf.rem_ok _ _),
    (fun _ _ t5 _ => (no5 t5).elim),
    (fun _ _ t5 _ => (no5 t5).elim),
    (fun _ _ t5 _ => (no5 t5).elim),
    (fun _ _ t5 _ => (no5 t5).elim),
    (fun t5 _ => (no5 t5).elim),
    (fun _ _ t5 => (no5 t5).elim),
    (fun _ _ t5 => (no5 t5).elim),
    (fun _ _ t5 => (no5 t5).elim),
    (fun _ _ t5 => (no5 t5).elim),
    (fun t5 _ => (no5 t5).elim)⟩

theorem chk2_ok : k0_chk2 v0 := by
  unfold k0_chk2 k0_chk2_1
  exact ⟨chk2_0_ok hv h1 h2, (fun t5 _ => (no5 t5).elim), (fun t5 _ => (no5 t5).elim)⟩
omit hv h1 h2

theorem chk1_ok (v0 : BitVec 32) (t1 : Fin k0_t1_loop.trips) (a b : ℕ) (ha : a < 12) (hb : b < 40) : k0_chk1 v0 t1 (BitVec.ofNat 32 a) (BitVec.ofNat 32 b) := by
  unfold k0_chk1
  refine ⟨fun _ => ?_, fun _ => ?_⟩
  · unfold k0_mult1; simp only [wmul]; rw [wnat _ (by omega)]; exact ⟨b, Nat.mul_comm _ _⟩
  · rw [off3_eq a b (by omega) (by omega)]; intro i; fin_cases i <;> simp [S4x128x128, S48x5120x128] <;> omega

theorem chk3_ok (v0 : BitVec 32) (t2 : Fin k0_t2_loop.trips) (t3 : Fin k0_t3_loop.trips) (a b : ℕ) (ha : a < 12) (hb : b < 40) : k0_chk3 v0 t2 t3 (BitVec.ofNat 32 a) (BitVec.ofNat 32 b) := by
  unfold k0_chk3
  refine ⟨fun _ => ?_, fun _ => ?_⟩
  · unfold k0_mult6; simp only [wmul]; rw [wnat _ (by omega)]; exact ⟨b, Nat.mul_comm _ _⟩
  · rw [off11_eq a b (by omega) (by omega)]; intro i; fin_cases i <;> simp [S4x128x128, S48x5120x128] <;> omega

theorem chk4_ok (v0 : BitVec 32) (t2 : Fin k0_t2_loop.trips) (t3 : Fin k0_t3_loop.trips) (t4 : Fin (k0_t4_loop v0).trips) (a b : ℕ) (ha : a < 12) (hb : b < 40) : k0_chk4 v0 t2 t3 t4 (BitVec.ofNat 32 a) (BitVec.ofNat 32 b) := by
  unfold k0_chk4
  refine ⟨fun _ => ?_, fun _ => ?_⟩
  · unfold k0_mult8; simp only [wmul]; rw [wnat _ (by omega)]; exact ⟨b, Nat.mul_comm _ _⟩
  · rw [off28_eq a b (by omega) (by omega)]; intro i; fin_cases i <;> simp [S4x128x128, S48x5120x128] <;> omega
end
/-- The channel group and the token chunk of block `b` of the sequence of blocks. -/
def kOf (nv b : ℕ) : ℕ := b / nv % 12
def vOf (nv b : ℕ) : ℕ := b % nv
theorem kOf_lt (nv b : ℕ) : kOf nv b < 12 := Nat.mod_lt _ (by decide)
theorem vOf_lt {nv : ℕ} (h1 : 1 ≤ nv) (b : ℕ) : vOf nv b < nv := Nat.mod_lt _ (by omega)
/-- Advancing the pair of words (group, chunk) of block `b` gives that of block `b + 1`. -/
theorem advance {nv : ℕ} (h1 : 1 ≤ nv) (h2 : nv ≤ 40) (b : ℕ) :
    let v := Scalar.addi (BitVec.ofNat 32 (vOf nv b)) 1#32
    let w := Scalar.cmpi .eq v (BitVec.ofNat 32 nv)
    let k := Scalar.select w (Scalar.addi (BitVec.ofNat 32 (kOf nv b)) 1#32) (BitVec.ofNat 32 (kOf nv b))
    Scalar.select w 0#32 v = BitVec.ofNat 32 (vOf nv (b + 1)) ∧
      Scalar.select (Scalar.cmpi .eq k 12#32) 0#32 k = BitVec.ofNat 32 (kOf nv (b + 1)) := by
  intro v w k
  have hvl := vOf_lt h1 b
  have hkl := kOf_lt nv b
  have e1 : v = BitVec.ofNat 32 (vOf nv b + 1) := wadd _ 1
  have e2 : w = Scalar.cmpi .eq (BitVec.ofNat 32 (vOf nv b + 1)) (BitVec.ofNat 32 nv) := by rw [← e1]
  have hb : nv * (b / nv) + vOf nv b = b := Nat.div_add_mod b nv
  have e3 : k = if vOf nv b + 1 = nv then BitVec.ofNat 32 (kOf nv b + 1) else BitVec.ofNat 32 (kOf nv b) := by
    show Scalar.select w _ _ = _
    rw [e2, weq _ _ (by omega) (by omega), wadd]
  by_cases h : vOf nv b + 1 = nv
  · have hd : (b + 1) = nv * (b / nv + 1) := by rw [Nat.mul_add]; omega
    have hv' : vOf nv (b + 1) = 0 := by unfold vOf; rw [hd]; exact Nat.mul_mod_right _ _
    have hk' : kOf nv (b + 1) = (b / nv + 1) % 12 := by unfold kOf; rw [hd, Nat.mul_div_cancel_left _ (by omega)]
    rw [e2, weq _ _ (by omega) (by omega), if_pos h, e3, if_pos h, weq _ _ (by omega) (by omega), hv', hk']
    refine ⟨rfl, ?_⟩
    unfold kOf
    split <;> congr 1 <;> unfold kOf at * <;> omega
  · have hd : (b + 1) = vOf nv b + 1 + nv * (b / nv) := by omega
    have hv' : vOf nv (b + 1) = vOf nv b + 1 := by
      conv_lhs => unfold vOf
      rw [hd, Nat.add_mul_mod_self_left]; exact Nat.mod_eq_of_lt (by omega)
    have hk' : kOf nv (b + 1) = kOf nv b := by
      conv_lhs => unfold kOf
      rw [hd, Nat.add_mul_div_left _ _ (by omega), Nat.div_eq_of_lt (by omega), Nat.zero_add]; rfl
    rw [e2, weq _ _ (by omega) (by omega), if_neg h, e3, if_neg h, weq _ _ (by omega) (by omega), if_neg (by omega), hv', hk', e1]
    exact ⟨rfl, rfl⟩
theorem block_at {nv : ℕ} (h1 : 1 ≤ nv) (j v : ℕ) (hv : v < nv) : (j * nv + v) / nv = j ∧ (j * nv + v) % nv = v := by
  rw [Nat.mul_comm j nv, Nat.add_comm (nv * j), Nat.add_mul_div_left _ _ (by omega), Nat.div_eq_of_lt hv, Nat.zero_add, Nat.add_mul_mod_self_left,
    Nat.mod_eq_of_lt hv]
  exact ⟨rfl, rfl⟩
end Cert.Kernel.Gen
-- ==== Proof.Geo.lean ====
module
public import proofs.«01_k».proof.Proof.Base
public import proofs.«01_k».proof.Proof.Gen.Kernel.Launch
public import Idealize.ShloMosaic.Lib.Transfers
public import Idealize.ShloMosaic.Lib.ValueLayout
public import Idealize.ShloMosaic.Lib.Pipeline.ValueKit.Geometry
@[expose] public section
noncomputable section
namespace Cert.Kernel.Gen
open Idealize.ShloMosaic Idealize.ShloMosaic.TcCoe Idealize.ShloMosaic.ValueKit Idealize.ShloMosaic.ValueIdx
variable {F : FTy → Type}

/-! ## The memory references of the kernel and where their elements lie -/

abbrev dyqM : Memref sig .tc .hbm S16x80x512x128 .i32 := Memref.whole main_arg0
abbrev xqM : Memref sig .tc .hbm S48x5120x128 .i32 := Memref.whole main_arg1
abbrev dwM : Memref sig .tc .hbm S16384x6144 .f32 := Memref.whole main_v0
abbrev lhsM : Memref sig .tc .vmem S80x512x128 .i32 := Memref.whole cc0_scratch0
abbrev xrM : Memref sig .tc .vmem S8x4x128x128 .i32 := Memref.whole cc0_scratch1
abbrev ostM : Memref sig .tc .vmem S2x1024x512 .f32 := Memref.whole cc0_scratch2

/-- A slot of the ring of weight blocks, a block of the words it is filled from, and a slot's semaphore. -/
abbrev slotM (o : Fin 4 → ℕ) (h : ∀ a, o a + S1x4x128x128.size a ≤ S8x4x128x128.size a) : Memref sig .tc .vmem S4x128x128 .i32 :=
  (xrM.slice (Rect.unit (s := S8x4x128x128) o S1x4x128x128.size h) (fun _ => rfl)).squeeze S4x128x128 squeezes_S1x4x128x128_S4x128x128
abbrev blkM (o : Fin 3 → ℕ) (h : ∀ a, o a + S4x128x128.size a ≤ S48x5120x128.size a) : Memref sig .tc .hbm S4x128x128 .i32 :=
  xqM.slice (Rect.unit (s := S48x5120x128) o S4x128x128.size h) (fun _ => rfl)
abbrev cellM (o : Fin 1 → ℕ) (h : ∀ a, o a + S1.size a ≤ S8.size a) : DmaSem sig :=
  ((cc0_scratch3.slice (Rect.unit (s := S8) o S1.size h)).squeeze S_ squeezes_S1_S_).sem
/-- A slab of the left operand, a slot of the output staging buffer, a tile of the result, and a slot's semaphore. -/
abbrev slabM (o : Fin 4 → ℕ) (h : ∀ a, o a + S1x80x512x128.size a ≤ S16x80x512x128.size a) : Memref sig .tc .hbm S80x512x128 .i32 :=
  (dyqM.slice (Rect.unit (s := S16x80x512x128) o S1x80x512x128.size h) (fun _ => rfl)).squeeze S80x512x128 squeezes_S1x80x512x128_S80x512x128
abbrev ostSlotM (o : Fin 3 → ℕ) (h : ∀ a, o a + S1x1024x512.size a ≤ S2x1024x512.size a) : Memref sig .tc .vmem S1024x512 .f32 :=
  (ostM.slice (Rect.unit (s := S2x1024x512) o S1x1024x512.size h) (fun _ => rfl)).squeeze S1024x512 squeezes_S1x1024x512_S1024x512
abbrev tileM (o : Fin 2 → ℕ) (h : ∀ a, o a + S1024x512.size a ≤ S16384x6144.size a) : Memref sig .tc .hbm S1024x512 .f32 :=
  dwM.slice (Rect.unit (s := S16384x6144) o S1024x512.size h) (fun _ => rfl)
abbrev ocellM (o : Fin 1 → ℕ) (h : ∀ a, o a + S1.size a ≤ S2.size a) : DmaSem sig :=
  ((cc0_scratch5.slice (Rect.unit (s := S2) o S1.size h)).squeeze S_ squeezes_S1_S_).sem

/-- The elements of ring slot `i`, of staging slot `i`, of result tile `t`, of the tiles from `t` on, of those before `t`. -/
def slotSet (i : ℕ) : Finset S8x4x128x128.Idx := Finset.univ.filter fun x => (x 0).val = i
def ostSet (i : ℕ) : Finset S2x1024x512.Idx := Finset.univ.filter fun x => (x 0).val = i
def tileOf (x : S16384x6144.Idx) : ℕ := (x 0).val / 1024 * 12 + (x 1).val / 512
def tileSet (t : ℕ) : Finset S16384x6144.Idx := Finset.univ.filter fun x => tileOf x = t
def geSet (t : ℕ) : Finset S16384x6144.Idx := Finset.univ.filter fun x => t ≤ tileOf x
def ltSet (t : ℕ) : Finset S16384x6144.Idx := Finset.univ.filter fun x => tileOf x < t

theorem slot_set (i : ℕ) (h) : (slotM ![i, 0, 0, 0] h).view.set = slotSet i := by
  show (View.reshape (View.slice (View.whole cc0_scratch1) _) _ _).set = _
  rw [View.set_reshape, View.set_slice_whole]
  ext x
  rw [Rect.mem_set_unit, slotSet, Finset.mem_filter]
  have h1 : (x 1).val < 4 := (x 1).isLt
  have h2 : (x 2).val < 128 := (x 2).isLt
  have h3 : (x 3).val < 128 := (x 3).isLt
  constructor
  · intro hx
    have h0 := hx 0
    simp [S1x4x128x128] at h0
    exact ⟨Finset.mem_univ _, by omega⟩
  · rintro ⟨-, hx⟩ a
    fin_cases a <;> simp [S1x4x128x128] <;> omega
theorem ost_set (i : ℕ) (h) : (ostSlotM ![i, 0, 0] h).view.set = ostSet i := by
  show (View.reshape (View.slice (View.whole cc0_scratch2) _) _ _).set = _
  rw [View.set_reshape, View.set_slice_whole]
  ext x
  rw [Rect.mem_set_unit, ostSet, Finset.mem_filter]
  have h1 : (x 1).val < 1024 := (x 1).isLt
  have h2 : (x 2).val < 512 := (x 2).isLt
  constructor
  · intro hx
    have h0 := hx 0
    simp [S1x1024x512] at h0
    exact ⟨Finset.mem_univ _, by omega⟩
  · rintro ⟨-, hx⟩ a
    fin_cases a <;> simp [S1x1024x512] <;> omega
theorem tile_set (t : ℕ) (h) : (tileM ![t / 12 * 1024, t % 12 * 512] h).view.set = tileSet t := by
  show (View.slice (View.whole main_v0) _).set = _
  rw [View.set_slice_whole]
  ext x
  rw [Rect.mem_set_unit, tileSet, Finset.mem_filter]
  have h1 : (x 0).val < 16384 := (x 0).isLt
  have h2 : (x 1).val < 6144 := (x 1).isLt
  unfold tileOf
  constructor
  · intro hx
    have h0 := hx 0
    have h1 := hx 1
    simp [S1024x512] at h0 h1
    exact ⟨Finset.mem_univ _, by omega⟩
  · rintro ⟨-, hx⟩ a
    fin_cases a <;> simp [S1024x512] <;> omega
theorem slab_set (s : ℕ) (h : ∀ a, (![s, 0, 0, 0] : Fin 4 → ℕ) a + S1x80x512x128.size a ≤ S16x80x512x128.size a) (x : S16x80x512x128.Idx) :
    x ∈ (slabM ![s, 0, 0, 0] h).view.set ↔ (x 0).val = s := by
  show x ∈ (View.reshape (View.slice (View.whole main_arg0) (Rect.unit (s := S16x80x512x128) ![s, 0, 0, 0] S1x80x512x128.size h)) _ squeezes_S1x80x512x128_S80x512x128.numel_eq).set ↔ _
  rw [View.set_reshape, View.set_slice_whole, Rect.mem_set_unit]
  have h1 : (x 1).val < 80 := (x 1).isLt
  have h2 : (x 2).val < 512 := (x 2).isLt
  have h3 : (x 3).val < 128 := (x 3).isLt
  constructor
  · intro hx
    have h0 := hx 0
    simp [S1x80x512x128] at h0
    omega
  · intro hx a
    fin_cases a <;> simp [S1x80x512x128] <;> omega

theorem tileOf_lt (x : S16384x6144.Idx) : tileOf x < 192 := by
  have h1 : (x 0).val < 16384 := (x 0).isLt
  have h2 : (x 1).val < 6144 := (x 1).isLt
  unfold tileOf; omega
theorem ge_zero : geSet 0 = Finset.univ := by ext x; simp [geSet]
theorem lt_end : ltSet 192 = Finset.univ := by ext x; simp [ltSet, tileOf_lt]
theorem ge_succ (t : ℕ) : geSet t = tileSet t ∪ geSet (t + 1) := by ext x; simp [geSet, tileSet]; omega
theorem ge_disj (t : ℕ) : Disjoint (tileSet t) (geSet (t + 1)) := by
  rw [Finset.disjoint_left]; intro x; simp [geSet, tileSet]; omega
theorem lt_succ (t : ℕ) : ltSet (t + 1) = ltSet t ∪ tileSet t := by ext x; simp [ltSet, tileSet]; omega
theorem lt_disj (t : ℕ) : Disjoint (ltSet t) (tileSet t) := by
  rw [Finset.disjoint_left]; intro x; simp [ltSet, tileSet]; omega
theorem lt_zero : ltSet 0 = ∅ := by ext x; simp [ltSet]

/-- The cells by their numbers. -/
theorem cell_val (i : ℕ) (hi : i < 8) (h) : cellM ![i] h = (⟨2 + i, by omega⟩ : Fin 13) := by
  apply Fin.ext
  show 2 + (S8.rowMajor ((Rect.unit (s := S8) ![i] S1.size h).emb (Shape.reshapeEquiv squeezes_S1_S_.numel_eq fun a => a.elim0)) : ℕ) = _
  congr 1
  rw [Shape.rowMajor_val_one, rect_emb_unit_val]
  have : ((Shape.reshapeEquiv squeezes_S1_S_.numel_eq fun a => a.elim0 : S1.Idx) 0).val < 1 := Fin.isLt _
  show i + ((Shape.reshapeEquiv squeezes_S1_S_.numel_eq fun a => a.elim0 : S1.Idx) 0).val = i
  omega
theorem ocell_val (i : ℕ) (hi : i < 2) (h) : ocellM ![i] h = (⟨11 + i, by omega⟩ : Fin 13) := by
  apply Fin.ext
  show 11 + (S2.rowMajor ((Rect.unit (s := S2) ![i] S1.size h).emb (Shape.reshapeEquiv squeezes_S1_S_.numel_eq fun a => a.elim0)) : ℕ) = _
  congr 1
  rw [Shape.rowMajor_val_one, rect_emb_unit_val]
  have : ((Shape.reshapeEquiv squeezes_S1_S_.numel_eq fun a => a.elim0 : S1.Idx) 0).val < 1 := Fin.isLt _
  show i + ((Shape.reshapeEquiv squeezes_S1_S_.numel_eq fun a => a.elim0 : S1.Idx) 0).val = i
  omega

/-! ## What the buffers hold -/

/-- The words of weight block `b` of the sequence, at the places of its ring slot. -/
def blkBuf (X : S48x5120x128.Idx → BitVec 32) (nv b : ℕ) : S8x4x128x128.Idx → BitVec 32 := fun x =>
  X (ix3 (⟨(kOf nv b * 4 + (x 1).val) % 48, Nat.mod_lt _ (by decide)⟩ : Fin 48)
    (⟨(vOf nv b * 128 + (x 2).val) % 5120, Nat.mod_lt _ (by decide)⟩ : Fin 5120) (x 3))
/-- The words of slab `s` of the left operand. -/
def slabBuf (D : S16x80x512x128.Idx → BitVec 32) (s : ℕ) : S80x512x128.Idx → BitVec 32 := fun x =>
  D (ix4 (⟨s % 16, Nat.mod_lt _ (by decide)⟩ : Fin 16) (x 0) (x 1) (x 2))

theorem blk_landed (X : S48x5120x128.Idx → BitVec 32) {nv : ℕ} (h1 : 1 ≤ nv) (h2 : nv ≤ 40) (b i : ℕ) (h) (h')
    (fd : S8x4x128x128.Idx → BitVec 32) (x : S8x4x128x128.Idx) (hx : x ∈ slotSet i) :
    (slotM ![i, 0, 0, 0] h).view.write (Elt F) fd (ReadAs.same.apply ((blkM ![kOf nv b * 4, vOf nv b * 128, 0] h').view.read (Elt F) X)) Finset.univ x
      = blkBuf X nv b x := by
  have hx0 : (x 0).val = i := (Finset.mem_filter.1 hx).2
  have e : (slotM ![i, 0, 0, 0] h).view.emb (ix3 (x 1) (x 2) (x 3)) = x := by
    show (Rect.unit (s := S8x4x128x128) ![i, 0, 0, 0] S1x4x128x128.size h).emb (Shape.reshapeEquiv _ (ix3 (x 1) (x 2) (x 3))) = x
    refine (congrArg (Rect.unit (s := S8x4x128x128) ![i, 0, 0, 0] S1x4x128x128.size h).emb
      (reshapeEquiv_ix3_1abc squeezes_S1x4x128x128_S4x128x128.numel_eq (x 1) (x 2) (x 3))).trans ?_
    funext a; apply Fin.ext
    rw [rect_emb_unit_val]
    fin_cases a <;> simp <;> omega
  conv_lhs => rw [← e]
  rw [View.write_emb_of_mem _ _ (Finset.mem_univ _)]
  show X ((Rect.unit (s := S48x5120x128) ![kOf nv b * 4, vOf nv b * 128, 0] S4x128x128.size h').emb (ix3 (x 1) (x 2) (x 3))) = X _
  congr 1
  have hk := kOf_lt nv b
  have hv := vOf_lt h1 b
  have h1 : (x 1).val < 4 := (x 1).isLt
  have h2 : (x 2).val < 128 := (x 2).isLt
  funext a; apply Fin.ext
  rw [rect_emb_unit_val]
  fin_cases a
  · show kOf nv b * 4 + (x 1).val = _ % 48; omega
  · show vOf nv b * 128 + (x 2).val = _ % 5120; omega
  · show 0 + (x 3).val = _; simp
theorem slab_landed (D : S16x80x512x128.Idx → BitVec 32) (s : ℕ) (hs : s < 16) (h)
    (fd : S80x512x128.Idx → BitVec 32) :
    lhsM.view.write (Elt F) fd (ReadAs.same.apply ((slabM ![s, 0, 0, 0] h).view.read (Elt F) D)) Finset.univ
      = slabBuf D s := by
  show (View.whole cc0_scratch0).write (Elt F) fd _ Finset.univ = _
  rw [View.write_whole_univ]
  funext x
  show D ((Rect.unit (s := S16x80x512x128) ![s, 0, 0, 0] S1x80x512x128.size h).emb (Shape.reshapeEquiv _ x)) = D _
  congr 1
  have e : x = ix3 (x 0) (x 1) (x 2) := by funext a; fin_cases a <;> rfl
  refine (congrArg (Rect.unit (s := S16x80x512x128) ![s, 0, 0, 0] S1x80x512x128.size h).emb
      ((congrArg _ e).trans (reshapeEquiv_ix3_1abc squeezes_S1x80x512x128_S80x512x128.numel_eq (x 0) (x 1) (x 2)))).trans ?_
  funext a; apply Fin.ext
  rw [rect_emb_unit_val]
  fin_cases a
  · show s + 0 = s % 16; omega
  · show 0 + (x 0).val = (x 0).val; omega
  · show 0 + (x 1).val = (x 1).val; omega
  · show 0 + (x 2).val = (x 2).val; omega
theorem tile_landed (O : S2x1024x512.Idx → Elt F .f32) (G : S16384x6144.Idx → Elt F .f32) (t p : ℕ) (h) (h') (ht : t < 192)
    (fd : BufTy.Contents (Elt F) (tileM ![t / 12 * 1024, t % 12 * 512] h).view.ty)
    (hG : ∀ x : S2x1024x512.Idx, (x 0).val = p → ∀ y : S16384x6144.Idx, (y 0).val = t / 12 * 1024 + (x 1).val → (y 1).val = t % 12 * 512 + (x 2).val → O x = G y)
    (y : S16384x6144.Idx) (hy : y ∈ tileSet t) :
    (View.write (Elt F) (tileM ![t / 12 * 1024, t % 12 * 512] h).view fd (ReadAs.same.apply ((ostSlotM ![p, 0, 0] h').view.read (Elt F) O)) Finset.univ : S16384x6144.Idx → Elt F .f32) y = G y := by
  have hp : p + 1 ≤ 2 := h' 0
  have hy0 : tileOf y = t := (Finset.mem_filter.1 hy).2
  have b1 : (y 0).val < 16384 := (y 0).isLt
  have b2 : (y 1).val < 6144 := (y 1).isLt
  unfold tileOf at hy0
  let r : Fin 1024 := ⟨(y 0).val % 1024, Nat.mod_lt _ (by decide)⟩
  let q : Fin 512 := ⟨(y 1).val % 512, Nat.mod_lt _ (by decide)⟩
  have e : (tileM ![t / 12 * 1024, t % 12 * 512] h).view.emb (ix2 r q) = y := by
    show (Rect.unit (s := S16384x6144) ![t / 12 * 1024, t % 12 * 512] S1024x512.size h).emb (ix2 r q) = y
    funext a; apply Fin.ext
    rw [rect_emb_unit_val]
    fin_cases a
    · show t / 12 * 1024 + (y 0).val % 1024 = (y 0).val; omega
    · show t % 12 * 512 + (y 1).val % 512 = (y 1).val; omega
  conv_lhs => rw [← e]
  rw [View.write_emb_of_mem _ _ (Finset.mem_univ _)]
  show O ((Rect.unit (s := S2x1024x512) ![p, 0, 0] S1x1024x512.size h').emb (Shape.reshapeEquiv _ (ix2 r q))) = _
  refine (congrArg (fun z => O ((Rect.unit (s := S2x1024x512) ![p, 0, 0] S1x1024x512.size h').emb z))
      (reshapeEquiv_ix2_1ab squeezes_S1x1024x512_S1024x512.numel_eq r q)).trans ?_
  apply hG
  · rw [rect_emb_unit_val]; show p + 0 = p; omega
  · rw [rect_emb_unit_val]; show _ = t / 12 * 1024 + (0 + r.val); show (y 0).val = t / 12 * 1024 + (0 + (y 0).val % 1024); omega
  · rw [rect_emb_unit_val]; show (y 1).val = t % 12 * 512 + (0 + (y 1).val % 512); omega
end Cert.Kernel.Gen
-- ==== Proof.Ring.lean ====
module
public import proofs.«01_k».proof.Proof.Geo
public import proofs.«01_k».proof.Proof.Gen.Kernel.Skeleton
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ

/-! ## The ring of weight blocks -/

theorem bigSep_take {I : Type} [DecidableEq I] {s : Finset I} {i : I} (h : i ∈ s) {Φ : I → sProp 𝕄} :
    bigSep s Φ = iprop(Φ i ∗ bigSep (s.erase i) Φ) := bigSep_erase h

/-- The semaphore of ring slot `i`, of staging slot `p`. -/
def cellI (i : Fin 8) : DmaSem sig := (⟨2 + i.val, by omega⟩ : Fin 13)
def ocellI (p : Fin 2) : DmaSem sig := (⟨11 + p.val, by omega⟩ : Fin 13)
/-- The units one transfer into a ring slot, or out of a staging slot, moves. -/
def slotN : ℕ := (slotM ![0, 0, 0, 0] (by decide)).view.dmaCredit
def tileN : ℕ := (tileM ![0, 0] (by decide)).view.dmaCredit

section
variable (c : Dev nD) (X : S48x5120x128.Idx → BitVec 32) (nv : ℕ)
/-- Slot `i` of the ring held with contents `f`, and the slot's share of the block words. -/
def slotPt (i : Fin 8) (f : S8x4x128x128.Idx → BitVec 32) : sProp 𝕄 := xrM.view.loc (c : Thread nD τ) ↦[slotSet i.val]{fullShare} f
def tok (i : Fin 8) : sProp 𝕄 := xqM.view.loc (c : Thread nD τ) ↦[Finset.univ]{shareTok fullShare 8 i} X
def cellFree (i : Fin 8) : sProp 𝕄 := semVal ((c : Thread nD τ), SemLoc.dma (cellI i)) 0
/-- A slot being filled with block `b`: what its transfer delivers gives the slot back, filled. -/
def flying (i : Fin 8) (b : ℕ) : sProp 𝕄 :=
  iprop(∃ D, Flight (countersEmb (U := Pipeline.UC sig nD τ)) (c : Thread nD τ) (SemLoc.dma (cellI i)) () slotN D
    ∗ (D -∗ (slotPt c i (blkBuf X nv b) ∗ tok c X i)))
def landed (i : Fin 8) (b : ℕ) : sProp 𝕄 := iprop(slotPt c i (blkBuf X nv b) ∗ cellFree c i ∗ tok c X i)
def vacant (i : Fin 8) : sProp 𝕄 := iprop((∃ f, slotPt c i f) ∗ cellFree c i ∗ tok c X i)
def owesSome : sProp 𝕄 := iprop(∃ W, owes (c : Thread nD τ) 0 W)

variable (𝒱 : Variants)
/-- Starting the transfer of block `b` into a vacant slot. -/
theorem start_slot {nv : ℕ} (h1 : 1 ≤ nv) (h2 : nv ≤ 40) (b : ℕ) (i : Fin 8) {o4 : Fin 4 → ℕ} {o3 : Fin 3 → ℕ} {o1 : Fin 1 → ℕ} (h4) (h3) (h1')
    (e4 : o4 = ![i.val, 0, 0, 0]) (e3 : o3 = ![kOf nv b * 4, vOf nv b * 128, 0]) (e1 : o1 = ![i.val])
    {α : Type} {hs hd hm} {k : PUnit.{1} → Prog (TpuEff nD τ sig (Elt F) Λ₀ .tc) α} {Q : α → sProp 𝕄} :
    vacant c X i ⊢ iprop((flying c X nv i b -∗ wp frame (wpE (defs₀ (F := F)) 𝒱 c none) Set.univ (k ⟨⟩) Q)
      -∗ wp frame (wpE (defs₀ (F := F)) 𝒱 c none) Set.univ
        (.op (.enqueueDma (blkM o3 h3) (.here (slotM o4 h4)) (.dma (cellM o1 h1')) hs hd hm) k) Q) := by
  subst e4 e3 e1
  have hc : cellM ![i.val] h1' = cellI i := cell_val i.val i.isLt h1'
  unfold vacant slotPt cellFree tok
  rw [← hc]
  iintro ⟨⟨%f, Hs⟩, Hc, Ht⟩ Hk
  icases (pointsTo_split_subset (Finset.subset_univ (blkM ![kOf nv b * 4, vOf nv b * 128, 0] h3).view.set)).1 $$ Ht with ⟨Ht, Hr⟩
  iapply (Transfers.wp_dmaLocal (countersEmb (U := Pipeline.UC sig nD τ)) 𝒱 (c : Thread nD τ) none () slotN rfl (View.dmaCredit_pos _ (by decide))
    (le_of_eq (slot_set i.val h4))) $$ [Hs Hc Ht]
  · isplitl [Ht]; · iexact Ht
    isplitl [Hs]; · iexact Hs
    iexact Hc
  iintro Hf
  iapply Hk
  unfold flying slotPt tok
  rw [← hc]
  iexists _
  isplitl [Hf]; · iexact Hf
  iintro ⟨Hd, Hx⟩
  isplitl [Hd]
  · iapply (Entails.of_eq (pointsTo_congr (fun x hx => blk_landed (F := F) X h1 h2 b i.val h4 h3 f x hx)))
    iexact Hd
  iapply (pointsTo_split_subset (Finset.subset_univ (blkM ![kOf nv b * 4, vOf nv b * 128, 0] h3).view.set)).2
  isplitl [Hx]; · iexact Hx
  iexact Hr

/-- Waiting for the transfer into a slot. -/
theorem wait_slot {nv : ℕ} (b : ℕ) (i : Fin 8) {o4 : Fin 4 → ℕ} {o1 : Fin 1 → ℕ} (h4) (h1')
    (e4 : o4 = ![i.val, 0, 0, 0]) (e1 : o1 = ![i.val])
    {α : Type} {src : Memref sig .tc .hbm S4x128x128 .i32} {hs hd} {k : PUnit.{1} → Prog (TpuEff nD τ sig (Elt F) Λ₀ .tc) α} {Q : α → sProp 𝕄} :
    iprop(flying c X nv i b ∗ owesSome c) ⊢ iprop(((landed c X nv i b ∗ owesSome c) -∗ wp frame (wpE (defs₀ (F := F)) 𝒱 c none) Set.univ (k ⟨⟩) Q)
      -∗ wp frame (wpE (defs₀ (F := F)) 𝒱 c none) Set.univ
        (.op (.waitDma2 (cellM o1 h1') src (slotM o4 h4) hs hd) k) Q) := by
  subst e4 e1
  have hc : cellM ![i.val] h1' = cellI i := cell_val i.val i.isLt h1'
  unfold flying owesSome
  rw [← hc]
  iintro ⟨⟨%D, Hf, Hw⟩, ⟨%W, HO⟩⟩ Hk
  iapply (Transfers.wp_waitLocal (countersEmb (U := Pipeline.UC sig nD τ)) 𝒱 (c : Thread nD τ) none (sem := cellM ![i.val] h1') (srcw := src) (dstw := slotM ![i.val, 0, 0, 0] h4) (hsrc := hs) (hdst := hd) () (N := slotN) rfl) $$ [Hf HO]
  · isplitl [Hf]; · iexact Hf
    iexact HO
  iintro ⟨HD, Hc, HO⟩
  iapply Hk
  isplitr [HO]; swap; · iexists _; iexact HO
  unfold landed cellFree
  rw [← hc]
  icases Hw $$ HD with ⟨Hs, Ht⟩
  isplitl [Hs]; · iexact Hs
  isplitl [Hc]; · iexact Hc
  iexact Ht

/-- The block slot `i` is about while the window of blocks is `lo, …, lo + 7`. -/
def slotBlk (lo : ℕ) (i : Fin 8) : ℕ := lo + (i.val + 8 - lo % 8) % 8
/-- A slot's state when of the window from `lo` the blocks up to `hi` have landed and `T` blocks exist. -/
def slotAt (T lo hi : ℕ) (i : Fin 8) : sProp 𝕄 :=
  if T ≤ slotBlk lo i then vacant c X i else if slotBlk lo i ≤ hi then landed c X nv i (slotBlk lo i) else flying c X nv i (slotBlk lo i)
def ring (T lo hi : ℕ) : sProp 𝕄 := bigSep Finset.univ (slotAt c X nv T lo hi)
/-- The ring while it is first filled: the first `t` slots are being filled. -/
def fillRing (t : ℕ) : sProp 𝕄 := bigSep Finset.univ fun i : Fin 8 => if i.val < t then flying c X nv i i.val else vacant c X i

theorem landed_vacant (i : Fin 8) (b : ℕ) : landed c X nv i b ⊢ (vacant c X i : sProp 𝕄) := by
  unfold landed vacant
  iintro ⟨Hs, H⟩
  isplitl [Hs]
  · iexists _; iexact Hs
  iexact H

theorem fillRing_zero : fillRing c X nv 0 = (bigSep Finset.univ (vacant c X) : sProp 𝕄) := by
  unfold fillRing; congr 1
/-- Filling slot `t`. -/
theorem fillRing_step (t : Fin 8) : fillRing c X nv t.val ⊢ iprop(vacant c X t ∗ ((flying c X nv t t.val -∗ fillRing c X nv (t.val + 1)) : sProp 𝕄)) := by
  unfold fillRing
  rw [bigSep_take (Finset.mem_univ t), bigSep_take (Finset.mem_univ t) (Φ := fun i : Fin 8 => if i.val < t.val + 1 then flying c X nv i i.val else vacant c X i)]
  rw [if_neg (by omega), if_pos (by omega)]
  have : ∀ i ∈ Finset.univ.erase t, (if i.val < t.val then flying c X nv i i.val else vacant c X i)
      = (if i.val < t.val + 1 then flying c X nv i i.val else vacant c X i : sProp 𝕄) := by
    intro i hi
    have hne : i ≠ t := Finset.ne_of_mem_erase hi
    have hne : i.val ≠ t.val := fun h => hne (Fin.ext h)
    by_cases h : i.val < t.val
    · rw [if_pos h, if_pos (by omega)]
    · rw [if_neg h, if_neg (by omega)]
  rw [bigSep_congr this]
  iintro ⟨Hv, Hr⟩
  isplitl [Hv]; · iexact Hv
  iintro Hf
  isplitl [Hf]; · iexact Hf
  iexact Hr
/-- The first block landed. -/
theorem fillRing_wait {T : ℕ} (hT : 8 ≤ T) : fillRing c X nv 8 ⊢ iprop(flying c X nv 0 0 ∗ ((landed c X nv 0 0 -∗ ring c X nv T 0 0) : sProp 𝕄)) := by
  unfold fillRing ring
  rw [bigSep_take (Finset.mem_univ (0 : Fin 8)), bigSep_take (Finset.mem_univ (0 : Fin 8)) (Φ := slotAt c X nv T 0 0)]
  rw [if_pos (by decide)]
  have h0 : slotAt c X nv T 0 0 0 = (landed c X nv 0 0 : sProp 𝕄) := by
    unfold slotAt slotBlk
    rw [if_neg (by simp; omega), if_pos (by simp)]; rfl
  have : ∀ i ∈ Finset.univ.erase (0 : Fin 8), (if i.val < 8 then flying c X nv i i.val else vacant c X i)
      = (slotAt c X nv T 0 0 i : sProp 𝕄) := by
    intro i hi
    have hne : i ≠ 0 := Finset.ne_of_mem_erase hi
    have hne : i.val ≠ 0 := fun h => hne (Fin.ext h)
    have hb : slotBlk 0 i = i.val := by unfold slotBlk; omega
    unfold slotAt
    rw [hb, if_pos (by omega), if_neg (by omega), if_neg (by omega)]
  rw [bigSep_congr this, h0]
  iintro ⟨Hv, Hr⟩
  isplitl [Hv]; · iexact Hv
  iintro Hf
  isplitl [Hf]; · iexact Hf
  iexact Hr
/-- The next block: it is on its way, and once landed the ring has it. -/
theorem ring_wait {T g : ℕ} (hg : g + 1 < T) (i : Fin 8) (hi : i.val = (g + 1) % 8) :
    ring c X nv T g g ⊢ iprop(flying c X nv i (g + 1) ∗ ((landed c X nv i (g + 1) -∗ ring c X nv T g (g + 1)) : sProp 𝕄)) := by
  unfold ring
  rw [bigSep_take (Finset.mem_univ i), bigSep_take (Finset.mem_univ i) (Φ := slotAt c X nv T g (g + 1))]
  have hb : slotBlk g i = g + 1 := by unfold slotBlk; omega
  have e1 : slotAt c X nv T g g i = (flying c X nv i (g + 1) : sProp 𝕄) := by
    unfold slotAt; rw [hb, if_neg (by omega), if_neg (by omega)]
  have e2 : slotAt c X nv T g (g + 1) i = (landed c X nv i (g + 1) : sProp 𝕄) := by
    unfold slotAt; rw [hb, if_neg (by omega), if_pos (by omega)]
  have : ∀ j ∈ Finset.univ.erase i, slotAt c X nv T g g j = (slotAt c X nv T g (g + 1) j : sProp 𝕄) := by
    intro j hj
    have hne : j ≠ i := Finset.ne_of_mem_erase hj
    have hne : j.val ≠ i.val := fun h => hne (Fin.ext h)
    have hb' : slotBlk g j ≠ g + 1 := by unfold slotBlk; omega
    unfold slotAt
    congr 1
    by_cases h : slotBlk g j ≤ g
    · rw [if_pos h, if_pos (by omega)]
    · rw [if_neg h, if_neg (by omega)]
  rw [bigSep_congr this, e1, e2]
  iintro ⟨Hv, Hr⟩
  isplitl [Hv]; · iexact Hv
  iintro Hf
  isplitl [Hf]; · iexact Hf
  iexact Hr
/-- At the last block there is nothing to wait for. -/
theorem ring_nowait {T g : ℕ} (hg : T ≤ g + 1) : ring c X nv T g g = (ring c X nv T g (g + 1) : sProp 𝕄) := by
  unfold ring; congr 1; funext j
  unfold slotAt
  by_cases h : T ≤ slotBlk g j
  · rw [if_pos h, if_pos h]
  · rw [if_neg h, if_neg h]
    have : slotBlk g j ≤ g := by unfold slotBlk at *; omega
    rw [if_pos this, if_pos (by omega)]
/-- The slot of the block used up is vacant, and takes the block eight further on. -/
theorem ring_next {T g : ℕ} (hg : g < T) (i : Fin 8) (hi : i.val = g % 8) :
    ring c X nv T g (g + 1) ⊢ iprop(vacant c X i
      ∗ (((if T ≤ g + 8 then vacant c X i else flying c X nv i (g + 8)) -∗ ring c X nv T (g + 1) (g + 1)) : sProp 𝕄)) := by
  unfold ring
  rw [bigSep_take (Finset.mem_univ i), bigSep_take (Finset.mem_univ i) (Φ := slotAt c X nv T (g + 1) (g + 1))]
  have hb : slotBlk g i = g := by unfold slotBlk; omega
  have hb2 : slotBlk (g + 1) i = g + 8 := by unfold slotBlk; omega
  have e1 : slotAt c X nv T g (g + 1) i = (landed c X nv i g : sProp 𝕄) := by
    unfold slotAt; rw [hb, if_neg (by omega), if_pos (by omega)]
  have e2 : slotAt c X nv T (g + 1) (g + 1) i = (if T ≤ g + 8 then vacant c X i else flying c X nv i (g + 8) : sProp 𝕄) := by
    unfold slotAt; rw [hb2, if_neg (show ¬ g + 8 ≤ g + 1 by omega)]
  have : ∀ j ∈ Finset.univ.erase i, slotAt c X nv T g (g + 1) j = (slotAt c X nv T (g + 1) (g + 1) j : sProp 𝕄) := by
    intro j hj
    have hne : j ≠ i := Finset.ne_of_mem_erase hj
    have hne : j.val ≠ i.val := fun h => hne (Fin.ext h)
    have hb' : slotBlk (g + 1) j = slotBlk g j := by unfold slotBlk; omega
    unfold slotAt
    rw [hb']
  rw [bigSep_congr this, e1, e2]
  iintro ⟨Hv, Hr⟩
  isplitl [Hv]; · iapply (landed_vacant c X nv i g) $$ Hv
  iintro Hf
  isplitl [Hf]; · iexact Hf
  iexact Hr
/-- The slot the next weights are read from: its contents are block `g`'s while there is one. -/
theorem ring_focus {T g : ℕ} (i : Fin 8) (hi : i.val = g % 8) :
    ring c X nv T g g ⊢ iprop(∃ f, ⌜g < T → f = blkBuf X nv g⌝ ∗ slotPt c i f ∗ ((slotPt c i f -∗ ring c X nv T g g) : sProp 𝕄)) := by
  unfold ring
  rw [bigSep_take (Finset.mem_univ i)]
  have hb : slotBlk g i = g := by unfold slotBlk; omega
  by_cases hg : g < T
  · have e1 : slotAt c X nv T g g i = (landed c X nv i g : sProp 𝕄) := by
      unfold slotAt; rw [hb, if_neg (by omega), if_pos (by omega)]
    rw [e1]
    unfold landed
    iintro ⟨⟨Hs, Ht⟩, Hr⟩
    iexists (blkBuf X nv g)
    isplitr; · ipureintro; intro _; rfl
    isplitl [Hs]; · iexact Hs
    iintro Hs
    isplitr [Hr]; swap; · iexact Hr
    isplitl [Hs]; · iexact Hs
    iexact Ht
  · have e1 : slotAt c X nv T g g i = (vacant c X i : sProp 𝕄) := by
      unfold slotAt; rw [hb, if_pos (by omega)]
    rw [e1]
    unfold vacant
    iintro ⟨⟨⟨%f, Hs⟩, Ht⟩, Hr⟩
    iexists f
    isplitr; · ipureintro; intro h; exact absurd h hg
    isplitl [Hs]; · iexact Hs
    iintro Hs
    isplitr [Hr]; swap; · iexact Hr
    isplitl [Hs]; · iexists _; iexact Hs
    iexact Ht
/-- After the last block every slot is vacant. -/
theorem ring_end (T : ℕ) : ring c X nv T T T = (bigSep Finset.univ (vacant c X) : sProp 𝕄) := by
  unfold ring; congr 1; funext i
  unfold slotAt
  rw [if_pos (by unfold slotBlk; omega)]
end

/-! ## The staging buffer and the result -/

section
variable (c : Dev nD) (G : S16384x6144.Idx → Elt F .f32)
def ostPt (p : Fin 2) (f : S2x1024x512.Idx → Elt F .f32) : sProp 𝕄 := ostM.view.loc (c : Thread nD τ) ↦[ostSet p.val]{fullShare} f
def dwPt (S : Finset S16384x6144.Idx) (f : S16384x6144.Idx → Elt F .f32) : sProp 𝕄 := dwM.view.loc (c : Thread nD τ) ↦[S]{fullShare} f
def ocellFree (p : Fin 2) : sProp 𝕄 := semVal ((c : Thread nD τ), SemLoc.dma (ocellI p)) 0
/-- Tile `t` on its way out of staging slot `p`. -/
def leaving (p : Fin 2) (t : ℕ) : sProp 𝕄 :=
  iprop(∃ D, Flight (countersEmb (U := Pipeline.UC sig nD τ)) (c : Thread nD τ) (SemLoc.dma (ocellI p)) () tileN D
    ∗ (D -∗ ((∃ f, ostPt c p f) ∗ dwPt c (tileSet t) G)))
def ostVacant (p : Fin 2) : sProp 𝕄 := iprop((∃ f, ostPt (F := F) c p f) ∗ ocellFree c p)
/-- Staging contents of slot `p` that are tile `t`'s. -/
def isTile (p t : ℕ) (O : S2x1024x512.Idx → Elt F .f32) : Prop :=
  ∀ x : S2x1024x512.Idx, (x 0).val = p → ∀ y : S16384x6144.Idx, (y 0).val = t / 12 * 1024 + (x 1).val → (y 1).val = t % 12 * 512 + (x 2).val → O x = G y

variable (𝒱 : Variants)
theorem start_tile (t : ℕ) (ht : t < 192) (p : Fin 2) {O V : _} (hO : isTile G p.val t O) {o3 : Fin 3 → ℕ} {o2 : Fin 2 → ℕ} {o1 : Fin 1 → ℕ} (h3) (h2) (h1')
    (e3 : o3 = ![p.val, 0, 0]) (e2 : o2 = ![t / 12 * 1024, t % 12 * 512]) (e1 : o1 = ![p.val])
    {α : Type} {hs hd hm} {k : PUnit.{1} → Prog (TpuEff nD τ sig (Elt F) Λ₀ .tc) α} {Q : α → sProp 𝕄} :
    iprop(ostPt c p O ∗ ocellFree c p ∗ dwPt c (tileSet t) V) ⊢ iprop((leaving c G p t -∗ wp frame (wpE (defs₀ (F := F)) 𝒱 c none) Set.univ (k ⟨⟩) Q)
      -∗ wp frame (wpE (defs₀ (F := F)) 𝒱 c none) Set.univ
        (.op (.enqueueDma (ostSlotM o3 h3) (.here (tileM o2 h2)) (.dma (ocellM o1 h1')) hs hd hm) k) Q) := by
  subst e3 e2 e1
  have hc : ocellM ![p.val] h1' = ocellI p := ocell_val p.val p.isLt h1'
  unfold ocellFree ostPt dwPt
  rw [← hc]
  iintro ⟨Hs, Hc, Ht⟩ Hk
  ihave Hs := (Entails.of_eq (congrArg (fun S => (ostM.view.loc (c : Thread nD τ) ↦[S]{fullShare} O : sProp 𝕄)) (ost_set p.val h3).symm)) $$ Hs
  iapply (Transfers.wp_dmaLocal (countersEmb (U := Pipeline.UC sig nD τ)) 𝒱 (c : Thread nD τ) none () tileN rfl (View.dmaCredit_pos _ (by decide))
    (le_of_eq (tile_set t h2))) $$ [Hs Hc Ht]
  · isplitl [Hs]; · iexact Hs
    isplitl [Ht]; · iexact Ht
    iexact Hc
  iintro Hf
  iapply Hk
  unfold leaving ostPt dwPt
  rw [← hc]
  iexists _
  isplitl [Hf]; · iexact Hf
  iintro ⟨Hd, Hx⟩
  isplitl [Hx]
  · iexists O
    iapply (Entails.of_eq (congrArg (fun S => (ostM.view.loc (c : Thread nD τ) ↦[S]{fullShare} O : sProp 𝕄)) (ost_set p.val h3)))
    iexact Hx
  iapply (Entails.of_eq (pointsTo_congr (fun y hy => tile_landed (F := F) O G t p.val h2 h3 ht V hO y hy)))
  iexact Hd
theorem wait_tile (t : ℕ) (p : Fin 2) {o1 : Fin 1 → ℕ} (h1') (e1 : o1 = ![p.val])
    {α : Type} {src : Memref sig .tc .vmem S1024x512 .f32} {o2 : Fin 2 → ℕ} {h2} {hs hd} {k : PUnit.{1} → Prog (TpuEff nD τ sig (Elt F) Λ₀ .tc) α} {Q : α → sProp 𝕄} :
    iprop(leaving c G p t ∗ owesSome c) ⊢ iprop(((ostVacant c p ∗ dwPt c (tileSet t) G ∗ owesSome c) -∗ wp frame (wpE (defs₀ (F := F)) 𝒱 c none) Set.univ (k ⟨⟩) Q)
      -∗ wp frame (wpE (defs₀ (F := F)) 𝒱 c none) Set.univ
        (.op (.waitDma2 (ocellM o1 h1') src (tileM o2 h2) hs hd) k) Q) := by
  subst e1
  have hc : ocellM ![p.val] h1' = ocellI p := ocell_val p.val p.isLt h1'
  unfold leaving owesSome
  rw [← hc]
  iintro ⟨⟨%D, Hf, Hw⟩, ⟨%W, HO⟩⟩ Hk
  iapply (Transfers.wp_waitLocal (countersEmb (U := Pipeline.UC sig nD τ)) 𝒱 (c : Thread nD τ) none (sem := ocellM ![p.val] h1') (srcw := src) (dstw := tileM o2 h2) (hsrc := hs) (hdst := hd) () (N := tileN) rfl) $$ [Hf HO]
  · isplitl [Hf]; · iexact Hf
    iexact HO
  iintro ⟨HD, Hc, HO⟩
  iapply Hk
  icases Hw $$ HD with ⟨Hs, Ht⟩
  unfold ostVacant ocellFree
  rw [← hc]
  isplitr [Ht HO]
  · isplitl [Hs]; · iexact Hs
    iexact Hc
  isplitl [Ht]; · iexact Ht
  iexists _; iexact HO
end
end Cert.Kernel.Gen
-- ==== Proof.Mat.lean ====
module
public import proofs.«01_k».proof.Proof.Ring
public import proofs.«01_k».proof.Proof.Gen.Kernel.Skeleton
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ
open Idealize.ShloMosaic.ValueKit Idealize.ShloMosaic.ValueIdx

/-! ## The state of the matrix units -/

theorem fitsM (m : Fin 4) : Mxu.Fits (64 * m.val) 256 := by unfold Mxu.Fits; omega
/-- Replacing one entry of a table. -/
def upd1 {A : Type} (R : Fin 2 → A) (q : Fin 2) (x : A) : Fin 2 → A := fun q' => if q' = q then x else R q'
def upd2 {A : Type} (V : Fin 2 → Fin 4 → A) (q : Fin 2) (m : Fin 4) (x : A) : Fin 2 → Fin 4 → A :=
  fun q' m' => if q' = q ∧ m' = m then x else V q' m'

/-- A state of the units, part by part: the staged tiles, the loaded tiles, the four accumulators of each unit and
    whether each is live. -/
structure St (μ : Mxu F) (R Gm : Fin 2 → Option (Mxu.Staged F)) (V : Fin 2 → Fin 4 → FVec F S256x256 .f32) (Lv : Fin 2 → Fin 4 → Bool) : Prop where
  reg0 : ∀ q, μ.reg q 0 = R q
  reg1 : ∀ q, μ.reg q 1 = none
  gm : ∀ q, μ.gmr q = Gm q
  val : ∀ q m, μ.read q (64 * m.val) (fitsM m) = V q m
  lv : ∀ q m (r : Fin 256), μ.live q (Mxu.row (fitsM m) r) = Lv q m

section
variable {μ : Mxu F} {R Gm : Fin 2 → Option (Mxu.Staged F)} {V : Fin 2 → Fin 4 → FVec F S256x256 .f32} {Lv : Fin 2 → Fin 4 → Bool}
theorem ne_rows {q q' : Fin 2} {m m' : Fin 4} (h : ¬ (q' = q ∧ m' = m)) :
    q' ≠ q ∨ 4 * (64 * m'.val) + 256 ≤ 4 * (64 * m.val) ∨ 4 * (64 * m.val) + 256 ≤ 4 * (64 * m'.val) := by
  by_cases hq : q' = q
  · have : m' ≠ m := fun hm => h ⟨hq, hm⟩
    have : m'.val ≠ m.val := fun hm => this (Fin.ext hm)
    omega
  · exact .inl hq
theorem lv_split (q q' : Fin 2) (m m' : Fin 4) (r : Fin 256) :
    (q' = q ∧ 4 * (64 * m.val) ≤ (Mxu.row (fitsM m') r).val ∧ (Mxu.row (fitsM m') r).val < 4 * (64 * m.val) + 256) ↔ (q' = q ∧ m' = m) := by
  have e : (Mxu.row (fitsM m') r).val = 4 * (64 * m'.val) + r.val := rfl
  rw [e]
  constructor
  · rintro ⟨hq, h1, h2⟩; exact ⟨hq, Fin.ext (by omega)⟩
  · rintro ⟨hq, rfl⟩; exact ⟨hq, by omega, by omega⟩
theorem St.pop (h : St μ R Gm V Lv) (q : Fin 2) (m : Fin 4) :
    St (μ.pop q (64 * m.val) 256 (fitsM m)) R Gm (upd2 V q m (constant _ .f32 0)) (upd2 Lv q m false) where
  reg0 := h.reg0
  reg1 := h.reg1
  gm := h.gm
  val q' m' := by
    unfold upd2
    by_cases hq : q' = q ∧ m' = m
    · rw [if_pos hq]; obtain ⟨rfl, rfl⟩ := hq; exact Mxu.read_pop ..
    · rw [if_neg hq, Mxu.read_pop_ne _ _ _ _ _ _ _ (ne_rows hq)]; exact h.val q' m'
  lv q' m' r := by
    rw [Mxu.live_pop, upd2, if_congr (lv_split q q' m m' r) rfl (h.lv q' m' r)]
theorem St.accBy (h : St μ R Gm V Lv) (q : Fin 2) (m : Fin 4) (t : Mxu.Staged F) (lhs : FVec F S256x256 .bf16) :
    St (μ.accBy q t (64 * m.val) lhs (fitsM m)) R Gm
      (upd2 V q m (if Lv q m then addf (V q m) (t.pass lhs) else t.pass lhs)) (upd2 Lv q m true) where
  reg0 := h.reg0
  reg1 := h.reg1
  gm := h.gm
  val q' m' := by
    unfold upd2
    by_cases hq : q' = q ∧ m' = m
    · rw [if_pos hq]; obtain ⟨rfl, rfl⟩ := hq
      by_cases hl : Lv q' m' = true
      · rw [if_pos hl, Mxu.read_accBy_of_live _ _ _ _ _ _ (fun r => (h.lv q' m' r).trans hl), h.val]
      · rw [if_neg hl, Mxu.read_accBy_of_not_live _ _ _ _ _ _ (fun r => (h.lv q' m' r).trans (by simpa using hl))]
    · rw [if_neg hq, Mxu.read_accBy_ne _ _ _ _ _ _ _ _ _ (ne_rows hq)]; exact h.val q' m'
  lv q' m' r := by
    rw [Mxu.live_accBy, upd2, if_congr (lv_split q q' m m' r) rfl (h.lv q' m' r)]
theorem St.accLhs (h : St μ R Gm V Lv) (q : Fin 2) (m : Fin 4) (t : Mxu.Staged F) (ht : R q = some t) (lhs : FVec F S256x256 .bf16) :
    St (μ.accLhs q 0 (64 * m.val) lhs (fitsM m)) (upd1 R q none) (upd1 Gm q (some t))
      (upd2 V q m (if Lv q m then addf (V q m) (t.pass lhs) else t.pass lhs)) (upd2 Lv q m true) := by
  have hs : μ.staged q 0 = t := by rw [Mxu.staged_eq, h.reg0, ht]; rfl
  have hb := h.accBy q m t lhs
  exact {
    reg0 := fun q' => by
      unfold upd1
      by_cases hq : q' = q
      · rw [if_pos hq, hq]; exact Mxu.reg_accLhs ..
      · rw [if_neg hq, Mxu.reg_accLhs_ne _ _ _ _ _ _ _ _ (by tauto)]; exact h.reg0 q'
    reg1 := fun q' => by rw [Mxu.reg_accLhs_ne _ _ _ _ _ _ _ _ (by rintro ⟨_, h⟩; cases h)]; exact h.reg1 q'
    gm := fun q' => by
      unfold upd1
      by_cases hq : q' = q
      · rw [if_pos hq, hq, ← hs]; exact Mxu.gmr_accLhs ..
      · rw [if_neg hq, Mxu.gmr_accLhs_ne _ _ _ _ _ _ _ hq]; exact h.gm q'
    val := fun q' m' => by rw [Mxu.read_accLhs_eq_accBy, hs]; exact hb.val q' m'
    lv := fun q' m' r => hb.lv q' m' r }
theorem St.push (h : St μ R Gm V Lv) (q : Fin 2) (hn : R q = none) (v : FVec F S256x256 .bf16) :
    St (μ.pushed q 0 false v) (upd1 R q (some ⟨.bf16, false, v⟩)) Gm V Lv where
  reg0 q' := by
    unfold upd1
    by_cases hq : q' = q
    · rw [if_pos hq, hq]; exact Mxu.reg_pushed_of_none _ _ _ _ _ ((h.reg0 q).trans hn)
    · rw [if_neg hq, Mxu.reg_pushed_ne _ _ _ _ _ _ _ (by tauto)]; exact h.reg0 q'
  reg1 q' := by rw [Mxu.reg_pushed_ne _ _ _ _ _ _ _ (by rintro ⟨_, h⟩; cases h)]; exact h.reg1 q'
  gm q' := by rw [Mxu.gmr_pushed]; exact h.gm q'
  val q' m' := by rw [Mxu.read_pushed]; exact h.val q' m'
  lv q' m' r := by rw [Mxu.live_pushed]; exact h.lv q' m' r
end

/-! ## What the operands' tiles are -/

/-- A plane of 128 × 128 words of the left operand's slab, and of a ring slot. -/
def lhsPlane (f : S80x512x128.Idx → BitVec 32) (a m : ℕ) : S1x128x128.Idx → BitVec 32 := fun y =>
  f (ix3 (⟨a % 80, Nat.mod_lt _ (by decide)⟩ : Fin 80) (⟨(m * 128 + (y 1).val) % 512, Nat.mod_lt _ (by decide)⟩ : Fin 512) (y 2))
def rhsPlane (f : S8x4x128x128.Idx → BitVec 32) (i : Fin 8) (r : ℕ) : S1x1x128x128.Idx → BitVec 32 := fun y =>
  f (ix4 i (⟨r % 4, Nat.mod_lt _ (by decide)⟩ : Fin 4) (y 2) (y 3))
/-- The left tile of row block `m` for the step's block `v`, and the weight tile of unit `q` from a slot's contents. -/
def lhsTile (f : S80x512x128.Idx → BitVec 32) (v m : ℕ) : FVec F S256x256 .bf16 := k0_pay1 (lhsPlane f (2 * v) m) (lhsPlane f (2 * v + 1) m)
def rhsTile (f : S8x4x128x128.Idx → BitVec 32) (i : Fin 8) (q : ℕ) : FVec F S256x256 .bf16 := k0_pay2 (rhsPlane f i (2 * q)) (rhsPlane f i (2 * q + 1))
theorem lhs_read (f : S80x512x128.Idx → BitVec 32) (a m : ℕ) (o : Fin 3 → ℕ) (e : o = ![a, m * 128, 0]) (h) (ha : a < 80) (hm : m < 4) :
    lhsM.view.readAt (Elt F) (Rect.unit (s := S80x512x128) o S1x128x128.size h).toLoadRect f = lhsPlane f a m := by
  subst e
  funext y
  show f ((Rect.unit (s := S80x512x128) ![a, m * 128, 0] S1x128x128.size h).emb y) = f _
  congr 1
  have h0 : (y 0).val < 1 := (y 0).isLt
  have h1 : (y 1).val < 128 := (y 1).isLt
  funext x; apply Fin.ext
  rw [rect_emb_unit_val]
  fin_cases x
  · show a + (y 0).val = a % 80; omega
  · show m * 128 + (y 1).val = _ % 512; omega
  · show 0 + (y 2).val = (y 2).val; omega
theorem rhs_read (f : S8x4x128x128.Idx → BitVec 32) (i : Fin 8) (r : ℕ) (o : Fin 4 → ℕ) (e : o = ![i.val, r, 0, 0]) (h) (hr : r < 4) :
    xrM.view.readAt (Elt F) (Rect.unit (s := S8x4x128x128) o S1x1x128x128.size h).toLoadRect f = rhsPlane f i r := by
  subst e
  funext y
  show f ((Rect.unit (s := S8x4x128x128) ![i.val, r, 0, 0] S1x1x128x128.size h).emb y) = f _
  congr 1
  have h0 : (y 0).val < 1 := (y 0).isLt
  have h1 : (y 1).val < 1 := (y 1).isLt
  funext x; apply Fin.ext
  rw [rect_emb_unit_val]
  fin_cases x
  · show i.val + (y 0).val = i.val; omega
  · show r + (y 1).val = r % 4; omega
  · show 0 + (y 2).val = (y 2).val; omega
  · show 0 + (y 3).val = (y 3).val; omega

/-! ## Loads and stores -/

section
variable (c : Dev nD) (𝒱 : Variants)
def lhsPt (f : S80x512x128.Idx → BitVec 32) : sProp 𝕄 := lhsM.view.loc (c : Thread nD τ) ↦[Finset.univ]{fullShare} f
theorem load_lhs (f : S80x512x128.Idx → BitVec 32) (a m : ℕ) {o : Fin 3 → ℕ} (h) (e : o = ![a, m * 128, 0]) (ha : a < 80) (hm : m < 4)
    {α : Type} {hl} {k : Vec F S1x128x128 .i32 → Prog (TpuEff nD τ sig (Elt F) Λ₀ .tc) α} {Q : α → sProp 𝕄} :
    lhsPt c f ⊢ iprop((lhsPt c f -∗ wp frame (wpE (defs₀ (F := F)) 𝒱 c none) Set.univ (k (lhsPlane f a m)) Q)
      -∗ wp frame (wpE (defs₀ (F := F)) 𝒱 c none) Set.univ
        (Prog.lift (.load lhsM (Rect.unit (s := S80x512x128) o S1x128x128.size h).toLoadRect hl) >>= k) Q) := by
  rw [← lhs_read (F := F) f a m o e h ha hm]
  exact wp_load 𝒱 (c : Thread nD τ) none Set.univ (m := lhsM) (r := (Rect.unit (s := S80x512x128) o S1x128x128.size h).toLoadRect) (S := Finset.univ) (Finset.subset_univ _)
theorem ring_rect (i : ℕ) (r : ℕ) (h) : (xrM.access (Rect.unit (s := S8x4x128x128) ![i, r, 0, 0] S1x1x128x128.size h)).set ⊆ slotSet i := by
  intro x hx
  change x ∈ (View.slice (View.whole cc0_scratch1) (Rect.unit (s := S8x4x128x128) ![i, r, 0, 0] S1x1x128x128.size h)).set at hx
  rw [View.set_slice_whole, Rect.mem_set_unit] at hx
  have h0 := hx 0
  simp [S1x1x128x128] at h0
  exact Finset.mem_filter.2 ⟨Finset.mem_univ _, by omega⟩
theorem load_ring (f : S8x4x128x128.Idx → BitVec 32) (i : Fin 8) (r : ℕ) {o : Fin 4 → ℕ} (h) (e : o = ![i.val, r, 0, 0]) (hr : r < 4)
    {α : Type} {hl} {k : Vec F S1x1x128x128 .i32 → Prog (TpuEff nD τ sig (Elt F) Λ₀ .tc) α} {Q : α → sProp 𝕄} :
    slotPt c i f ⊢ iprop((slotPt c i f -∗ wp frame (wpE (defs₀ (F := F)) 𝒱 c none) Set.univ (k (rhsPlane f i r)) Q)
      -∗ wp frame (wpE (defs₀ (F := F)) 𝒱 c none) Set.univ
        (Prog.lift (.load xrM (Rect.unit (s := S8x4x128x128) o S1x1x128x128.size h).toLoadRect hl) >>= k) Q) := by
  rw [← rhs_read (F := F) f i r o e h hr]
  subst e
  exact wp_load_rect 𝒱 (c : Thread nD τ) none Set.univ (m := xrM) (r := Rect.unit (s := S8x4x128x128) ![i.val, r, 0, 0] S1x1x128x128.size h) (ring_rect i.val r h)

/-- The array of results: each 256 × 256 block is the block's sum times the scale. -/
def gOut (Rs : ℕ → Fin 2 → Fin 4 → FVec F S256x256 .f32) (sc : F .f32) : S16384x6144.Idx → Elt F .f32 := fun y =>
  FloatOps.mulf (Rs (tileOf y) ⟨(y 1).val % 512 / 256, by omega⟩ ⟨(y 0).val % 1024 / 256, by omega⟩
    (ix2 (⟨(y 0).val % 256, Nat.mod_lt _ (by decide)⟩ : Fin 256) (⟨(y 1).val % 256, Nat.mod_lt _ (by decide)⟩ : Fin 256))) sc
/-- The blocks listed of staging slot `p` hold tile `t`'s results, should `P` hold. -/
def okAt (P : Prop) (Rs : ℕ → Fin 2 → Fin 4 → FVec F S256x256 .f32) (sc : F .f32) (p t : ℕ) (L : List (Fin 2 × Fin 4)) (O : S2x1024x512.Idx → Elt F .f32) : Prop :=
  P → ∀ a ∈ L, ∀ x : S2x1024x512.Idx, (x 0).val = p → (x 1).val / 256 = a.2.val → (x 2).val / 256 = a.1.val →
    O x = FloatOps.mulf (Rs t a.1 a.2 (ix2 (⟨(x 1).val % 256, Nat.mod_lt _ (by decide)⟩ : Fin 256) (⟨(x 2).val % 256, Nat.mod_lt _ (by decide)⟩ : Fin 256))) sc
theorem okAt_nil (P : Prop) (Rs : ℕ → Fin 2 → Fin 4 → FVec F S256x256 .f32) (sc : F .f32) (p t : ℕ) (O) : okAt P Rs sc p t [] O := by
  intro _ a ha; cases ha
/-- With all eight blocks listed, the slot holds the tile. -/
theorem okAt_all {P : Prop} {Rs : ℕ → Fin 2 → Fin 4 → FVec F S256x256 .f32} {sc : F .f32} {p t : ℕ} {L : List (Fin 2 × Fin 4)} {O}
    (h : okAt P Rs sc p t L O) (hP : P) (hL : ∀ q m, (q, m) ∈ L) (ht : t < 192) : isTile (gOut Rs sc) p t O := by
  intro x hx y hy0 hy1
  have b1 : (x 1).val < 1024 := (x 1).isLt
  have b2 : (x 2).val < 512 := (x 2).isLt
  have := h hP (⟨(x 2).val / 256, by omega⟩, ⟨(x 1).val / 256, by omega⟩) (hL _ _) x hx rfl rfl
  rw [this]
  unfold gOut
  have e1 : tileOf y = t := by unfold tileOf; omega
  have e2 : (y 1).val % 512 / 256 = (x 2).val / 256 := by omega
  have e3 : (y 0).val % 1024 / 256 = (x 1).val / 256 := by omega
  have e4 : (y 0).val % 256 = (x 1).val % 256 := by omega
  have e5 : (y 1).val % 256 = (x 2).val % 256 := by omega
  simp only [e1, e2, e3, e4, e5]
theorem ost_rect (p a b : ℕ) (h) : (ostM.access (Rect.unit (s := S2x1024x512) ![p, a, b] S1x256x256.size h)).set ⊆ ostSet p := by
  intro x hx
  change x ∈ (View.slice (View.whole cc0_scratch2) (Rect.unit (s := S2x1024x512) ![p, a, b] S1x256x256.size h)).set at hx
  rw [View.set_slice_whole, Rect.mem_set_unit] at hx
  have h0 := hx 0
  simp [S1x256x256] at h0
  exact Finset.mem_filter.2 ⟨Finset.mem_univ _, by omega⟩
theorem load_ost (O : S2x1024x512.Idx → Elt F .f32) (p : Fin 2) (a b : ℕ) {o : Fin 3 → ℕ} (h) (e : o = ![p.val, a, b])
    {α : Type} {hl} {k : Prog (TpuEff nD τ sig (Elt F) Λ₀ .tc) α} {Q : α → sProp 𝕄} :
    ostPt c p O ⊢ iprop((ostPt c p O -∗ wp frame (wpE (defs₀ (F := F)) 𝒱 c none) Set.univ k Q)
      -∗ wp frame (wpE (defs₀ (F := F)) 𝒱 c none) Set.univ
        (Prog.lift (.load ostM (Rect.unit (s := S2x1024x512) o S1x256x256.size h).toLoadRect hl) >>= fun _ => k) Q) := by
  subst e
  exact wp_load_rect (Ix := Unit) (Name := ℕ) (U := Pipeline.UC sig nD τ) (Lvl := ℕ) (Val := Elt F) (defs := defs₀ (F := F)) (k := fun _ => k) (Q := Q) (f := O) (hl := hl) 𝒱 (c : Thread nD τ) none Set.univ (m := ostM) (r := Rect.unit (s := S2x1024x512) ![p.val, a, b] S1x256x256.size h) (ost_rect p.val a b h)
theorem reshape_drop (h : S1x256x256.numel = S256x256.numel) (r q : Fin 256) : Shape.reshapeEquiv h (ix3 (0 : Fin 1) r q) = ix2 r q :=
  Shape.reshapeEquiv_eq_of_rowMajor h (by
    rw [Shape.rowMajor_val_three, Shape.rowMajor_val_two]
    show r.val * 256 + q.val = (0 * 256 + r.val) * 256 + q.val
    omega)
theorem ok_store {P : Prop} {Rs : ℕ → Fin 2 → Fin 4 → FVec F S256x256 .f32} {sc : F .f32} {p : Fin 2} {t : ℕ} {L : List (Fin 2 × Fin 4)}
    (q : Fin 2) (m : Fin 4) (V : FVec F S256x256 .f32) (hV : P → V = Rs t q m) (h : ∀ a, (![p.val, m.val * 256, q.val * 256] : Fin 3 → ℕ) a + S1x256x256.size a ≤ S2x1024x512.size a)
    {O : BufTy.Contents (Elt F) (ostM.access (Rect.unit (s := S2x1024x512) ![p.val, m.val * 256, q.val * 256] S1x256x256.size h)).ty}
    (hO : okAt P Rs sc p.val t L O) :
    okAt P Rs sc p.val t ((q, m) :: L)
      (View.write (Elt F) (ostM.access (Rect.unit (s := S2x1024x512) ![p.val, m.val * 256, q.val * 256] S1x256x256.size h)) O (k0_pay12 sc V) Finset.univ : S2x1024x512.Idx → Elt F .f32) := by
  intro hP a ha x hx h1 h2
  have b1 : (x 1).val < 1024 := (x 1).isLt
  have b2 : (x 2).val < 512 := (x 2).isLt
  by_cases hxm : x ∈ (ostM.access (Rect.unit (s := S2x1024x512) ![p.val, m.val * 256, q.val * 256] S1x256x256.size h)).set
  · have hx' := hxm
    change x ∈ (View.slice (View.whole cc0_scratch2) (Rect.unit (s := S2x1024x512) ![p.val, m.val * 256, q.val * 256] S1x256x256.size h)).set at hx'
    rw [View.set_slice_whole, Rect.mem_set_unit] at hx'
    have g1 := hx' 1
    have g2 := hx' 2
    simp [S1x256x256] at g1 g2
    have e2 : a.2 = m := Fin.ext (by omega)
    have e1 : a.1 = q := Fin.ext (by omega)
    have e : (ostM.access (Rect.unit (s := S2x1024x512) ![p.val, m.val * 256, q.val * 256] S1x256x256.size h)).emb
        (ix3 (0 : Fin 1) (⟨(x 1).val % 256, Nat.mod_lt _ (by decide)⟩ : Fin 256) (⟨(x 2).val % 256, Nat.mod_lt _ (by decide)⟩ : Fin 256)) = x := by
      show (Rect.unit (s := S2x1024x512) ![p.val, m.val * 256, q.val * 256] S1x256x256.size h).emb _ = x
      funext z; apply Fin.ext
      rw [rect_emb_unit_val]
      fin_cases z
      · show p.val + 0 = (x 0).val; omega
      · show m.val * 256 + (x 1).val % 256 = (x 1).val; omega
      · show q.val * 256 + (x 2).val % 256 = (x 2).val; omega
    conv_lhs => rw [← e]
    rw [View.write_emb_of_mem _ _ (Finset.mem_univ _), e1, e2, ← hV hP]
    show FloatOps.mulf (V (Shape.reshapeEquiv _ _)) sc = _
    congr 1
    refine congrArg V ?_
    exact reshape_drop _ _ _
  · refine (View.write_of_not_mem (v := ostM.access (Rect.unit (s := S2x1024x512) ![p.val, m.val * 256, q.val * 256] S1x256x256.size h)) O (k0_pay12 sc V) Finset.univ hxm).trans ?_
    rcases List.mem_cons.1 ha with rfl | ha
    · exfalso
      apply hxm
      change x ∈ (View.slice (View.whole cc0_scratch2) (Rect.unit (s := S2x1024x512) ![p.val, m.val * 256, q.val * 256] S1x256x256.size h)).set
      rw [View.set_slice_whole, Rect.mem_set_unit]
      intro z
      change (x 1).val / 256 = m.val at h1
      change (x 2).val / 256 = q.val at h2
      fin_cases z <;> simp [S1x256x256] <;> omega
    · exact hO hP a ha x hx h1 h2
/-- Storing a block of results into the staging slot. -/
theorem store_ost {P : Prop} {Rs : ℕ → Fin 2 → Fin 4 → FVec F S256x256 .f32} {sc : F .f32} {p : Fin 2} {t : ℕ} {L : List (Fin 2 × Fin 4)}
    (q : Fin 2) (m : Fin 4) (V : FVec F S256x256 .f32) (hV : P → V = Rs t q m) {o : Fin 3 → ℕ} (h) (e : o = ![p.val, m.val * 256, q.val * 256])
    (O : S2x1024x512.Idx → Elt F .f32) (hO : okAt P Rs sc p.val t L O)
    {α : Type} {hs hm} {k : PUnit.{1} → Prog (TpuEff nD τ sig (Elt F) Λ₀ .tc) α} {Q : α → sProp 𝕄} :
    ostPt c p O ⊢ iprop((∀ O', (⌜okAt P Rs sc p.val t ((q, m) :: L) O'⌝ ∗ ostPt c p O') -∗ wp frame (wpE (defs₀ (F := F)) 𝒱 c none) Set.univ (k ⟨⟩) Q)
      -∗ wp frame (wpE (defs₀ (F := F)) 𝒱 c none) Set.univ
        (Prog.lift (.store ostM (Rect.unit (s := S2x1024x512) o S1x256x256.size h) (k0_pay12 sc V) Finset.univ hs hm) >>= k) Q) := by
  subst e
  unfold ostPt
  iintro H Hk
  iapply (wp_store (Ix := Unit) (Name := ℕ) (U := Pipeline.UC sig nD τ) (Lvl := ℕ) (Val := Elt F) (defs := defs₀ (F := F)) (k := k) (Q := Q) (f := O) (w := k0_pay12 sc V) (Mk := Finset.univ) (hx := hs) (hm := hm) 𝒱 (c : Thread nD τ) none Set.univ (m := ostM)
    (r := Rect.unit (s := S2x1024x512) ![p.val, m.val * 256, q.val * 256] S1x256x256.size h) (S := ostSet p.val) (ost_rect p.val _ _ h)) $$ [H]
  · iexact H
  iintro H
  iapply Hk
  isplitr
  · ipureintro; exact ok_store q m V hV h hO
  iexact H
end
end Cert.Kernel.Gen
-- ==== Proof.Trip.lean ====
module
public import proofs.«01_k».proof.Proof.Mat
public import proofs.«01_k».proof.Proof.Gen.Kernel.Skeleton
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ

/-! ## The two conditionals of a step -/

section
variable (c : Dev nD) (X : S48x5120x128.Idx → BitVec 32) (𝒱 : Variants)

/-- A side condition that holds is passed. -/
theorem assume_then {P : Prop} {d : Decidable P} {α : Type} (h : P) {k : PLift P → Prog (TpuEff nD τ sig (Elt F) Λ₀ .tc) α} {Q : α → sProp 𝕄} :
    wp frame (wpE (defs₀ (F := F)) 𝒱 c none) Set.univ (k ⟨h⟩) Q
      ⊢ wp frame (wpE (defs₀ (F := F)) 𝒱 c none) Set.univ (Prog.lift (.assume P d) >>= k) Q :=
  Entails.of_eq (wp_assume_of (defs := defs₀ (F := F)) (d := d) (k := k) (Q := Q) 𝒱 (c : Thread nD τ) none Set.univ h).symm
/-- The step's wait: the next block, if there is one, has landed. -/
theorem if_wait {nv T g : ℕ} {cond : Prop} [Decidable cond] (hc : cond ↔ g + 1 < T) (i : Fin 8) (hi : i.val = (g + 1) % 8)
    {o4 : Fin 4 → ℕ} {o1 : Fin 1 → ℕ} (e4 : o4 = ![i.val, 0, 0, 0]) (e1 : o1 = ![i.val]) (h4 : cond → _) (h1 : cond → _)
    {α : Type} {src : Memref sig .tc .hbm S4x128x128 .i32} {hs} {hd : ∀ h : cond, _}
    {J : Prog (TpuEff nD τ sig (Elt F) Λ₀ .tc) α} {Q : α → sProp 𝕄} :
    iprop(ring c X nv T g g ∗ owesSome c) ⊢ iprop(((ring c X nv T g (g + 1) ∗ owesSome c) -∗ wp frame (wpE (defs₀ (F := F)) 𝒱 c none) Set.univ J Q)
      -∗ wp frame (wpE (defs₀ (F := F)) 𝒱 c none) Set.univ
        (dite cond (fun h => Prog.lift (.waitDma2 (cellM o1 (h1 h)) src (slotM o4 (h4 h)) hs (hd h)) >>= fun _ => J) (fun _ => J)) Q) := by
  by_cases h : cond
  · rw [dif_pos h]
    iintro ⟨HR, HO⟩ Hk
    icases (ring_wait c X nv (hc.mp h) i hi) $$ HR with ⟨Hf, Hb⟩
    iapply (wait_slot c X 𝒱 (g + 1) i (h4 h) (h1 h) e4 e1 (hd := hd h)) $$ [Hf HO]
    · isplitl [Hf]; · iexact Hf
      iexact HO
    iintro ⟨Hl, HO⟩
    iapply Hk
    isplitr [HO]
    · iapply Hb; iexact Hl
    iexact HO
  · rw [dif_neg h, ring_nowait c X nv (by rw [hc] at h; omega)]
    iintro H Hk
    iapply Hk; iexact H

/-- The step's start: the slot just emptied takes the block eight further on, if there is one. -/
theorem if_start {nv T g : ℕ} (h1 : 1 ≤ nv) (h2 : nv ≤ 40) (hg : g < T) {cond : Prop} [Decidable cond] (hc : cond ↔ g + 8 < T) (i : Fin 8) (hi : i.val = g % 8)
    {o4 : Fin 4 → ℕ} {o3 : Fin 3 → ℕ} {o1 : Fin 1 → ℕ} (e4 : o4 = ![i.val, 0, 0, 0]) (e3 : o3 = ![kOf nv (g + 8) * 4, vOf nv (g + 8) * 128, 0])
    (e1 : o1 = ![i.val]) (h4 : cond → _) (h3 : cond → _) (h1' : cond → _)
    {α : Type} {hs : ∀ h : cond, _} {hd : ∀ h : cond, _} {hm : ∀ h : cond, _}
    {J : Prog (TpuEff nD τ sig (Elt F) Λ₀ .tc) α} {Q : α → sProp 𝕄} :
    ring c X nv T g (g + 1) ⊢ iprop((ring c X nv T (g + 1) (g + 1) -∗ wp frame (wpE (defs₀ (F := F)) 𝒱 c none) Set.univ J Q)
      -∗ wp frame (wpE (defs₀ (F := F)) 𝒱 c none) Set.univ
        (dite cond (fun h => Prog.lift (.enqueueDma (blkM o3 (h3 h)) (.here (slotM o4 (h4 h))) (.dma (cellM o1 (h1' h))) (hs h) (hd h) (hm h)) >>= fun _ => J) (fun _ => J)) Q) := by
  iintro HR Hk
  icases (ring_next c X nv hg i hi) $$ HR with ⟨Hv, Hb⟩
  by_cases h : cond
  · rw [dif_pos h, if_neg (by rw [hc] at h; omega)]
    iapply (start_slot c X 𝒱 h1 h2 (g + 8) i (h4 h) (h3 h) (h1' h) e4 e3 e1 (hs := hs h) (hd := hd h) (hm := hm h)) $$ Hv
    iintro Hf
    iapply Hk
    iapply Hb; iexact Hf
  · rw [dif_neg h, if_pos (by rw [hc] at h; omega)]
    iapply Hk
    iapply Hb; iexact Hv
end

/-- A step of a tile is a step of the whole. -/
theorem step_lt {nv v : ℕ} (t2 : Fin k0_t2_loop.trips) (t3 : Fin k0_t3_loop.trips) (h : v < nv) : (t2.val * 12 + t3.val) * nv + v < 192 * nv := by
  have h2 := lt2 t2
  have h3 := lt3 t3
  have := Nat.mul_le_mul_right nv (show t2.val * 12 + t3.val + 1 ≤ 192 by omega)
  rw [Nat.succ_mul] at this
  omega
/-- The weight tile of unit `q` in block `b`. -/
def wTile (X : S48x5120x128.Idx → BitVec 32) (nv b q : ℕ) : FVec F S256x256 .bf16 := rhsTile (blkBuf X nv b) 0 q
theorem rhsTile_blk (X : S48x5120x128.Idx → BitVec 32) (nv b q : ℕ) (i : Fin 8) : rhsTile (F := F) (blkBuf X nv b) i q = wTile X nv b q := rfl
/-- A staged tile. -/
abbrev stg (x : FVec F S256x256 .bf16) : Mxu.Staged F := ⟨.bf16, false, x⟩
/-- One product: row block `m` of the slab against block `b`, for the step's block `v`. -/
def term (fl : S80x512x128.Idx → BitVec 32) (X : S48x5120x128.Idx → BitVec 32) (nv b v : ℕ) (q : Fin 2) (m : Fin 4) : FVec F S256x256 .f32 :=
  (stg (wTile X nv b q.val)).pass (lhsTile fl v m.val)
/-- The sum of the products of the blocks `b`, …, `b + v`. -/
def psum (fl : S80x512x128.Idx → BitVec 32) (X : S48x5120x128.Idx → BitVec 32) (nv b : ℕ) (q : Fin 2) (m : Fin 4) : ℕ → FVec F S256x256 .f32
  | 0 => term fl X nv b 0 q m
  | v + 1 => addf (psum fl X nv b q m v) (term fl X nv (b + (v + 1)) (v + 1) q m)

/-- Between two steps: both tiles of block `b` are staged (if there is such a block), and the accumulators hold `V`. -/
def Ready (X : S48x5120x128.Idx → BitVec 32) (nv T b : ℕ) (μ : Mxu F) (V : Fin 2 → Fin 4 → FVec F S256x256 .f32) (Lv : Fin 2 → Fin 4 → Bool) : Prop :=
  ∃ (W : Fin 2 → FVec F S256x256 .bf16) (Gm : Fin 2 → Option (Mxu.Staged F)), St μ (fun q => some (stg (W q))) Gm V Lv ∧ (b < T → ∀ q, W q = wTile X nv b q.val)

theorem St.congr {μ : Mxu F} {R R' Gm : Fin 2 → Option (Mxu.Staged F)} {V V' : Fin 2 → Fin 4 → FVec F S256x256 .f32} {Lv Lv' : Fin 2 → Fin 4 → Bool}
    (h : St μ R Gm V Lv) (hR : ∀ q, R q = R' q) (hV : ∀ q m, V q m = V' q m) (hL : ∀ q m, Lv q m = Lv' q m) : St μ R' Gm V' Lv' := by
  obtain rfl : R = R' := funext hR
  obtain rfl : V = V' := funext fun q => funext fun m => hV q m
  obtain rfl : Lv = Lv' := funext fun q => funext fun m => hL q m
  exact h

/-! ## One further step of a tile -/

section
variable (c : Dev nD) (X : S48x5120x128.Idx → BitVec 32) (𝒱 : Variants)
  (arg0 : Memref sig .tc .smem S8 .i32) (harg0 : arg0.IsWhole) (arg1 : Memref sig .tc .smem S2 .f32) (harg1 : arg1.IsWhole)
  {v0 : BitVec 32} {nv : ℕ} (hv : v0 = BitVec.ofNat 32 nv) (h1 : 1 ≤ nv) (h2 : nv ≤ 40) (hw2 : k0_chk2 v0)
  (t2 : Fin k0_t2_loop.trips) (t3 : Fin k0_t3_loop.trips) (t4 : Fin (k0_t4_loop v0).trips)

include hv h1 h2 in
theorem part2_wp (fl : S80x512x128.Idx → BitVec 32) (fs : S8x4x128x128.Idx → BitVec 32) (i : Fin 8)
    (hi : i.val = ((t2.val * 12 + t3.val) * nv + (1 + t4.val) + 1) % 8)
    {μ : Mxu F} {R Gm : Fin 2 → Option (Mxu.Staged F)} {V : Fin 2 → Fin 4 → FVec F S256x256 .f32} {Lv : Fin 2 → Fin 4 → Bool}
    (hμ : St μ R Gm V Lv) (hn : R 1 = none) {u0 u1 : Mxu.Staged F} (g0 : Gm 0 = some u0) (g1 : Gm 1 = some u1) (a17 a260 : BitVec 32)
    {K : (Σ' (k0_mxu41 : Mxu F), FVec F S256x128 .bf16) → sProp 𝕄} :
    iprop(lhsPt c fl ∗ slotPt c i fs) ⊢ iprop((∀ μ' w, (⌜St μ' (upd1 R 1 (some (stg (rhsTile fs i 1)))) Gm
            (upd2 (upd2 V 0 1 (if Lv 0 1 then addf (V 0 1) (u0.pass (lhsTile fl (1 + t4.val) 1)) else u0.pass (lhsTile fl (1 + t4.val) 1)))
              1 1 (if Lv 1 1 then addf (V 1 1) (u1.pass (lhsTile fl (1 + t4.val) 1)) else u1.pass (lhsTile fl (1 + t4.val) 1)))
            (upd2 (upd2 Lv 0 1 true) 1 1 true) ∧ w = k0_pay5 (lhsPlane fl (2 * (1 + t4.val)) 2)⌝ ∗ lhsPt c fl ∗ slotPt c i fs) -∗ K ⟨μ', w⟩)
      -∗ wp frame (wpE (defs₀ (F := F)) 𝒱 c none) Set.univ
        (k0_part2 (F := F) arg0 harg0 arg1 harg1 dyqM (Memref.isWhole_whole _) xqM (Memref.isWhole_whole _) dwM (Memref.isWhole_whole _)
          lhsM (Memref.isWhole_whole _) xrM (Memref.isWhole_whole _) ostM (Memref.isWhole_whole _) cc0_scratch3 cc0_scratch4 cc0_scratch5
          v0 hw2 t2 t3 t4 a17 a260 μ) K) := by
  have ht4 := lt4 hv h1 h2 t4
  rw [k0_part2_eq_skeleton]; unfold k0_part2_skel
  iintro ⟨HL, HS⟩ Hk
  iapply (load_ring c 𝒱 fs i 2 _ (by rw [off32_eq hv h1 h2, hi]) (by omega)) $$ HS
  iintro HS
  iapply (load_ring c 𝒱 fs i 3 _ (by rw [off33_eq hv h1 h2, hi]) (by omega)) $$ HS
  iintro HS
  iapply (Mxu.wp_pushRhs _ (Mxu.pushOk_of_none _ _ _ _ ((hμ.reg0 1).trans hn)))
  have hμ1 := hμ.push 1 hn (rhsTile fs i 1)
  iapply (load_lhs c 𝒱 fl (2 * (1 + t4.val) + 0) 1 _ (off34_eq hv h1 h2 t4 0 (by omega)) (by omega) (by omega)) $$ HL
  iintro HL
  iapply (load_lhs c 𝒱 fl (2 * (1 + t4.val) + 1) 1 _ (off34_eq hv h1 h2 t4 1 (by omega)) (by omega) (by omega)) $$ HL
  iintro HL
  have hμ2 := hμ1.accBy 0 1 u0 (lhsTile fl (1 + t4.val) 1)
  iapply (Mxu.wp_accLhsLoaded _ _ ((hμ1.gm 0).trans g0))
  have hμ3 := hμ2.accBy 1 1 u1 (lhsTile fl (1 + t4.val) 1)
  iapply (Mxu.wp_accLhsLoaded _ _ ((hμ2.gm 1).trans g1))
  iapply (load_lhs c 𝒱 fl (2 * (1 + t4.val) + 0) 2 _ (off35_eq hv h1 h2 t4 0 (by omega)) (by omega) (by omega)) $$ HL
  iintro HL
  iapply (le_wp_ret (Fr := frame) (wpE := wpE (defs₀ (F := F)) 𝒱 c none) (E := Set.univ) _ _)
  iapply Hk
  isplitr [HL HS]
  · ipureintro
    exact ⟨hμ3, rfl⟩
  isplitl [HL]
  · iexact HL
  iexact HS

include hv h1 h2 in
theorem part1_wp (fl : S80x512x128.Idx → BitVec 32) (i : Fin 8) {T : ℕ} (hT : T = 192 * nv)
    (hi : i.val = ((t2.val * 12 + t3.val) * nv + (1 + t4.val) + 1) % 8) (v3 v123 : BitVec 32) {pk pv : BitVec 32}
    (hpk : pk = BitVec.ofNat 32 (kOf nv ((t2.val * 12 + t3.val) * nv + (1 + t4.val) + 8)))
    (hpv : pv = BitVec.ofNat 32 (vOf nv ((t2.val * 12 + t3.val) * nv + (1 + t4.val) + 8)))
    {μ : Mxu F} {R Gm : Fin 2 → Option (Mxu.Staged F)} {V : Fin 2 → Fin 4 → FVec F S256x256 .f32} {Lv : Fin 2 → Fin 4 → Bool}
    (hμ : St μ R Gm V Lv) {u0 u1 : Mxu.Staged F} (g0 : R 0 = some u0) (g1 : R 1 = some u1)
    {K : (Σ' (arg17_r0 : BitVec 32) (v260_r0 : BitVec 32), Mxu F) → sProp 𝕄} :
    iprop(lhsPt c fl ∗ ring c X nv T ((t2.val * 12 + t3.val) * nv + (1 + t4.val)) ((t2.val * 12 + t3.val) * nv + (1 + t4.val)) ∗ owesSome c) ⊢
      iprop((∀ a b μ' fs, (⌜St μ' (upd1 (upd1 (upd1 R 0 none) 0 (some (stg (rhsTile fs i 0)))) 1 none) (upd1 (upd1 Gm 0 (some u0)) 1 (some u1))
            (upd2 (upd2 V 0 0 (if Lv 0 0 then addf (V 0 0) (u0.pass (lhsTile fl (1 + t4.val) 0)) else u0.pass (lhsTile fl (1 + t4.val) 0)))
              1 0 (if Lv 1 0 then addf (V 1 0) (u1.pass (lhsTile fl (1 + t4.val) 0)) else u1.pass (lhsTile fl (1 + t4.val) 0)))
            (upd2 (upd2 Lv 0 0 true) 1 0 true) ∧ ((t2.val * 12 + t3.val) * nv + (1 + t4.val) + 1 < T → fs = blkBuf X nv ((t2.val * 12 + t3.val) * nv + (1 + t4.val) + 1))⌝
              ∗ lhsPt c fl ∗ slotPt c i fs ∗ (slotPt c i fs -∗ ring c X nv T ((t2.val * 12 + t3.val) * nv + (1 + t4.val) + 1) ((t2.val * 12 + t3.val) * nv + (1 + t4.val) + 1)) ∗ owesSome c) -∗ K ⟨a, b, μ'⟩)
      -∗ wp frame (wpE (defs₀ (F := F)) 𝒱 c none) Set.univ
        (k0_part1 (F := F) arg0 harg0 arg1 harg1 dyqM (Memref.isWhole_whole _) xqM (Memref.isWhole_whole _) dwM (Memref.isWhole_whole _)
          lhsM (Memref.isWhole_whole _) xrM (Memref.isWhole_whole _) ostM (Memref.isWhole_whole _) cc0_scratch3 cc0_scratch4 cc0_scratch5
          v0 hw2 v3 t2 t3 v123 1#32 1#32 t4 pk pv μ) K) := by
  have ht4 := lt4 hv h1 h2 t4
  have htile := tile_le h2 t2 t3
  have hT' : (t2.val * 12 + t3.val) * nv + (1 + t4.val) < T := by rw [hT]; exact step_lt t2 t3 (by omega)
  have hchk : k0_chk4 v0 t2 t3 t4 pk pv := by rw [hpk, hpv]; exact chk4_ok v0 t2 t3 t4 _ _ (kOf_lt nv _) (lt_of_lt_of_le (vOf_lt h1 _) h2)
  rw [k0_part1_eq_skeleton]; unfold k0_part1_skel
  iintro ⟨HL, HR, HO⟩ Hk
  iapply (assume_then c 𝒱 hchk)
  iapply (if_wait c X 𝒱 (nv := nv) (T := T) (g := (t2.val * 12 + t3.val) * nv + (1 + t4.val)) ((cond5_iff hv h1 h2 t2 t3 t4).trans (by rw [hT])) i hi
    (by rw [off25_eq hv h1 h2, hi]) (by rw [off24_eq hv h1 h2, hi]) _ _) $$ [HR HO]
  · isplitl [HR]; · iexact HR
    iexact HO
  iintro ⟨HR, HO⟩
  iapply (if_start c X 𝒱 h1 h2 hT' ((cond6_iff hv h1 h2 t2 t3 t4).trans (by rw [hT])) (⟨((t2.val * 12 + t3.val) * nv + (1 + t4.val)) % 8, Nat.mod_lt _ (by decide)⟩ : Fin 8) rfl
    (off27_eq hv h1 h2 t2 t3 t4) (by rw [hpk, hpv]; exact off28_eq _ _ (by have := kOf_lt nv ((t2.val * 12 + t3.val) * nv + (1 + t4.val) + 8); omega) (by have := vOf_lt h1 ((t2.val * 12 + t3.val) * nv + (1 + t4.val) + 8); omega))
    (off26_eq hv h1 h2 t2 t3 t4) _ _ _) $$ HR
  iintro HR
  icases (ring_focus c X nv i hi) $$ HR with ⟨%fs, %hfs, HS, HB⟩
  iapply (load_lhs c 𝒱 fl (2 * (1 + t4.val) + 0) 0 _ (off29_eq hv h1 h2 t4 0 (by omega)) (by omega) (by omega)) $$ HL
  iintro HL
  iapply (load_lhs c 𝒱 fl (2 * (1 + t4.val) + 1) 0 _ (off29_eq hv h1 h2 t4 1 (by omega)) (by omega) (by omega)) $$ HL
  iintro HL
  have hμ1 := hμ.accLhs 0 0 u0 g0 (lhsTile fl (1 + t4.val) 0)
  iapply (load_ring c 𝒱 fs i 0 _ (by rw [off30_eq hv h1 h2, hi]) (by omega)) $$ HS
  iintro HS
  iapply (load_ring c 𝒱 fs i 1 _ (by rw [off31_eq hv h1 h2, hi]) (by omega)) $$ HS
  iintro HS
  iapply (Mxu.wp_pushRhs _ (Mxu.pushOk_of_none _ _ _ _ ((hμ1.reg0 0).trans rfl)))
  have hμ2 := hμ1.push 0 rfl (rhsTile fs i 0)
  have hμ3 := hμ2.accLhs 1 0 u1 g1 (lhsTile fl (1 + t4.val) 0)
  iapply (le_wp_ret (Fr := frame) (wpE := wpE (defs₀ (F := F)) 𝒱 c none) (E := Set.univ) _ _)
  iapply Hk $$ %_ %_ %_ %fs [HL HS HB HO]
  isplitr [HL HS HB HO]
  · ipureintro
    exact ⟨hμ3, hfs⟩
  isplitl [HL]
  · iexact HL
  isplitl [HS]
  · iexact HS
  isplitl [HB]
  · iexact HB
  iexact HO
end
end Cert.Kernel.Gen
-- ==== Proof.Tile.lean ====
module
public import proofs.«01_k».proof.Proof.Trip
public import proofs.«01_k».proof.Proof.Gen.Kernel.Skeleton
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ

/-! ## The loop over the further blocks of a tile -/

section
variable (c : Dev nD) (X : S48x5120x128.Idx → BitVec 32) (𝒱 : Variants)
  (arg0 : Memref sig .tc .smem S8 .i32) (harg0 : arg0.IsWhole) (arg1 : Memref sig .tc .smem S2 .f32) (harg1 : arg1.IsWhole)
  {v0 : BitVec 32} {nv : ℕ} (hv : v0 = BitVec.ofNat 32 nv) (h1 : 1 ≤ nv) (h2 : nv ≤ 40) (hw2 : k0_chk2 v0)
  (t2 : Fin k0_t2_loop.trips) (t3 : Fin k0_t3_loop.trips)

/-- The state before step `b + (1 + k)` of the tile that began at step `b`. -/
def t4Inv (nv : ℕ) (fl : S80x512x128.Idx → BitVec 32) (T b k : ℕ) (s : BitVec 32 × BitVec 32 × Mxu F) : sProp 𝕄 :=
  iprop(⌜s.1 = BitVec.ofNat 32 (kOf nv (b + (1 + k) + 8)) ∧ s.2.1 = BitVec.ofNat 32 (vOf nv (b + (1 + k) + 8))
      ∧ Ready X nv T (b + (1 + k)) s.2.2 (fun q m => psum fl X nv b q m k) (fun _ _ => true)⌝
    ∗ lhsPt c fl ∗ ring c X nv T (b + (1 + k)) (b + (1 + k)) ∗ owesSome c)

include hv h1 h2 in
theorem t4_wp (fl : S80x512x128.Idx → BitVec 32) {T : ℕ} (hT : T = 192 * nv) (v3 : BitVec 32) (v4 : F .f32) (a15 a16 v123 v125 : BitVec 32)
    (v207 : FVec F S256x256 .bf16) (μ28 : Mxu F) (t4 : Fin (k0_t4_loop v0).trips) (s : BitVec 32 × BitVec 32 × Mxu F) :
    t4Inv c X nv fl T ((t2.val * 12 + t3.val) * nv) t4.val s ⊢
      wp frame (wpE (defs₀ (F := F)) 𝒱 c none) Set.univ
        (k0_t4_body (F := F) arg0 harg0 arg1 harg1 dyqM (Memref.isWhole_whole _) xqM (Memref.isWhole_whole _) dwM (Memref.isWhole_whole _)
          lhsM (Memref.isWhole_whole _) xrM (Memref.isWhole_whole _) ostM (Memref.isWhole_whole _) cc0_scratch3 cc0_scratch4 cc0_scratch5
          v0 hw2 v3 v4 t2 t3 a15 a16 v123 v125 v207 μ28 t4 s) (t4Inv c X nv fl T ((t2.val * 12 + t3.val) * nv) (t4.val + 1)) := by
  obtain ⟨pk, pv, μ⟩ := s
  have ht4 := lt4 hv h1 h2 t4
  unfold t4Inv
  iintro ⟨%hs, HL, HR, HO⟩
  obtain ⟨hpk, hpv, W, Gm, hμ, hW⟩ := hs
  have hg : (t2.val * 12 + t3.val) * nv + (1 + t4.val) < T := by rw [hT]; exact step_lt t2 t3 (by omega)
  have hW := hW hg
  unfold k0_t4_body
  iapply (Entails.of_eq (wp_bind frame (wpE (defs₀ (F := F)) 𝒱 c none) Set.univ _ _ _).symm)
  iapply (part1_wp c X 𝒱 arg0 harg0 arg1 harg1 hv h1 h2 hw2 t2 t3 t4 fl
    (⟨((t2.val * 12 + t3.val) * nv + (1 + t4.val) + 1) % 8, Nat.mod_lt _ (by decide)⟩ : Fin 8) hT rfl v3 v123 hpk hpv hμ rfl rfl) $$ [HL HR HO]
  · isplitl [HL]; · iexact HL
    isplitl [HR]; · iexact HR
    iexact HO
  iintro %a17 %a260 %μ1 %fs ⟨%h, HL, HS, HB, HO⟩
  obtain ⟨hμ1, hfs⟩ := h
  iapply (Entails.of_eq (wp_bind frame (wpE (defs₀ (F := F)) 𝒱 c none) Set.univ _ _ _).symm)
  iapply (part2_wp c 𝒱 arg0 harg0 arg1 harg1 hv h1 h2 hw2 t2 t3 t4 fl fs
    (⟨((t2.val * 12 + t3.val) * nv + (1 + t4.val) + 1) % 8, Nat.mod_lt _ (by decide)⟩ : Fin 8) rfl hμ1 rfl (u0 := stg (W 0)) (u1 := stg (W 1)) rfl rfl a17 a260) $$ [HL HS]
  · isplitl [HL]; · iexact HL
    iexact HS
  iintro %μ2 %w ⟨%h, HL, HS⟩
  obtain ⟨hμ2, hw⟩ := h
  subst hw
  iapply (load_lhs c 𝒱 fl (2 * (1 + t4.val) + 1) 2 _ (off35_eq hv h1 h2 t4 1 (by omega)) (by omega) (by omega)) $$ HL
  iintro HL
  have hμ3 := hμ2.accBy 0 2 (stg (W 0)) (lhsTile fl (1 + t4.val) 2)
  iapply (Mxu.wp_accLhsLoaded _ _ ((hμ2.gm 0).trans rfl))
  have hμ4 := hμ3.accBy 1 2 (stg (W 1)) (lhsTile fl (1 + t4.val) 2)
  iapply (Mxu.wp_accLhsLoaded _ _ ((hμ3.gm 1).trans rfl))
  iapply (load_lhs c 𝒱 fl (2 * (1 + t4.val) + 0) 3 _ (off36_eq hv h1 h2 t4 0 (by omega)) (by omega) (by omega)) $$ HL
  iintro HL
  iapply (load_lhs c 𝒱 fl (2 * (1 + t4.val) + 1) 3 _ (off36_eq hv h1 h2 t4 1 (by omega)) (by omega) (by omega)) $$ HL
  iintro HL
  have hμ5 := hμ4.accBy 0 3 (stg (W 0)) (lhsTile fl (1 + t4.val) 3)
  iapply (Mxu.wp_accLhsLoaded _ _ ((hμ4.gm 0).trans rfl))
  have hμ6 := hμ5.accBy 1 3 (stg (W 1)) (lhsTile fl (1 + t4.val) 3)
  iapply (Mxu.wp_accLhsLoaded _ _ ((hμ5.gm 1).trans rfl))
  iapply (le_wp_ret (Fr := frame) (wpE := wpE (defs₀ (F := F)) 𝒱 c none) (E := Set.univ) _ _)
  have hadv := advance h1 h2 ((t2.val * 12 + t3.val) * nv + (1 + t4.val) + 8)
  simp only [] at hadv
  isplitr [HL HS HB HO]
  · ipureintro
    refine ⟨?_, ?_, (fun q => rhsTile fs (⟨((t2.val * 12 + t3.val) * nv + (1 + t4.val) + 1) % 8, Nat.mod_lt _ (by decide)⟩ : Fin 8) q.val), _, hμ6.congr ?_ ?_ ?_, ?_⟩
    · subst hpk hpv hv; exact hadv.2
    · subst hpk hpv hv; exact hadv.1
    · intro q; fin_cases q <;> rfl
    · intro q m
      have e : psum fl X nv ((t2.val * 12 + t3.val) * nv) q m (t4.val + 1) = addf (psum fl X nv ((t2.val * 12 + t3.val) * nv) q m t4.val) ((stg (W q)).pass (lhsTile fl (1 + t4.val) m.val)) := by
        rw [hW q, Nat.add_comm 1 t4.val]; rw [psum, term]
      rw [e]
      fin_cases q <;> fin_cases m <;> rfl
    · intro q m; fin_cases q <;> fin_cases m <;> rfl
    · intro h q
      rw [hfs h]; rfl
  isplitl [HL]; · iexact HL
  isplitl [HS HB]
  · iapply HB; iexact HS
  iexact HO
end

/-! ## The staging buffer between two tiles -/

section
variable (c : Dev nD) (G V0 : S16384x6144.Idx → Elt F .f32) (𝒱 : Variants)
/-- The slot of tile `j`'s writes, and the other one. -/
abbrev slotP (j : ℕ) : Fin 2 := ⟨(j + 1) % 2, Nat.mod_lt _ (by decide)⟩
abbrev slotQ (j : ℕ) : Fin 2 := ⟨j % 2, Nat.mod_lt _ (by decide)⟩
/-- What stays put while tile `j` works on its slot. -/
def ostRest (j : ℕ) : sProp 𝕄 :=
  iprop((if 2 ≤ j then leaving c G (slotQ j) (j - 2) else ostVacant c (slotQ j)) ∗ dwPt c (ltSet (j - 2)) G ∗ dwPt c (geSet (j - 1)) V0)
/-- The staging buffer, its copies and the result before tile `j`. -/
def ostInv (j : ℕ) : sProp 𝕄 :=
  iprop((if 3 ≤ j then leaving c G (slotP j) (j - 3) else ostVacant c (slotP j))
    ∗ (if 2 ≤ j then leaving c G (slotQ j) (j - 2) else ostVacant c (slotQ j)) ∗ dwPt c (ltSet (j - 3)) G ∗ dwPt c (geSet (j - 1)) V0)
/-- A tile that has landed joins the part written. -/
theorem lt_join (t : ℕ) : iprop(dwPt c (ltSet t) G ∗ dwPt c (tileSet t) G) ⊢ dwPt c (ltSet (t + 1)) G := by
  unfold dwPt; rw [lt_succ]; exact (pointsTo_union (lt_disj t)).2
theorem ge_split (t : ℕ) : dwPt c (geSet t) V0 ⊢ iprop(dwPt c (tileSet t) V0 ∗ dwPt c (geSet (t + 1)) V0) := by
  unfold dwPt; rw [ge_succ]; exact (pointsTo_union (ge_disj t)).1

theorem collect {j : ℕ} (h : 3 ≤ j) {o1 : Fin 1 → ℕ} (h1') (e1 : o1 = ![(j + 1) % 2])
    {α : Type} {src : Memref sig .tc .vmem S1024x512 .f32} {o2 : Fin 2 → ℕ} {h2} {hs hd} {k : PUnit.{1} → Prog (TpuEff nD τ sig (Elt F) Λ₀ .tc) α} {Q : α → sProp 𝕄} :
    iprop(ostInv c G V0 j ∗ owesSome c) ⊢ iprop(((ostVacant c (slotP j) ∗ ostRest c G V0 j ∗ owesSome c) -∗ wp frame (wpE (defs₀ (F := F)) 𝒱 c none) Set.univ (k ⟨⟩) Q)
      -∗ wp frame (wpE (defs₀ (F := F)) 𝒱 c none) Set.univ
        (Prog.lift (.waitDma2 (ocellM o1 h1') src (tileM o2 h2) hs hd) >>= k) Q) := by
  unfold ostInv ostRest
  rw [if_pos h]
  iintro ⟨⟨HL, HQ, Hlt, Hge⟩, HO⟩ Hk
  iapply (wait_tile c G 𝒱 (j - 3) (slotP j) h1' e1) $$ [HL HO]
  · isplitl [HL]; · iexact HL
    iexact HO
  iintro ⟨HV, Ht, HO⟩
  iapply Hk
  isplitl [HV]; · iexact HV
  isplitr [HO]
  · isplitl [HQ]; · iexact HQ
    isplitr [Hge]
    · ihave Hx := (lt_join c G (j - 3)) $$ [Hlt Ht]
      · isplitl [Hlt]; · iexact Hlt
        iexact Ht
      iapply (Entails.of_eq (congrArg (fun n => dwPt c (ltSet n) G) (show j - 3 + 1 = j - 2 by omega)))
      iexact Hx
    iexact Hge
  iexact HO

/-- Tile `j`'s wait for the copy out of its slot of three tiles ago. -/
theorem if_collect {j : ℕ} {cond : Prop} [Decidable cond] (hc : cond ↔ 3 ≤ j) {o1 : Fin 1 → ℕ} (h1' : cond → _) (e1 : o1 = ![(j + 1) % 2])
    {α : Type} {src : cond → Memref sig .tc .vmem S1024x512 .f32} {o2 : Fin 2 → ℕ} {h2} {hs : ∀ h : cond, _} {hd} {J : Prog (TpuEff nD τ sig (Elt F) Λ₀ .tc) α} {Q : α → sProp 𝕄} :
    iprop(ostInv c G V0 j ∗ owesSome c) ⊢ iprop(((ostVacant c (slotP j) ∗ ostRest c G V0 j ∗ owesSome c) -∗ wp frame (wpE (defs₀ (F := F)) 𝒱 c none) Set.univ J Q)
      -∗ wp frame (wpE (defs₀ (F := F)) 𝒱 c none) Set.univ
        (dite cond (fun h => Prog.lift (.waitDma2 (ocellM o1 (h1' h)) (src h) (tileM o2 h2) (hs h) hd) >>= fun _ => J) (fun _ => J)) Q) := by
  by_cases h : cond
  · rw [dif_pos h]
    exact collect c G V0 𝒱 (hc.mp h) (h1' h) e1 (src := src h) (h2 := h2) (hs := hs h) (hd := hd) (k := fun _ => J) (Q := Q)
  · rw [dif_neg h]
    have h' : ¬ 3 ≤ j := fun h' => h (hc.mpr h')
    unfold ostInv ostRest
    rw [if_neg h']
    iintro ⟨⟨HV, HQ, Hlt, Hge⟩, HO⟩ Hk
    iapply Hk
    isplitl [HV]; · iexact HV
    isplitr [HO]
    · isplitl [HQ]; · iexact HQ
      isplitl [Hlt]
      · iapply (Entails.of_eq (congrArg (fun n => dwPt c (ltSet n) G) (show j - 3 = j - 2 by omega)))
        iexact Hlt
      iexact Hge
    iexact HO

theorem slotP_succ (j : ℕ) : slotP (j + 1) = slotQ j := by apply Fin.ext; show (j + 1 + 1) % 2 = j % 2; omega

theorem send {j : ℕ} (h : 1 ≤ j) (hj : j ≤ 192) {O : S2x1024x512.Idx → Elt F .f32} (hO : isTile G (slotP j).val (j - 1) O)
    {o3 : Fin 3 → ℕ} {o2 : Fin 2 → ℕ} {o1 : Fin 1 → ℕ} (h3) (h2) (h1')
    (e3 : o3 = ![(j + 1) % 2, 0, 0]) (e2 : o2 = ![(j - 1) / 12 * 1024, (j - 1) % 12 * 512]) (e1 : o1 = ![(j + 1) % 2])
    {α : Type} {hs hd hm} {k : PUnit.{1} → Prog (TpuEff nD τ sig (Elt F) Λ₀ .tc) α} {Q : α → sProp 𝕄} :
    iprop(ostPt c (slotP j) O ∗ ocellFree c (slotP j) ∗ ostRest c G V0 j) ⊢ iprop((ostInv c G V0 (j + 1) -∗ wp frame (wpE (defs₀ (F := F)) 𝒱 c none) Set.univ (k ⟨⟩) Q)
      -∗ wp frame (wpE (defs₀ (F := F)) 𝒱 c none) Set.univ
        (Prog.lift (.enqueueDma (ostSlotM o3 h3) (.here (tileM o2 h2)) (.dma (ocellM o1 h1')) hs hd hm) >>= k) Q) := by
  have eQ : (if 2 ≤ j then leaving c G (slotQ j) (j - 2) else ostVacant c (slotQ j)) = (if 3 ≤ j + 1 then leaving c G (slotQ j) (j + 1 - 3) else ostVacant c (slotQ j) : sProp 𝕄) := by
    by_cases h2 : 2 ≤ j
    · rw [if_pos h2, if_pos (show 3 ≤ j + 1 by omega)]; congr 1
    · rw [if_neg h2, if_neg (show ¬ 3 ≤ j + 1 by omega)]
  unfold ostRest
  iintro ⟨HP, HC, HQ, Hlt, Hge⟩ Hk
  icases (ge_split c V0 (j - 1)) $$ Hge with ⟨Ht, Hge⟩
  iapply (start_tile c G 𝒱 (j - 1) (by omega) (slotP j) hO h3 h2 h1' e3 e2 e1) $$ [HP HC Ht]
  · isplitl [HP]; · iexact HP
    isplitl [HC]; · iexact HC
    iexact Ht
  iintro HL
  iapply Hk
  unfold ostInv
  rw [slotP_succ, if_pos (show 2 ≤ j + 1 by omega)]
  isplitl [HQ]
  · iapply (Entails.of_eq eQ)
    iexact HQ
  isplitl [HL]
  · iexact HL
  isplitl [Hlt]
  · iexact Hlt
  · iapply (Entails.of_eq (congrArg (fun n => dwPt c (geSet n) V0) (show j - 1 + 1 = j + 1 - 1 by omega)))
    iexact Hge

/-- Tile `j` starts the copy of the tile before it. -/
theorem if_send {j : ℕ} {cond : Prop} [Decidable cond] (hc : cond ↔ 1 ≤ j) (hj : j ≤ 192) {O : S2x1024x512.Idx → Elt F .f32} (hO : 1 ≤ j → isTile G (slotP j).val (j - 1) O)
    {o3 : Fin 3 → ℕ} {o2 : Fin 2 → ℕ} {o1 : Fin 1 → ℕ} (h3 : cond → _) (h2 : cond → _) (h1' : cond → _)
    (e3 : o3 = ![(j + 1) % 2, 0, 0]) (e2 : 1 ≤ j → o2 = ![(j - 1) / 12 * 1024, (j - 1) % 12 * 512]) (e1 : o1 = ![(j + 1) % 2])
    {α : Type} {hs : ∀ h : cond, _} {hd : ∀ h : cond, _} {hm : ∀ h : cond, _} {J : Prog (TpuEff nD τ sig (Elt F) Λ₀ .tc) α} {Q : α → sProp 𝕄} :
    iprop(ostPt c (slotP j) O ∗ ocellFree c (slotP j) ∗ ostRest c G V0 j) ⊢ iprop((ostInv c G V0 (j + 1) -∗ wp frame (wpE (defs₀ (F := F)) 𝒱 c none) Set.univ J Q)
      -∗ wp frame (wpE (defs₀ (F := F)) 𝒱 c none) Set.univ
        (dite cond (fun h => Prog.lift (.enqueueDma (ostSlotM o3 (h3 h)) (.here (tileM o2 (h2 h))) (.dma (ocellM o1 (h1' h))) (hs h) (hd h) (hm h)) >>= fun _ => J) (fun _ => J)) Q) := by
  by_cases h : cond
  · rw [dif_pos h]
    exact send c G V0 𝒱 (hc.mp h) hj (hO (hc.mp h)) (h3 h) (h2 h) (h1' h) e3 (e2 (hc.mp h)) e1 (hs := hs h) (hd := hd h) (hm := hm h) (k := fun _ => J) (Q := Q)
  · rw [dif_neg h]
    have h' : j = 0 := by by_contra h'; exact h (hc.mpr (by omega))
    subst h'
    unfold ostInv ostRest ostVacant
    rw [if_neg (by omega), if_neg (by omega), if_neg (by omega)]
    iintro ⟨HP, HC, HQ, Hlt, Hge⟩ Hk
    iapply Hk
    isplitl [HQ]; · iexact HQ
    isplitl [HP HC]
    · isplitl [HP]; · iexists O; iexact HP
      iexact HC
    isplitl [Hlt]; · iexact Hlt
    iexact Hge
end

section
variable {μ : Mxu F} {R Gm : Fin 2 → Option (Mxu.Staged F)} {V : Fin 2 → Fin 4 → FVec F S256x256 .f32} {Lv : Fin 2 → Fin 4 → Bool}
theorem upd2_twice {A : Type} (V : Fin 2 → Fin 4 → A) (q : Fin 2) (m : Fin 4) (x y : A) : upd2 (upd2 V q m x) q m y = upd2 V q m y := by
  funext q' m'; unfold upd2; by_cases h : q' = q ∧ m' = m
  · rw [if_pos h, if_pos h]
  · rw [if_neg h, if_neg h, if_neg h]
theorem upd2_same {A : Type} (V : Fin 2 → Fin 4 → A) (q : Fin 2) (m : Fin 4) (x : A) : upd2 V q m x q m = x := by unfold upd2; rw [if_pos ⟨rfl, rfl⟩]
/-- An accumulator read, emptied and started afresh. -/
theorem St.popBy (h : St μ R Gm V Lv) (q : Fin 2) (m : Fin 4) (t : Mxu.Staged F) (lhs : FVec F S256x256 .bf16) :
    St ((μ.pop q (64 * m.val) 256 (fitsM m)).accBy q t (64 * m.val) lhs (fitsM m)) R Gm (upd2 V q m (t.pass lhs)) (upd2 Lv q m true) := by
  have := (h.pop q m).accBy q m t lhs
  rwa [upd2_twice, upd2_twice, upd2_same, if_neg (by decide)] at this
theorem St.popLhs (h : St μ R Gm V Lv) (q : Fin 2) (m : Fin 4) (t : Mxu.Staged F) (ht : R q = some t) (lhs : FVec F S256x256 .bf16) :
    St ((μ.pop q (64 * m.val) 256 (fitsM m)).accLhs q 0 (64 * m.val) lhs (fitsM m)) (upd1 R q none) (upd1 Gm q (some t)) (upd2 V q m (t.pass lhs)) (upd2 Lv q m true) := by
  have := (h.pop q m).accLhs q m t ht lhs
  rwa [upd2_twice, upd2_twice, upd2_same, if_neg (by decide)] at this
end

/-! ## One tile -/

section
variable (c : Dev nD) (X : S48x5120x128.Idx → BitVec 32) (D : S16x80x512x128.Idx → BitVec 32) (V0 : S16384x6144.Idx → Elt F .f32) (𝒱 : Variants)
  (arg0 : Memref sig .tc .smem S8 .i32) (harg0 : arg0.IsWhole) (arg1 : Memref sig .tc .smem S2 .f32) (harg1 : arg1.IsWhole)
  {v0 : BitVec 32} {nv : ℕ} (hv : v0 = BitVec.ofNat 32 nv) (h1 : 1 ≤ nv) (h2 : nv ≤ 40) (hw2 : k0_chk2 v0)
  (t2 : Fin k0_t2_loop.trips)

/-- Tile `t`: unit `q`'s row block `m`. -/
def resOf (nv t : ℕ) (q : Fin 2) (m : Fin 4) : FVec F S256x256 .f32 := psum (slabBuf D (t / 12)) X nv (t * nv) q m (nv - 1)
/-- The result. -/
def outOf (nv : ℕ) (sc : F .f32) : S16384x6144.Idx → Elt F .f32 := gOut (resOf X D nv) sc

/-- The state before tile `j`, the left operand's buffer holding `fl`. -/
def tileInv (nv : ℕ) (sc : F .f32) (fl : S80x512x128.Idx → BitVec 32) (j : ℕ) (s : BitVec 32 × BitVec 32 × Mxu F) : sProp 𝕄 :=
  iprop(⌜s.1 = BitVec.ofNat 32 (kOf nv (j * nv + 8)) ∧ s.2.1 = BitVec.ofNat 32 (vOf nv (j * nv + 8))
      ∧ ∃ V Lv, Ready X nv (192 * nv) (j * nv) s.2.2 V Lv ∧ (1 ≤ j → V = resOf X D nv (j - 1))⌝
    ∗ lhsPt c fl ∗ ring c X nv (192 * nv) (j * nv) (j * nv) ∗ owesSome c ∗ ostInv c (outOf X D nv sc) V0 j)

set_option maxHeartbeats 4000000 in
include hv h1 h2 in
theorem t3_wp (v3 : BitVec 32) (sc : F .f32) (μ9 : Mxu F) (a14_0 a14_1 : BitVec 32) (v23 : FVec F S256x128 .bf16) (a11 : BitVec 32)
    (t3 : Fin k0_t3_loop.trips) (s : BitVec 32 × BitVec 32 × Mxu F) :
    tileInv c X D V0 nv sc (slabBuf D t2.val) (t2.val * 12 + t3.val) s ⊢
      wp frame (wpE (defs₀ (F := F)) 𝒱 c none) Set.univ
        (k0_t3_body (F := F) arg0 harg0 arg1 harg1 dyqM (Memref.isWhole_whole _) xqM (Memref.isWhole_whole _) dwM (Memref.isWhole_whole _)
          lhsM (Memref.isWhole_whole _) xrM (Memref.isWhole_whole _) ostM (Memref.isWhole_whole _) cc0_scratch3 cc0_scratch4 cc0_scratch5
          v0 hw2 v3 sc μ9 a14_0 a14_1 v23 t2 a11 t3 s) (tileInv c X D V0 nv sc (slabBuf D t2.val) (t2.val * 12 + (t3.val + 1))) := by
  obtain ⟨pk, pv, μ⟩ := s
  have b2 := lt2 t2
  have b3 := lt3 t3
  unfold tileInv
  iintro ⟨%hs, HL, HR, HO, HI⟩
  obtain ⟨hpk, hpv, V, Lv, ⟨W, Gm, hμ, hW⟩, hV⟩ := hs
  change pk = _ at hpk
  change pv = _ at hpv
  change St μ _ _ _ _ at hμ
  have hg : (t2.val * 12 + t3.val) * nv < 192 * nv := by simpa using step_lt t2 t3 (show 0 < nv by omega)
  have hW := hW hg
  have hchk : k0_chk3 v0 t2 t3 pk pv := by rw [hpk, hpv]; exact chk3_ok v0 t2 t3 _ _ (kOf_lt nv _) (lt_of_lt_of_le (vOf_lt h1 _) h2)
  unfold k0_t3_body
  iapply (Entails.of_eq (wp_bind frame (wpE (defs₀ (F := F)) 𝒱 c none) Set.univ _ _ _).symm)
  rw [k0_part5_eq_skeleton]; unfold k0_part5_skel
  iapply (assume_then c 𝒱 hchk)
  iapply (if_collect c (outOf X D nv sc) V0 𝒱 (cond2_iff t2 t3) _ (off5_eq t2 t3)) $$ [HI HO]
  · isplitl [HI]; · iexact HI
    iexact HO
  unfold ostVacant
  iintro ⟨⟨⟨%O, HP⟩, HC⟩, HI, HO⟩
  have hO := okAt_nil (F := F) (1 ≤ (t2.val * 12 + t3.val)) (resOf X D nv) sc (slotP (t2.val * 12 + t3.val)).val ((t2.val * 12 + t3.val) - 1) O
  iapply (if_wait c X 𝒱 (nv := nv) (T := 192 * nv) (g := (t2.val * 12 + t3.val) * nv) (cond3_iff hv h1 h2 t2 t3) (⟨((t2.val * 12 + t3.val) * nv + 1) % 8, Nat.mod_lt _ (by decide)⟩ : Fin 8) rfl
    (off8_eq hv h1 h2 t2 t3) (off7_eq hv h1 h2 t2 t3) _ _) $$ [HR HO]
  · isplitl [HR]; · iexact HR
    iexact HO
  iintro ⟨HR, HO⟩
  iapply (if_start c X 𝒱 h1 h2 hg (cond4_iff hv h1 h2 t2 t3) (⟨((t2.val * 12 + t3.val) * nv) % 8, Nat.mod_lt _ (by decide)⟩ : Fin 8) rfl
    (off10_eq hv h1 h2 t2 t3) (by rw [hpk, hpv]; exact off11_eq _ _ (by have := kOf_lt nv ((t2.val * 12 + t3.val) * nv + 8); omega) (by have := vOf_lt h1 ((t2.val * 12 + t3.val) * nv + 8); omega))
    (off9_eq hv h1 h2 t2 t3) _ _ _) $$ HR
  iintro HR
  icases (ring_focus c X nv (⟨((t2.val * 12 + t3.val) * nv + 1) % 8, Nat.mod_lt _ (by decide)⟩ : Fin 8) rfl) $$ HR with ⟨%fs, %hfs, HS, HB⟩
  iapply (load_lhs c 𝒱 (slabBuf D t2.val) 0 0 _ rfl (by omega) (by omega)) $$ HL
  iintro HL
  iapply (load_lhs c 𝒱 (slabBuf D t2.val) 1 0 _ rfl (by omega) (by omega)) $$ HL
  iintro HL
  iapply (load_ost c 𝒱 O (slotP (t2.val * 12 + t3.val)) 0 0 _ (off12_eq t2 t3)) $$ HP
  iintro HP
  iapply (store_ost c 𝒱 0 0 _ (fun hP => ((hμ.val 0 0).trans rfl).trans (congrFun (congrFun (hV hP) 0) 0)) _ (off12_eq t2 t3) O hO) $$ HP
  iintro %O1 ⟨%hO1, HP⟩
  have hμ1 := hμ.popLhs 0 0 (stg (W 0)) rfl (lhsTile (slabBuf D t2.val) 0 0)
  iapply (le_wp_ret (Fr := frame) (wpE := wpE (defs₀ (F := F)) 𝒱 c none) (E := Set.univ) _ _)
  iapply (Entails.of_eq (wp_bind frame (wpE (defs₀ (F := F)) 𝒱 c none) Set.univ _ _ _).symm)
  rw [k0_part6_eq_skeleton]; unfold k0_part6_skel
  iapply (load_ring c 𝒱 fs (⟨((t2.val * 12 + t3.val) * nv + 1) % 8, Nat.mod_lt _ (by decide)⟩ : Fin 8) 0 _ (off13_eq hv h1 h2 t2 t3) (by omega)) $$ HS
  iintro HS
  iapply (load_ring c 𝒱 fs (⟨((t2.val * 12 + t3.val) * nv + 1) % 8, Nat.mod_lt _ (by decide)⟩ : Fin 8) 1 _ (off14_eq hv h1 h2 t2 t3) (by omega)) $$ HS
  iintro HS
  iapply (Mxu.wp_pushRhs _ (Mxu.pushOk_of_none _ _ _ _ ((hμ1.reg0 0).trans rfl)))
  have hμ2 := hμ1.push 0 rfl (rhsTile fs (⟨((t2.val * 12 + t3.val) * nv + 1) % 8, Nat.mod_lt _ (by decide)⟩ : Fin 8) 0)
  iapply (load_ost c 𝒱 O1 (slotP (t2.val * 12 + t3.val)) 0 256 _ (off15_eq t2 t3)) $$ HP
  iintro HP
  iapply (store_ost c 𝒱 1 0 _ (fun hP => ((hμ2.val 1 0).trans rfl).trans (congrFun (congrFun (hV hP) 1) 0)) _ (off15_eq t2 t3) O1 hO1) $$ HP
  iintro %O2 ⟨%hO2, HP⟩
  have hμ3 := hμ2.popLhs 1 0 (stg (W 1)) rfl (lhsTile (slabBuf D t2.val) 0 0)
  iapply (load_ring c 𝒱 fs (⟨((t2.val * 12 + t3.val) * nv + 1) % 8, Nat.mod_lt _ (by decide)⟩ : Fin 8) 2 _ (off16_eq hv h1 h2 t2 t3) (by omega)) $$ HS
  iintro HS
  iapply (load_ring c 𝒱 fs (⟨((t2.val * 12 + t3.val) * nv + 1) % 8, Nat.mod_lt _ (by decide)⟩ : Fin 8) 3 _ (off17_eq hv h1 h2 t2 t3) (by omega)) $$ HS
  iintro HS
  iapply (Mxu.wp_pushRhs _ (Mxu.pushOk_of_none _ _ _ _ ((hμ3.reg0 1).trans rfl)))
  have hμ4 := hμ3.push 1 rfl (rhsTile fs (⟨((t2.val * 12 + t3.val) * nv + 1) % 8, Nat.mod_lt _ (by decide)⟩ : Fin 8) 1)
  iapply (load_lhs c 𝒱 (slabBuf D t2.val) 0 1 _ rfl (by omega) (by omega)) $$ HL
  iintro HL
  iapply (load_lhs c 𝒱 (slabBuf D t2.val) 1 1 _ rfl (by omega) (by omega)) $$ HL
  iintro HL
  iapply (le_wp_ret (Fr := frame) (wpE := wpE (defs₀ (F := F)) 𝒱 c none) (E := Set.univ) _ _)
  iapply (Entails.of_eq (wp_bind frame (wpE (defs₀ (F := F)) 𝒱 c none) Set.univ _ _ _).symm)
  rw [k0_part7_eq_skeleton]; unfold k0_part7_skel
  iapply (load_ost c 𝒱 O2 (slotP (t2.val * 12 + t3.val)) 256 0 _ (off18_eq t2 t3)) $$ HP
  iintro HP
  iapply (store_ost c 𝒱 0 1 _ (fun hP => ((hμ4.val 0 1).trans rfl).trans (congrFun (congrFun (hV hP) 0) 1)) _ (off18_eq t2 t3) O2 hO2) $$ HP
  iintro %O3 ⟨%hO3, HP⟩
  iapply (Mxu.wp_accLhsLoaded _ _ (((hμ4.pop 0 1).gm 0).trans rfl))
  have hμ5 := hμ4.popBy 0 1 (stg (W 0)) (lhsTile (slabBuf D t2.val) 0 1)
  iapply (load_ost c 𝒱 O3 (slotP (t2.val * 12 + t3.val)) 256 256 _ (off19_eq t2 t3)) $$ HP
  iintro HP
  iapply (store_ost c 𝒱 1 1 _ (fun hP => ((hμ5.val 1 1).trans rfl).trans (congrFun (congrFun (hV hP) 1) 1)) _ (off19_eq t2 t3) O3 hO3) $$ HP
  iintro %O4 ⟨%hO4, HP⟩
  iapply (Mxu.wp_accLhsLoaded _ _ (((hμ5.pop 1 1).gm 1).trans rfl))
  have hμ6 := hμ5.popBy 1 1 (stg (W 1)) (lhsTile (slabBuf D t2.val) 0 1)
  iapply (load_lhs c 𝒱 (slabBuf D t2.val) 0 2 _ rfl (by omega) (by omega)) $$ HL
  iintro HL
  iapply (load_lhs c 𝒱 (slabBuf D t2.val) 1 2 _ rfl (by omega) (by omega)) $$ HL
  iintro HL
  iapply (load_ost c 𝒱 O4 (slotP (t2.val * 12 + t3.val)) 512 0 _ (off20_eq t2 t3)) $$ HP
  iintro HP
  iapply (store_ost c 𝒱 0 2 _ (fun hP => ((hμ6.val 0 2).trans rfl).trans (congrFun (congrFun (hV hP) 0) 2)) _ (off20_eq t2 t3) O4 hO4) $$ HP
  iintro %O5 ⟨%hO5, HP⟩
  iapply (Mxu.wp_accLhsLoaded _ _ (((hμ6.pop 0 2).gm 0).trans rfl))
  have hμ7 := hμ6.popBy 0 2 (stg (W 0)) (lhsTile (slabBuf D t2.val) 0 2)
  iapply (load_ost c 𝒱 O5 (slotP (t2.val * 12 + t3.val)) 512 256 _ (off21_eq t2 t3)) $$ HP
  iintro HP
  iapply (store_ost c 𝒱 1 2 _ (fun hP => ((hμ7.val 1 2).trans rfl).trans (congrFun (congrFun (hV hP) 1) 2)) _ (off21_eq t2 t3) O5 hO5) $$ HP
  iintro %O6 ⟨%hO6, HP⟩
  iapply (le_wp_ret (Fr := frame) (wpE := wpE (defs₀ (F := F)) 𝒱 c none) (E := Set.univ) _ _)
  iapply (Entails.of_eq (wp_bind frame (wpE (defs₀ (F := F)) 𝒱 c none) Set.univ _ _ _).symm)
  rw [k0_part8_eq_skeleton]; unfold k0_part8_skel
  iapply (Mxu.wp_accLhsLoaded _ _ (((hμ7.pop 1 2).gm 1).trans rfl))
  have hμ8 := hμ7.popBy 1 2 (stg (W 1)) (lhsTile (slabBuf D t2.val) 0 2)
  iapply (load_lhs c 𝒱 (slabBuf D t2.val) 0 3 _ rfl (by omega) (by omega)) $$ HL
  iintro HL
  iapply (load_lhs c 𝒱 (slabBuf D t2.val) 1 3 _ rfl (by omega) (by omega)) $$ HL
  iintro HL
  iapply (load_ost c 𝒱 O6 (slotP (t2.val * 12 + t3.val)) 768 0 _ (off22_eq t2 t3)) $$ HP
  iintro HP
  iapply (store_ost c 𝒱 0 3 _ (fun hP => ((hμ8.val 0 3).trans rfl).trans (congrFun (congrFun (hV hP) 0) 3)) _ (off22_eq t2 t3) O6 hO6) $$ HP
  iintro %O7 ⟨%hO7, HP⟩
  iapply (Mxu.wp_accLhsLoaded _ _ (((hμ8.pop 0 3).gm 0).trans rfl))
  have hμ9 := hμ8.popBy 0 3 (stg (W 0)) (lhsTile (slabBuf D t2.val) 0 3)
  iapply (load_ost c 𝒱 O7 (slotP (t2.val * 12 + t3.val)) 768 256 _ (off23_eq t2 t3)) $$ HP
  iintro HP
  iapply (store_ost c 𝒱 1 3 _ (fun hP => ((hμ9.val 1 3).trans rfl).trans (congrFun (congrFun (hV hP) 1) 3)) _ (off23_eq t2 t3) O7 hO7) $$ HP
  iintro %O8 ⟨%hO8, HP⟩
  iapply (Mxu.wp_accLhsLoaded _ _ (((hμ9.pop 1 3).gm 1).trans rfl))
  have hμ10 := hμ9.popBy 1 3 (stg (W 1)) (lhsTile (slabBuf D t2.val) 0 3)
  ihave HR := HB $$ HS
  iapply (Scf.wp_for_bind frame (wpE (defs₀ (F := F)) 𝒱 c none) Set.univ (k0_t4_loop v0).lb (k0_t4_loop v0).ub (k0_t4_loop v0).st (k0_t4_ok v0 hw2) _ _
    (t4Inv c X nv (slabBuf D t2.val) (192 * nv) ((t2.val * 12 + t3.val) * nv))
    (t4_wp c X 𝒱 arg0 harg0 arg1 harg1 hv h1 h2 hw2 t2 t3 (slabBuf D t2.val) rfl v3 sc pk pv _ _ _ _)) $$ [HL HR HO]
  · unfold t4Inv
    isplitr [HL HR HO]
    · ipureintro
      have hadv := advance h1 h2 ((t2.val * 12 + t3.val) * nv + 8)
      simp only [] at hadv
      refine ⟨?_, ?_, (fun q => rhsTile fs (⟨((t2.val * 12 + t3.val) * nv + 1) % 8, Nat.mod_lt _ (by decide)⟩ : Fin 8) q.val), _, hμ10.congr ?_ ?_ ?_, ?_⟩
      · subst hpk hpv hv
        exact hadv.2.trans (by congr 2)
      · subst hpk hpv hv
        exact hadv.1.trans (by congr 2)
      · intro q; fin_cases q <;> rfl
      · intro q m
        have e : psum (slabBuf D t2.val) X nv ((t2.val * 12 + t3.val) * nv) q m 0 = (stg (W q)).pass (lhsTile (slabBuf D t2.val) 0 m.val) := by
          rw [hW q, psum, term]
        rw [e]
        fin_cases q <;> fin_cases m <;> rfl
      · intro q m; fin_cases q <;> fin_cases m <;> rfl
      · intro h q
        rw [hfs h]; rfl
    isplitl [HL]; · iexact HL
    isplitl [HR]; · iexact HR
    iexact HO
  iintro %s4 HT
  ihave HT := (Entails.of_eq (congrArg (fun n => t4Inv c X nv (slabBuf D t2.val) (192 * nv) ((t2.val * 12 + t3.val) * nv) n s4) (trips4 hv h1 h2))) $$ HT
  obtain ⟨pk4, pv4, μ4⟩ := s4
  iapply (le_wp_ret (Fr := frame) (wpE := wpE (defs₀ (F := F)) 𝒱 c none) (E := Set.univ) _ _)
  iapply (Scf.wp_for_bind frame (wpE (defs₀ (F := F)) 𝒱 c none) Set.univ (k0_t5_loop v0).lb (k0_t5_loop v0).ub (k0_t5_loop v0).st (k0_t5_ok v0 hw2) _ _
    (fun _ acc => iprop(⌜acc = (pk4, pv4, μ4)⌝)) (fun k _ => (no5 k).elim)) $$ []
  · ipureintro; rfl
  iintro %s5 %h5
  subst h5
  have hall : 1 ≤ (t2.val * 12 + t3.val) → isTile (outOf X D nv sc) (slotP (t2.val * 12 + t3.val)).val ((t2.val * 12 + t3.val) - 1) O8 := fun h =>
    okAt_all hO8 h (by decide) (by omega)
  iapply (if_send c (outOf X D nv sc) V0 𝒱 (cond9_iff t2 t3) (by omega) hall _ _ _ (off52_eq t2 t3) (fun h => off51_eq t2 t3 h) (off50_eq t2 t3)) $$ [HP HC HI]
  · isplitl [HP]; · iexact HP
    isplitl [HC]; · iexact HC
    iexact HI
  iintro HI
  iapply (le_wp_ret (Fr := frame) (wpE := wpE (defs₀ (F := F)) 𝒱 c none) (E := Set.univ) _ _)
  unfold t4Inv
  icases HT with ⟨%hT, HL, HR, HO⟩
  obtain ⟨e1, e2, hrd⟩ := hT
  have ej : (t2.val * 12 + t3.val) * nv + (1 + (nv - 1)) = (t2.val * 12 + (t3.val + 1)) * nv := by
    rw [← Nat.add_assoc (t2.val * 12), Nat.succ_mul]; omega
  isplitr [HL HR HO HI]
  · ipureintro
    refine ⟨?_, ?_, (fun q m => psum (slabBuf D t2.val) X nv ((t2.val * 12 + t3.val) * nv) q m (nv - 1)), (fun _ _ => true), ?_, ?_⟩
    · rw [← ej]; exact e1
    · rw [← ej]; exact e2
    · rw [← ej]; exact hrd
    · intro _
      funext q m
      unfold resOf
      have e : t2.val * 12 + (t3.val + 1) - 1 = (t2.val * 12 + t3.val) := by omega
      have e' : (t2.val * 12 + t3.val) / 12 = t2.val := by omega
      rw [e, e']
  isplitl [HL]; · iexact HL
  isplitl [HR]
  · iapply (Entails.of_eq (congrArg (fun n => ring c X nv (192 * nv) n n) ej))
    iexact HR
  isplitl [HO]; · iexact HO
  iexact HI
end
end Cert.Kernel.Gen
-- ==== Proof.Outer.lean ====
module
public import proofs.«01_k».proof.Proof.Tile
public import proofs.«01_k».proof.Proof.Gen.Kernel.Skeleton
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ

/-! ## Words read from the staged arrays -/

section
variable (c : Dev nD) (𝒱 : Variants)
/-- A word of a staged array of words. -/
theorem load_word {s : Shape} {e : EltTy} (m : Memref sig .tc .smem s e) (r : Rect s) (h1 : r.shape.numel = 1) (hp : e.packing = 1) (B : s.Idx → Elt F e)
    {w : s.Idx} (hw : r.emb (Shape.Idx.first (h1.symm ▸ Nat.one_pos)) = w)
    {α : Type} {k : Elt F e → Prog (TpuEff nD τ sig (Elt F) Λ₀ .tc) α} {Q : α → sProp 𝕄} :
    (owns (c : Thread nD τ) m fullShare B : sProp 𝕄) ⊢ iprop((owns (c : Thread nD τ) m fullShare B -∗ wp frame (wpE (defs₀ (F := F)) 𝒱 c none) Set.univ (k (B w)) Q)
      -∗ wp frame (wpE (defs₀ (F := F)) 𝒱 c none) Set.univ (smemLoad m r h1 hp >>= k) Q) := by
  subst hw
  unfold owns
  iintro ⟨%f, %hf, H⟩ Hk
  have e : B (r.emb (Shape.Idx.first (h1.symm ▸ Nat.one_pos))) = (m.access r).read (Elt F) f (Shape.Idx.first (h1.symm ▸ Nat.one_pos)) := by
    rw [← hf]; rfl
  rw [e]
  iapply (wp_smemLoadElt (Ix := Unit) (Name := ℕ) (U := Pipeline.UC sig nD τ) (Lvl := ℕ) (Val := Elt F) (defs := defs₀ (F := F)) (k := k) (Q := Q) (f := f) (q := fullShare)
    (hw := View.loads_smem_one hp h1) (x := Shape.Idx.first (h1.symm ▸ Nat.one_pos)) 𝒱 (c : Thread nD τ) none Set.univ (m := m) (r := r) (S := m.view.set) (View.set_slice_subset _ r)) $$ [H]
  · iexact H
  iintro H
  iapply Hk
  iexists f
  isplitr; · ipureintro; exact hf
  iexact H
end

/-! ## The left operand's slab -/

section
variable (c : Dev nD) (D : S16x80x512x128.Idx → BitVec 32) (𝒱 : Variants)
def dyqPt : sProp 𝕄 := dyqM.view.loc (c : Thread nD τ) ↦[Finset.univ]{fullShare} D
def qFree : sProp 𝕄 := semVal ((c : Thread nD τ), SemLoc.dma cc0_scratch4.sem) 0
def slabN : ℕ := (slabM ![0, 0, 0, 0] (by decide)).view.dmaCredit

/-- The copy of slab `s`, started and waited for. -/
theorem slab_copy (s : ℕ) (hs : s < 16) (f : S80x512x128.Idx → BitVec 32) {o o' : Fin 4 → ℕ} (h) (h') (e : o = ![s, 0, 0, 0])
    {α : Type} {a1 a2 a3 b1 b2} {k : PUnit.{1} → Prog (TpuEff nD τ sig (Elt F) Λ₀ .tc) α} {Q : α → sProp 𝕄} :
    iprop(lhsPt c f ∗ dyqPt c D ∗ qFree c ∗ owesSome c) ⊢ iprop(((lhsPt c (slabBuf D s) ∗ dyqPt c D ∗ qFree c ∗ owesSome c) -∗ wp frame (wpE (defs₀ (F := F)) 𝒱 c none) Set.univ (k ⟨⟩) Q)
      -∗ wp frame (wpE (defs₀ (F := F)) 𝒱 c none) Set.univ
        (.op (.enqueueDma (slabM o h) (.here lhsM) (.dma cc0_scratch4.sem) a1 a2 a3) (fun _ => .op (.waitDma2 cc0_scratch4.sem (slabM o' h') lhsM b1 b2) k)) Q) := by
  subst e
  unfold lhsPt dyqPt qFree owesSome
  iintro ⟨Hl, Hd, Hc, ⟨%W, HO⟩⟩ Hk
  icases (pointsTo_split_subset (Finset.subset_univ (slabM ![s, 0, 0, 0] h).view.set)).1 $$ Hd with ⟨Hd, Hr⟩
  iapply (Transfers.wp_dmaLocal (countersEmb (U := Pipeline.UC sig nD τ)) 𝒱 (c : Thread nD τ) none () slabN rfl (View.dmaCredit_pos _ (by decide))
    (Finset.subset_univ (lhsM.view.set))) $$ [Hl Hd Hc]
  · isplitl [Hd]; · iexact Hd
    isplitl [Hl]; · iexact Hl
    iexact Hc
  iintro Hf
  iapply (Transfers.wp_waitLocal (countersEmb (U := Pipeline.UC sig nD τ)) 𝒱 (c : Thread nD τ) none (sem := cc0_scratch4.sem) (srcw := slabM o' h') (dstw := lhsM) (hsrc := b1) (hdst := b2) () (N := slabN) rfl) $$ [Hf HO]
  · isplitl [Hf]; · iexact Hf
    iexact HO
  iintro ⟨⟨Hl, Hd⟩, Hc, HO⟩
  iapply Hk
  isplitl [Hl]
  · iapply (Entails.of_eq (congrArg (fun g => (lhsM.view.loc (c : Thread nD τ) ↦[Finset.univ]{fullShare} g : sProp 𝕄)) (slab_landed (F := F) D s hs h f)))
    iexact Hl
  isplitl [Hd Hr]
  · iapply (pointsTo_split_subset (Finset.subset_univ (slabM ![s, 0, 0, 0] h).view.set)).2
    isplitl [Hd]; · iexact Hd
    iexact Hr
  isplitl [Hc]; · iexact Hc
  iexists _; iexact HO
end

/-! ## The loop over slabs -/

section
variable (c : Dev nD) (X : S48x5120x128.Idx → BitVec 32) (D : S16x80x512x128.Idx → BitVec 32) (V0 : S16384x6144.Idx → Elt F .f32) (𝒱 : Variants)
  (arg0 : Memref sig .tc .smem S8 .i32) (harg0 : arg0.IsWhole) (arg1 : Memref sig .tc .smem S2 .f32) (harg1 : arg1.IsWhole)
  {v0 : BitVec 32} {nv : ℕ} (hv : v0 = BitVec.ofNat 32 nv) (h1 : 1 ≤ nv) (h2 : nv ≤ 40) (hw2 : k0_chk2 v0)

/-- The state before slab `k`. -/
def slabInv (nv : ℕ) (sc : F .f32) (k : ℕ) (s : BitVec 32 × BitVec 32 × Mxu F) : sProp 𝕄 :=
  iprop((∃ fl, tileInv c X D V0 nv sc fl (k * 12) s) ∗ dyqPt c D ∗ qFree c)

set_option maxHeartbeats 4000000 in
include hv h1 h2 in
theorem t2_wp (v3 : BitVec 32) (sc : F .f32) (μ9 : Mxu F) (a14_0 a14_1 : BitVec 32) (v23 : FVec F S256x128 .bf16)
    (t2 : Fin k0_t2_loop.trips) (s : BitVec 32 × BitVec 32 × Mxu F) :
    slabInv c X D V0 nv sc t2.val s ⊢
      wp frame (wpE (defs₀ (F := F)) 𝒱 c none) Set.univ
        (k0_t2_body (F := F) arg0 harg0 arg1 harg1 dyqM (Memref.isWhole_whole _) xqM (Memref.isWhole_whole _) dwM (Memref.isWhole_whole _)
          lhsM (Memref.isWhole_whole _) xrM (Memref.isWhole_whole _) ostM (Memref.isWhole_whole _) cc0_scratch3 cc0_scratch4 cc0_scratch5
          v0 hw2 v3 sc μ9 a14_0 a14_1 v23 t2 s) (slabInv c X D V0 nv sc (t2.val + 1)) := by
  obtain ⟨pk, pv, μ⟩ := s
  have b2 := lt2 t2
  unfold slabInv
  iintro ⟨⟨%fl, HT⟩, HD, HQ⟩
  unfold tileInv
  icases HT with ⟨%hs, HL, HR, HO, HI⟩
  unfold k0_t2_body
  iapply (slab_copy c D 𝒱 t2.val b2 fl _ _ (off4_eq t2)) $$ [HL HD HQ HO]
  · isplitl [HL]; · iexact HL
    isplitl [HD]; · iexact HD
    isplitl [HQ]; · iexact HQ
    iexact HO
  iintro ⟨HL, HD, HQ, HO⟩
  iapply (Scf.wp_for_bind frame (wpE (defs₀ (F := F)) 𝒱 c none) Set.univ k0_t3_loop.lb k0_t3_loop.ub k0_t3_loop.st k0_t3_ok _ _
    (fun k s => tileInv c X D V0 nv sc (slabBuf D t2.val) (t2.val * 12 + k) s)
    (t3_wp c X D V0 𝒱 arg0 harg0 arg1 harg1 hv h1 h2 hw2 t2 v3 sc μ9 a14_0 a14_1 v23 _)) $$ [HL HR HO HI]
  · unfold tileInv
    isplitr [HL HR HO HI]; · ipureintro; exact hs
    isplitl [HL]; · iexact HL
    isplitl [HR]; · iexact HR
    isplitl [HO]; · iexact HO
    iexact HI
  iintro %s' HT
  ihave HT := (Entails.of_eq (congrArg (fun n => tileInv c X D V0 nv sc (slabBuf D t2.val) n s') (show t2.val * 12 + k0_t3_loop.trips = (t2.val + 1) * 12 by rw [trips3]; omega))) $$ HT
  obtain ⟨pk', pv', μ'⟩ := s'
  iapply (le_wp_ret (Fr := frame) (wpE := wpE (defs₀ (F := F)) 𝒱 c none) (E := Set.univ) _ _)
  isplitl [HT]
  · iexists (slabBuf D t2.val)
    unfold tileInv; iexact HT
  isplitl [HD]; · iexact HD
  iexact HQ

/-! ## The first eight blocks -/

theorem if_fill {nv : ℕ} (h1 : 1 ≤ nv) (h2 : nv ≤ 40) (b : ℕ) {cond : Prop} [Decidable cond] (hc : cond) (i : Fin 8)
    {o4 : Fin 4 → ℕ} {o3 : Fin 3 → ℕ} {o1 : Fin 1 → ℕ} (e4 : o4 = ![i.val, 0, 0, 0]) (e3 : o3 = ![kOf nv b * 4, vOf nv b * 128, 0])
    (e1 : o1 = ![i.val]) (h4 : cond → _) (h3 : cond → _) (h1' : cond → _)
    {α : Type} {hs : ∀ h : cond, _} {hd : ∀ h : cond, _} {hm : ∀ h : cond, _}
    {J : Prog (TpuEff nD τ sig (Elt F) Λ₀ .tc) α} {Q : α → sProp 𝕄} :
    vacant c X i ⊢ iprop((flying c X nv i b -∗ wp frame (wpE (defs₀ (F := F)) 𝒱 c none) Set.univ J Q)
      -∗ wp frame (wpE (defs₀ (F := F)) 𝒱 c none) Set.univ
        (dite cond (fun h => Prog.lift (.enqueueDma (blkM o3 (h3 h)) (.here (slotM o4 (h4 h))) (.dma (cellM o1 (h1' h))) (hs h) (hd h) (hm h)) >>= fun _ => J) (fun _ => J)) Q) := by
  rw [dif_pos hc]
  exact start_slot c X 𝒱 h1 h2 b i (h4 hc) (h3 hc) (h1' hc) e4 e3 e1 (hs := hs hc) (hd := hd hc) (hm := hm hc) (k := fun _ => J) (Q := Q)

/-- The state before the fill of slot `k`. -/
def fillInv (nv k : ℕ) (s : BitVec 32 × BitVec 32) : sProp 𝕄 :=
  iprop(⌜s.1 = BitVec.ofNat 32 (kOf nv k) ∧ s.2 = BitVec.ofNat 32 (vOf nv k)⌝ ∗ fillRing c X nv k)

set_option maxHeartbeats 4000000 in
include hv h1 h2 in
theorem t1_wp (t1 : Fin k0_t1_loop.trips) (s : BitVec 32 × BitVec 32) :
    fillInv c X nv t1.val s ⊢
      wp frame (wpE (defs₀ (F := F)) 𝒱 c none) Set.univ
        (k0_t1_body (F := F) arg0 harg0 arg1 harg1 dyqM (Memref.isWhole_whole _) xqM (Memref.isWhole_whole _) dwM (Memref.isWhole_whole _)
          lhsM (Memref.isWhole_whole _) xrM (Memref.isWhole_whole _) ostM (Memref.isWhole_whole _) cc0_scratch3 cc0_scratch4 cc0_scratch5
          v0 t1 s) (fillInv c X nv (t1.val + 1)) := by
  obtain ⟨pk, pv⟩ := s
  have b1 := lt1 t1
  unfold fillInv
  iintro ⟨%hs, HF⟩
  obtain ⟨hpk, hpv⟩ := hs
  change pk = _ at hpk
  change pv = _ at hpv
  have hchk : k0_chk1 v0 t1 pk pv := by rw [hpk, hpv]; exact chk1_ok v0 t1 _ _ (kOf_lt nv _) (lt_of_lt_of_le (vOf_lt h1 _) h2)
  have hc : k0_cond1 v0 t1 = 1#1 := (cond1_iff hv h1 h2 t1).2 (by omega)
  unfold k0_t1_body
  iapply (assume_then c 𝒱 hchk)
  icases (fillRing_step c X nv (⟨t1.val, b1⟩ : Fin 8)) $$ HF with ⟨Hv, HB⟩
  iapply (if_fill c X 𝒱 h1 h2 t1.val hc (⟨t1.val, b1⟩ : Fin 8) (off2_eq t1)
    (by rw [hpk, hpv]; exact off3_eq _ _ (by have := kOf_lt nv t1.val; omega) (by have := vOf_lt h1 t1.val; omega)) (off1_eq t1) _ _ _) $$ Hv
  iintro Hf
  ihave HF := HB $$ Hf
  iapply (le_wp_ret (Fr := frame) (wpE := wpE (defs₀ (F := F)) 𝒱 c none) (E := Set.univ) _ _)
  have hadv := advance h1 h2 t1.val
  simp only [] at hadv
  isplitr [HF]
  · ipureintro
    subst hpk hpv hv
    exact ⟨hadv.2, hadv.1⟩
  iexact HF
end
end Cert.Kernel.Gen
-- ==== Proof.Body.lean ====
module
public import proofs.«01_k».proof.Proof.Outer
public import proofs.«01_k».proof.Proof.Gen.Kernel.Skeleton
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ

/-! ## The whole body -/

/-- The index of the word that counts the chunks, and of the two scales. -/
def wMeta : S8.Idx := (Rect.unit (s := S8) ![0] S1.size inb_S8_S1_0).emb (Shape.Idx.first (numel1_S1.symm ▸ Nat.one_pos))
def wSt0 : S2.Idx := (Rect.unit (s := S2) ![0] S1.size inb_S2_S1_0).emb (Shape.Idx.first (numel1_S1.symm ▸ Nat.one_pos))
def wSt1 : S2.Idx := (Rect.unit (s := S2) ![1] S1.size inb_S2_S1_1).emb (Shape.Idx.first (numel1_S1.symm ▸ Nat.one_pos))

/-- A unit with empty registers and every accumulator popped may be left. -/
theorem St.drained {μ : Mxu F} {R Gm : Fin 2 → Option (Mxu.Staged F)} {V : Fin 2 → Fin 4 → FVec F S256x256 .f32} {Lv : Fin 2 → Fin 4 → Bool}
    (h : St μ R Gm V Lv) (hR : ∀ q, R q = none) (hL : ∀ q m, Lv q m = false) : μ.Drained := by
  constructor
  · intro q r
    fin_cases r
    · show (μ.reg q 0).isNone = true
      rw [h.reg0, hR]; rfl
    · show (μ.reg q 1).isNone = true
      rw [h.reg1]; rfl
  · intro q i
    have hi := i.isLt
    have e : i = Mxu.row (fitsM (⟨i.val / 256, by omega⟩ : Fin 4)) (⟨i.val % 256, by omega⟩ : Fin 256) := by
      apply Fin.ext
      show i.val = 4 * (64 * (i.val / 256)) + i.val % 256
      omega
    rw [e, h.lv, hL]
theorem St.init : St (F := F) Mxu.init (fun _ => none) (fun _ => none) (fun q m => (Mxu.init : Mxu F).read q (64 * m.val) (fitsM m)) (fun _ _ => false) where
  reg0 q := Mxu.reg_init ..
  reg1 q := Mxu.reg_init ..
  gm q := Mxu.gmr_init ..
  val q m := rfl
  lv q m r := Mxu.live_init ..

section
variable (c : Dev nD) (X : S48x5120x128.Idx → BitVec 32) (D : S16x80x512x128.Idx → BitVec 32) (V0 : S16384x6144.Idx → Elt F .f32) (𝒱 : Variants)
  (arg0 : Memref sig .tc .smem S8 .i32) (harg0 : arg0.IsWhole) (arg1 : Memref sig .tc .smem S2 .f32) (harg1 : arg1.IsWhole)
  (M0 : S8.Idx → Elt F .i32) (S0 : S2.Idx → Elt F .f32)
  {nv : ℕ} (hv : M0 wMeta = BitVec.ofNat 32 nv) (h1 : 1 ≤ nv) (h2 : nv ≤ 40)

/-- The units before the first step, its weights pushed. -/
theorem ready_of {nv T : ℕ} {μ : Mxu F} {R Gm : Fin 2 → Option (Mxu.Staged F)} {V : Fin 2 → Fin 4 → FVec F S256x256 .f32} {Lv : Fin 2 → Fin 4 → Bool}
    (h : St μ R Gm V Lv) (fs : S8x4x128x128.Idx → BitVec 32) (hR : ∀ q, R q = some (stg (rhsTile fs (0 : Fin 8) q.val)))
    (hfs : 0 < T → fs = blkBuf X nv 0) : Ready X nv T 0 μ V Lv := by
  refine ⟨fun q => rhsTile fs (0 : Fin 8) q.val, Gm, h.congr hR (fun _ _ => rfl) (fun _ _ => rfl), ?_⟩
  intro hT q
  rw [hfs hT]
  rfl
theorem slab_init {nv : ℕ} {sc : F .f32} {pk pv : BitVec 32} {μ : Mxu F} {V : Fin 2 → Fin 4 → FVec F S256x256 .f32} {Lv : Fin 2 → Fin 4 → Bool}
    (hpk : pk = BitVec.ofNat 32 (kOf nv 8)) (hpv : pv = BitVec.ofNat 32 (vOf nv 8)) (h : Ready X nv (192 * nv) 0 μ V Lv) (fl : S80x512x128.Idx → BitVec 32) :
    iprop(lhsPt c fl ∗ ring c X nv (192 * nv) 0 0 ∗ owesSome c ∗ ostVacant (F := F) c 1 ∗ ostVacant (F := F) c 0 ∗ dwPt c Finset.univ V0 ∗ dyqPt c D ∗ qFree c)
      ⊢ slabInv c X D V0 nv sc 0 (pk, pv, μ) := by
  unfold slabInv tileInv ostInv
  rw [show 0 * 12 = 0 from rfl, Nat.zero_mul, Nat.zero_add, if_neg (by decide), if_neg (by decide), show 0 - 3 = 0 from rfl, lt_zero, ge_zero]
  have e : dwPt c ∅ (outOf X D nv sc) = (iprop(emp) : sProp 𝕄) := pointsTo_empty
  rw [e]
  iintro ⟨HL, HR, HO, H1, H0, HG, HD, HQ⟩
  isplitr [HD HQ]; swap
  · isplitl [HD]; · iexact HD
    iexact HQ
  iexists fl
  isplitr [HL HR HO H0 H1 HG]
  · ipureintro
    exact ⟨hpk, hpv, V, Lv, h, fun h => absurd h (by decide)⟩
  isplitl [HL]; · iexact HL
  isplitl [HR]; · iexact HR
  isplitl [HO]; · iexact HO
  isplitl [H1]; · iexact H1
  isplitl [H0]; · iexact H0
  isplitr [HG]; · iempintro
  iexact HG

/-- What the body starts from and ends with; only the result changes. -/
def held (V : S16384x6144.Idx → Elt F .f32) : sProp 𝕄 :=
  iprop(owns (c : Thread nD τ) arg0 fullShare M0 ∗ owns (c : Thread nD τ) arg1 fullShare S0 ∗ (∃ f, lhsPt c f)
    ∗ bigSep Finset.univ (vacant c X) ∗ ostVacant (F := F) c 0 ∗ ostVacant (F := F) c 1 ∗ dwPt c Finset.univ V ∗ dyqPt c D ∗ qFree c ∗ owesSome c)

set_option maxHeartbeats 8000000 in
include hv h1 h2 in
theorem body_wp :
    held c X D arg0 arg1 M0 S0 V0 ⊢
      wp frame (wpE (defs₀ (F := F)) 𝒱 c none) Set.univ
        (cc0_wgrad (F := F) arg0 harg0 arg1 harg1 dyqM (Memref.isWhole_whole _) xqM (Memref.isWhole_whole _) dwM (Memref.isWhole_whole _)
          lhsM (Memref.isWhole_whole _) xrM (Memref.isWhole_whole _) ostM (Memref.isWhole_whole _) cc0_scratch3 cc0_scratch4 cc0_scratch5)
        (fun _ => held c X D arg0 arg1 M0 S0 (outOf X D nv (k0_pay27 (S0 wSt0) (S0 wSt1)))) := by
  have hw2 : k0_chk2 (M0 wMeta) := chk2_ok hv h1 h2
  unfold held
  iintro ⟨HA, HB1, ⟨%fl, HL⟩, HV, HO0, HO1, HG, HD, HQ, HO⟩
  rw [cc0_wgrad_eq_skeleton]; unfold cc0_wgrad_skel

  iapply (Entails.of_eq (wp_bind frame (wpE (defs₀ (F := F)) 𝒱 c none) Set.univ _ _ _).symm)
  rw [k0_part12_eq_skeleton]; unfold k0_part12_skel
  iapply (Entails.of_eq (wp_bind frame (wpE (defs₀ (F := F)) 𝒱 c none) Set.univ _ _ _).symm)
  rw [k0_part9_eq_skeleton]; unfold k0_part9_skel
  iapply (load_word c 𝒱 arg0 (Rect.unit (s := S8) ![0] S1.size inb_S8_S1_0) numel1_S1 rfl M0 (w := wMeta) rfl) $$ HA
  iintro HA
  iapply (assume_then c 𝒱 hw2)
  iapply (load_word c 𝒱 arg1 (Rect.unit (s := S2) ![0] S1.size inb_S2_S1_0) numel1_S1 rfl S0 (w := wSt0) rfl) $$ HB1
  iintro HB1
  iapply (load_word c 𝒱 arg1 (Rect.unit (s := S2) ![1] S1.size inb_S2_S1_1) numel1_S1 rfl S0 (w := wSt1) rfl) $$ HB1
  iintro HB1
  have hμ := (((((((St.init (F := F)).pop 0 0).pop 0 1).pop 0 2).pop 0 3).pop 1 0).pop 1 1).pop 1 2 |>.pop 1 3
  iapply (Scf.wp_for_bind frame (wpE (defs₀ (F := F)) 𝒱 c none) Set.univ k0_t1_loop.lb k0_t1_loop.ub k0_t1_loop.st k0_t1_ok _ _
    (fun k s => fillInv c X nv k s) (t1_wp c X 𝒱 arg0 harg0 arg1 harg1 hv h1 h2)) $$ [HV]
  · unfold fillInv
    isplitr [HV]
    · ipureintro
      refine ⟨?_, ?_⟩
      · unfold kOf; simp
      · unfold vOf; simp
    iapply (Entails.of_eq (fillRing_zero c X nv).symm)
    iexact HV
  iintro %s1 HT
  ihave HT := (Entails.of_eq (congrArg (fun n => fillInv c X nv n s1) trips1)) $$ HT
  obtain ⟨pk, pv⟩ := s1
  unfold fillInv
  icases HT with ⟨%hs1, HF⟩
  obtain ⟨hpk, hpv⟩ := hs1
  change pk = _ at hpk
  change pv = _ at hpv
  icases (fillRing_wait c X nv (T := 192 * nv) (by omega)) $$ HF with ⟨Hf, HB⟩
  iapply (wait_slot c X 𝒱 0 (0 : Fin 8) _ _ rfl rfl) $$ [Hf HO]
  · isplitl [Hf]; · iexact Hf
    iexact HO
  iintro ⟨Hf, HO⟩
  ihave HR := HB $$ Hf
  icases (ring_focus c X nv (T := 192 * nv) (g := 0) (0 : Fin 8) rfl) $$ HR with ⟨%fs, %hfs, HS, HB⟩
  iapply (load_ring c 𝒱 fs (0 : Fin 8) 0 _ rfl (by omega)) $$ HS
  iintro HS
  iapply (le_wp_ret (Fr := frame) (wpE := wpE (defs₀ (F := F)) 𝒱 c none) (E := Set.univ) _ _)
  iapply (Entails.of_eq (wp_bind frame (wpE (defs₀ (F := F)) 𝒱 c none) Set.univ _ _ _).symm)
  rw [k0_part10_eq_skeleton]; unfold k0_part10_skel
  iapply (load_ring c 𝒱 fs (0 : Fin 8) 1 _ rfl (by omega)) $$ HS
  iintro HS
  iapply (Mxu.wp_pushRhs _ (Mxu.pushOk_of_none _ _ _ _ ((hμ.reg0 0).trans rfl)))
  have hμ1 := hμ.push 0 rfl (rhsTile fs (0 : Fin 8) 0)
  iapply (load_ring c 𝒱 fs (0 : Fin 8) 2 _ rfl (by omega)) $$ HS
  iintro HS
  iapply (load_ring c 𝒱 fs (0 : Fin 8) 3 _ rfl (by omega)) $$ HS
  iintro HS
  iapply (Mxu.wp_pushRhs _ (Mxu.pushOk_of_none _ _ _ _ ((hμ1.reg0 1).trans rfl)))
  have hμ2 := hμ1.push 1 rfl (rhsTile fs (0 : Fin 8) 1)
  ihave HR := HB $$ HS
  iapply (Scf.wp_for_bind frame (wpE (defs₀ (F := F)) 𝒱 c none) Set.univ k0_t2_loop.lb k0_t2_loop.ub k0_t2_loop.st k0_t2_ok _ _
    (fun k s => slabInv c X D V0 nv (k0_pay27 (S0 wSt0) (S0 wSt1)) k s) (t2_wp c X D V0 𝒱 arg0 harg0 arg1 harg1 hv h1 h2 hw2 _ _ _ _ _ _)) $$ [HL HR HO HO0 HO1 HG HD HQ]
  · have hrd := ready_of X (T := 192 * nv) hμ2 fs (by intro q; fin_cases q <;> rfl) hfs
    iapply (slab_init c X D V0 hpk hpv hrd fl)
    isplitl [HL]; · iexact HL
    isplitl [HR]; · iexact HR
    isplitl [HO]; · iexact HO
    isplitl [HO1]; · iexact HO1
    isplitl [HO0]; · iexact HO0
    isplitl [HG]; · iexact HG
    isplitl [HD]; · iexact HD
    iexact HQ
  iintro %s2 HT
  ihave HT := (Entails.of_eq (congrArg (fun n => slabInv c X D V0 nv (k0_pay27 (S0 wSt0) (S0 wSt1)) n s2) trips2)) $$ HT
  unfold slabInv
  icases HT with ⟨⟨%fl2, HT⟩, HD, HQ⟩
  ihave HT := (Entails.of_eq (congrArg (fun n => tileInv c X D V0 nv (k0_pay27 (S0 wSt0) (S0 wSt1)) fl2 n s2) (show 16 * 12 = 192 by decide))) $$ HT
  unfold tileInv
  obtain ⟨pk2, pv2, μ2⟩ := s2
  icases HT with ⟨%hs2, HL, HR, HO, HI⟩
  obtain ⟨-, -, V, Lv, ⟨W, Gm, hμ, -⟩, hV⟩ := hs2
  change St μ2 _ _ _ _ at hμ
  have hV : True → V = resOf X D nv (192 - 1) := fun _ => hV (by decide)
  iapply (collect c (outOf X D nv (k0_pay27 (S0 wSt0) (S0 wSt1))) V0 𝒱 (j := 192) (by decide) _ rfl) $$ [HI HO]
  · isplitl [HI]; · iexact HI
    iexact HO
  unfold ostVacant
  iintro ⟨⟨⟨%O0, HP⟩, HC⟩, HI, HO⟩
  have hO0 := okAt_nil (F := F) True (resOf X D nv) (k0_pay27 (S0 wSt0) (S0 wSt1)) (slotP 192).val (192 - 1) O0
  iapply (load_ost c 𝒱 O0 (slotP 192) 0 0 _ rfl) $$ HP
  iintro HP
  iapply (store_ost c 𝒱 0 0 _ (fun hP => ((hμ.val 0 0).trans rfl).trans (congrFun (congrFun (hV hP) 0) 0)) _ rfl O0 hO0) $$ HP
  iintro %O1 ⟨%hO1, HP⟩
  have hμp1 := hμ.pop 0 0
  iapply (le_wp_ret (Fr := frame) (wpE := wpE (defs₀ (F := F)) 𝒱 c none) (E := Set.univ) _ _)
  iapply (Entails.of_eq (wp_bind frame (wpE (defs₀ (F := F)) 𝒱 c none) Set.univ _ _ _).symm)
  rw [k0_part11_eq_skeleton]; unfold k0_part11_skel
  iapply (load_ost c 𝒱 O1 (slotP 192) 256 0 _ rfl) $$ HP
  iintro HP
  iapply (store_ost c 𝒱 0 1 _ (fun hP => ((hμp1.val 0 1).trans rfl).trans (congrFun (congrFun (hV hP) 0) 1)) _ rfl O1 hO1) $$ HP
  iintro %O2 ⟨%hO2, HP⟩
  have hμp2 := hμp1.pop 0 1
  iapply (load_ost c 𝒱 O2 (slotP 192) 512 0 _ rfl) $$ HP
  iintro HP
  iapply (store_ost c 𝒱 0 2 _ (fun hP => ((hμp2.val 0 2).trans rfl).trans (congrFun (congrFun (hV hP) 0) 2)) _ rfl O2 hO2) $$ HP
  iintro %O3 ⟨%hO3, HP⟩
  have hμp3 := hμp2.pop 0 2
  iapply (load_ost c 𝒱 O3 (slotP 192) 768 0 _ rfl) $$ HP
  iintro HP
  iapply (store_ost c 𝒱 0 3 _ (fun hP => ((hμp3.val 0 3).trans rfl).trans (congrFun (congrFun (hV hP) 0) 3)) _ rfl O3 hO3) $$ HP
  iintro %O4 ⟨%hO4, HP⟩
  have hμp4 := hμp3.pop 0 3
  iapply (load_ost c 𝒱 O4 (slotP 192) 0 256 _ rfl) $$ HP
  iintro HP
  iapply (store_ost c 𝒱 1 0 _ (fun hP => ((hμp4.val 1 0).trans rfl).trans (congrFun (congrFun (hV hP) 1) 0)) _ rfl O4 hO4) $$ HP
  iintro %O5 ⟨%hO5, HP⟩
  have hμp5 := hμp4.pop 1 0
  iapply (load_ost c 𝒱 O5 (slotP 192) 256 256 _ rfl) $$ HP
  iintro HP
  iapply (store_ost c 𝒱 1 1 _ (fun hP => ((hμp5.val 1 1).trans rfl).trans (congrFun (congrFun (hV hP) 1) 1)) _ rfl O5 hO5) $$ HP
  iintro %O6 ⟨%hO6, HP⟩
  have hμp6 := hμp5.pop 1 1
  iapply (load_ost c 𝒱 O6 (slotP 192) 512 256 _ rfl) $$ HP
  iintro HP
  iapply (store_ost c 𝒱 1 2 _ (fun hP => ((hμp6.val 1 2).trans rfl).trans (congrFun (congrFun (hV hP) 1) 2)) _ rfl O6 hO6) $$ HP
  iintro %O7 ⟨%hO7, HP⟩
  have hμp7 := hμp6.pop 1 2
  iapply (le_wp_ret (Fr := frame) (wpE := wpE (defs₀ (F := F)) 𝒱 c none) (E := Set.univ) _ _)
  iapply (load_ost c 𝒱 O7 (slotP 192) 768 256 _ rfl) $$ HP
  iintro HP
  iapply (store_ost c 𝒱 1 3 _ (fun hP => ((hμp7.val 1 3).trans rfl).trans (congrFun (congrFun (hV hP) 1) 3)) _ rfl O7 hO7) $$ HP
  iintro %O8 ⟨%hO8, HP⟩
  have hμp8 := hμp7.pop 1 3
  have hf1 := (hμp8.accLhs 0 0 (stg (W 0)) rfl (k0_pay42 (F := F))).pop 0 0
  have hf2 := (hf1.accLhs 1 0 (stg (W 1)) rfl (k0_pay43 (F := F))).pop 1 0
  have hdr := hf2.drained (fun q => by fin_cases q <;> rfl) (fun q m => by fin_cases q <;> fin_cases m <;> rfl)
  have hall : isTile (outOf X D nv (k0_pay27 (S0 wSt0) (S0 wSt1))) (slotP 192).val (192 - 1) O8 := okAt_all hO8 trivial (by decide) (by decide)
  iapply (send c (outOf X D nv (k0_pay27 (S0 wSt0) (S0 wSt1))) V0 𝒱 (j := 192) (by decide) (by decide) hall _ _ _ rfl rfl rfl) $$ [HP HC HI]
  · isplitl [HP]; · iexact HP
    isplitl [HC]; · iexact HC
    iexact HI
  iintro HI
  iapply (collect c (outOf X D nv (k0_pay27 (S0 wSt0) (S0 wSt1))) V0 𝒱 (j := 193) (by decide) _ rfl) $$ [HI HO]
  · isplitl [HI]; · iexact HI
    iexact HO
  unfold ostRest
  rw [if_pos (show 2 ≤ 193 by decide)]
  iintro ⟨HV0, ⟨HLv, Hlt, Hge⟩, HO⟩
  iapply (le_wp_ret (Fr := frame) (wpE := wpE (defs₀ (F := F)) 𝒱 c none) (E := Set.univ) _ _)
  iapply (wait_tile c (outOf X D nv (k0_pay27 (S0 wSt0) (S0 wSt1))) 𝒱 (193 - 2) (slotQ 193) _ rfl) $$ [HLv HO]
  · isplitl [HLv]; · iexact HLv
    iexact HO
  iintro ⟨HV1, Ht, HO⟩
  iapply (Mxu.wp_exit hdr)
  iapply (le_wp_ret (Fr := frame) (wpE := wpE (defs₀ (F := F)) 𝒱 c none) (E := Set.univ) _ _)
  isplitl [HA]; · iexact HA
  isplitl [HB1]; · iexact HB1
  isplitl [HL]; · iexists _; iexact HL
  isplitl [HR]
  · iapply (Entails.of_eq (ring_end c X nv (192 * nv)))
    iexact HR
  isplitl [HV0]; · unfold ostVacant; iexact HV0
  isplitl [HV1]; · unfold ostVacant; iexact HV1
  isplitl [Hlt Ht]
  · ihave Hx := (lt_join c (outOf X D nv (k0_pay27 (S0 wSt0) (S0 wSt1))) 191) $$ [Hlt Ht]
    · isplitl [Hlt]; · iexact Hlt
      iexact Ht
    iapply (Entails.of_eq (congrArg (fun S => dwPt c S (outOf X D nv (k0_pay27 (S0 wSt0) (S0 wSt1)))) lt_end))
    iexact Hx
  isplitl [HD]; · iexact HD
  isplitl [HQ]; · iexact HQ
  iexact HO
end
end Cert.Kernel.Gen
-- ==== Proof.Split.lean ====
module
public import proofs.«01_k».proof.Proof.Body
public import proofs.«01_k».proof.Proof.Gen.Kernel.Skeleton
public import proofs.«01_k».proof.Proof.Gen.Kernel.Frame
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ
open Idealize.ShloMosaic.Pipeline (Dat Cfg Window BodyObligation cellOf)
open Idealize.ShloMosaic.Transfers (shareDrop)

/-! ## What the launch hands the body, as the body's loops want it -/

section
variable (c : Dev nD) (X : S48x5120x128.Idx → BitVec 32)

theorem slotSet_union : (Finset.univ : Finset (Fin 8)).biUnion (fun i => slotSet i.val) = Finset.univ := by
  ext x
  simp only [Finset.mem_biUnion, Finset.mem_univ, true_and, iff_true, slotSet, Finset.mem_filter]
  exact ⟨⟨(x 0).val, (x 0).isLt⟩, rfl⟩

theorem slotSet_disjoint : ∀ t ∈ (Finset.univ : Finset (Fin 8)), ∀ t' ∈ (Finset.univ : Finset (Fin 8)), t ≠ t' → Disjoint (slotSet t.val) (slotSet t'.val) := by
  intro t _ t' _ h
  rw [Finset.disjoint_left]
  intro x hx hx'
  rw [slotSet, Finset.mem_filter] at hx hx'
  exact h (Fin.ext (hx.2.symm.trans hx'.2))

theorem ostSet_union : (Finset.univ : Finset (Fin 2)).biUnion (fun i => ostSet i.val) = Finset.univ := by
  ext x
  simp only [Finset.mem_biUnion, Finset.mem_univ, true_and, iff_true, ostSet, Finset.mem_filter]
  exact ⟨⟨(x 0).val, (x 0).isLt⟩, rfl⟩

theorem ostSet_disjoint : ∀ t ∈ (Finset.univ : Finset (Fin 2)), ∀ t' ∈ (Finset.univ : Finset (Fin 2)), t ≠ t' → Disjoint (ostSet t.val) (ostSet t'.val) := by
  intro t _ t' _ h
  rw [Finset.disjoint_left]
  intro x hx hx'
  rw [ostSet, Finset.mem_filter] at hx hx'
  exact h (Fin.ext (hx.2.symm.trans hx'.2))

/-- Pieces of one buffer, each at contents of its own, are the buffer at some contents. -/
theorem join_pieces {n : ℕ} {ℓ : Loc nD τ sig} (K : Fin n → Finset (Idx ℓ)) (f₀ : Buf (Elt F) ℓ)
    (hU : (Finset.univ : Finset (Fin n)).biUnion K = Finset.univ)
    (h : ∀ t ∈ (Finset.univ : Finset (Fin n)), ∀ t' ∈ (Finset.univ : Finset (Fin n)), t ≠ t' → Disjoint (K t) (K t')) :
    bigSep Finset.univ (fun t => (iprop(∃ f : Buf (Elt F) ℓ, ℓ ↦[K t]{fullShare} f) : sProp 𝕄)) ⊢ iprop(∃ f, ℓ ↦{fullShare} f) := by
  refine Entails.trans (show _ ⊢ iprop(∃ g, ℓ ↦[Finset.univ.biUnion K]{fullShare} g) from ?_) (Entails.of_eq (by rw [hU]))
  clear hU
  generalize (Finset.univ : Finset (Fin n)) = S at h ⊢
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{fullShare} f) ∗ bigSep S (fun t => (iprop(∃ f : Buf (Elt F) ℓ, ℓ ↦[K t]{fullShare} f) : sProp 𝕄))) ⊢ _ from ?_)
    iintro ⟨⟨%f, Ht⟩, HS⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

/-- The ring's buffer, its semaphores and the block words: eight vacant slots, and what is left of the words' share. -/
theorem ring_open :
    iprop((∃ f, xrM.view.loc (c : Thread nD τ) ↦{fullShare} f) ∗ (xqM.view.loc (c : Thread nD τ) ↦{fullShare} X) ∗ bigSep Finset.univ (cellFree (F := F) c))
      ⊢ iprop(bigSep Finset.univ (vacant (F := F) c X) ∗ (xqM.view.loc (c : Thread nD τ) ↦[Finset.univ]{shareDrop fullShare 8} X)) := by
  rw [show bigSep Finset.univ (vacant (F := F) c X) = iprop(bigSep Finset.univ (fun i => (iprop(∃ f, slotPt (F := F) c i f) : sProp 𝕄))
    ∗ bigSep Finset.univ (cellFree (F := F) c) ∗ bigSep Finset.univ (tok (F := F) c X)) from by
      unfold vacant; exact (bigSep_sep _ _ _).trans (congrArg (fun P : sProp 𝕄 => iprop(_ ∗ P)) (bigSep_sep _ _ _))]
  iintro ⟨⟨%f, HR⟩, HX, HC⟩
  ihave HX := (Transfers.pointsTo_toks_split fullShare 8) $$ HX
  icases HX with ⟨Hd, HX⟩
  isplitr [Hd]
  swap; · iexact Hd
  isplitl [HR]
  · iapply (show (xrM.view.loc (c : Thread nD τ) ↦{fullShare} f : sProp 𝕄) ⊢ bigSep Finset.univ (fun i => (iprop(∃ f, slotPt (F := F) c i f) : sProp 𝕄)) from by
      refine (Entails.of_eq ?_).trans (bigSep_mono (Φ := fun i => slotPt (F := F) c i f) fun i _ => ?_)
      · unfold slotPt
        rw [← pointsTo_biUnion (ℓ := xrM.view.loc (c : Thread nD τ)) (q := fullShare) (f := f) Finset.univ (fun i : Fin 8 => slotSet i.val) slotSet_disjoint, slotSet_union]
      · refine (show slotPt (F := F) c i f ⊢ iprop(∃ f, slotPt (F := F) c i f) from ?_)
        iintro H; iexists f; iexact H)
    iexact HR
  isplitl [HC]; · iexact HC
  iexact HX

theorem ring_close :
    iprop(bigSep Finset.univ (vacant (F := F) c X) ∗ (xqM.view.loc (c : Thread nD τ) ↦[Finset.univ]{shareDrop fullShare 8} X))
      ⊢ iprop((∃ f, xrM.view.loc (c : Thread nD τ) ↦{fullShare} f) ∗ (xqM.view.loc (c : Thread nD τ) ↦{fullShare} X) ∗ bigSep Finset.univ (cellFree (F := F) c)) := by
  rw [show bigSep Finset.univ (vacant (F := F) c X) = iprop(bigSep Finset.univ (fun i => (iprop(∃ f, slotPt (F := F) c i f) : sProp 𝕄))
    ∗ bigSep Finset.univ (cellFree (F := F) c) ∗ bigSep Finset.univ (tok (F := F) c X)) from by
      unfold vacant; exact (bigSep_sep _ _ _).trans (congrArg (fun P : sProp 𝕄 => iprop(_ ∗ P)) (bigSep_sep _ _ _))]
  iintro ⟨⟨HR, HC, HX⟩, Hd⟩
  isplitl [HR]
  · iapply (join_pieces (F := F) (ℓ := xrM.view.loc (c : Thread nD τ)) (fun i : Fin 8 => slotSet i.val) (fun _ => (0 : BitVec 32)) slotSet_union slotSet_disjoint)
    iexact HR
  isplitl [HX Hd]
  · iapply (Transfers.pointsTo_toks_join fullShare 8)
    isplitl [Hd]; · iexact Hd
    iexact HX
  iexact HC

theorem ost_open :
    iprop((∃ f, ostM.view.loc (c : Thread nD τ) ↦{fullShare} f) ∗ ocellFree (F := F) c 0 ∗ ocellFree (F := F) c 1) ⊢ iprop(ostVacant (F := F) c 0 ∗ ostVacant (F := F) c 1) := by
  iintro ⟨⟨%f, HR⟩, H0, H1⟩
  ihave HR := (show (ostM.view.loc (c : Thread nD τ) ↦{fullShare} f : sProp 𝕄) ⊢ iprop(ostPt c 0 f ∗ ostPt c 1 f) from Entails.of_eq (by
    refine Eq.trans ?_ (bigSep_fin_two (fun p => ostPt (F := F) c p f))
    unfold ostPt
    rw [← pointsTo_biUnion (ℓ := ostM.view.loc (c : Thread nD τ)) (q := fullShare) (f := f) Finset.univ (fun i : Fin 2 => ostSet i.val) ostSet_disjoint, ostSet_union])) $$ HR
  icases HR with ⟨A, B⟩
  unfold ostVacant
  isplitl [A H0]
  · isplitl [A]; · iexists f; iexact A
    iexact H0
  isplitl [B]; · iexists f; iexact B
  iexact H1

theorem ost_close :
    iprop(ostVacant (F := F) c 0 ∗ ostVacant (F := F) c 1) ⊢ iprop((∃ f, ostM.view.loc (c : Thread nD τ) ↦{fullShare} f) ∗ ocellFree (F := F) c 0 ∗ ocellFree (F := F) c 1) := by
  unfold ostVacant
  iintro ⟨⟨A, H0⟩, B, H1⟩
  isplitl [A B]
  · iapply (join_pieces (F := F) (ℓ := ostM.view.loc (c : Thread nD τ)) (fun i : Fin 2 => ostSet i.val) (Classical.choice inferInstance) ostSet_union ostSet_disjoint)
    iapply (show iprop((∃ f, ostPt (F := F) c 0 f) ∗ (∃ f, ostPt (F := F) c 1 f)) ⊢ bigSep Finset.univ (fun p => (iprop(∃ f, ostPt (F := F) c p f) : sProp 𝕄)) from
      Entails.of_eq (bigSep_fin_two (fun p => (iprop(∃ f, ostPt (F := F) c p f) : sProp 𝕄))).symm)
    isplitl [A]; · iexact A
    iexact B
  isplitl [H0]; · iexact H0
  iexact H1
end
end Cert.Kernel.Gen
-- ==== Proof.Run.lean ====
module
public import proofs.«01_k».proof.Proof.Split
public import proofs.«01_k».proof.Proof.Gen.Kernel.Skeleton
public import proofs.«01_k».proof.Proof.Gen.Kernel.Frame
public import Idealize.ShloMosaic.Lib.Pipeline.FrameBody
public import Idealize.ShloMosaic.Lib.Pipeline.Routed
public import Idealize.ShloMosaic.Lib.Mxu.Lemmas
public import Idealize.ShloMosaic.Lib.Ring
public import Idealize.ShloMosaic.Lib.Tactic
@[expose] public section
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (Flight shareTok)
variable {F : FTy → Type} [FloatOps F]
local notation "𝕄" => MT nD τ sig Unit (Elt F) ℕ (Pipeline.UC sig nD τ) ℕ
open Idealize.ShloMosaic.Pipeline (Dat Cfg Window BodyObligation cellOf)
open Idealize.ShloMosaic.Transfers (shareDrop)

variable (m : (ℓ : Loc nD τ sig) → Buf (Elt F) ℓ) (ρ : Dev nD → PrngReg)

/-! ## The run -/

/-- The buffers the body reads and writes by its own transfers: the two packed operands and the result. -/
def R0 : Finset (Ref sig .tc) := {main_arg0, main_arg1, main_v0}
theorem R0_sub : R0 ⊆ Pipeline.restRefs sig spec0 := by decide
/-- The body's own semaphores: the ring's eight, the slab's one, the staging slots' two. -/
abbrev osem0 : Fin 11 → SemLoc sig := fun j => (![SemLoc.dma 2, SemLoc.dma 3, SemLoc.dma 4, SemLoc.dma 5, SemLoc.dma 6, SemLoc.dma 7, SemLoc.dma 8,
  SemLoc.dma 9, SemLoc.dma 10, SemLoc.dma 11, SemLoc.dma 12] : Fin 11 → SemLoc sig) j
theorem ownSemFacts0 : Pipeline.OwnSemFacts spec0 osem0 := by decide

theorem ownSems00_eq (c : Dev nD) :
    (Pipeline.ownSems0 (Ix := Unit) (Name := ℕ) (U := Pipeline.UC sig nD τ) (Lvl := ℕ) (Val := Elt F) (τ := τ) osem0 c : sProp 𝕄)
      = iprop(cellFree c 0 ∗ cellFree c 1 ∗ cellFree c 2 ∗ cellFree c 3 ∗ cellFree c 4 ∗ cellFree c 5 ∗ cellFree c 6 ∗ cellFree c 7
          ∗ qFree c ∗ ocellFree c 0 ∗ ocellFree c 1) := by
  rw [Pipeline.ownSems0_eq_of_list c osem0 [0, 1, 2, 3, 4, 5, 6, 7, 8, 9, 10] (by decide) (by decide)]; rfl

theorem cells_eq (c : Dev nD) :
    (bigSep Finset.univ (cellFree (F := F) c) : sProp 𝕄)
      = iprop(cellFree c 0 ∗ cellFree c 1 ∗ cellFree c 2 ∗ cellFree c 3 ∗ cellFree c 4 ∗ cellFree c 5 ∗ cellFree c 6 ∗ cellFree c 7) := by
  rw [bigSep_univ_eq_bigSepL [0, 1, 2, 3, 4, 5, 6, 7] (by decide) (by decide)]; rfl

theorem routed_eq (c : Dev nD) (W : (b : Ref sig .tc) → Buf (Elt F) ((c : Thread nD τ).loc b)) :
    (Pipeline.routed R0 c W : sProp 𝕄)
      = iprop(dyqPt c (W main_arg0) ∗ (xqM.view.loc (c : Thread nD τ) ↦{fullShare} W main_arg1) ∗ dwPt c Finset.univ (W main_v0)) := by
  unfold Pipeline.routed; rw [BI.bigSep_eq_bigSepL_of_eq [main_arg0, main_arg1, main_v0] (by decide) (by decide)]; rfl

theorem hmainC (𝒱₀ : Variants) : Pipeline.HMain (Ix := Unit) (Name := ℕ) (U := Pipeline.UC sig nD τ) (Lvl := ℕ) cfgs 0 defs₀ 𝒱₀ m (main (F := F)) (V m) :=
  Pipeline.hmain_region cfgs 0 defs₀ 𝒱₀ m main fun c => (main_chain c).trans rfl

/-! ### The contents -/

/-- The number of chunks, as the kernel reads it. -/
def nvOf (c : Dev nD) : ℕ := BitVec.toNat (w := 32) (V m c main_arg2 wMeta)
/-- What the run leaves in the result. -/
def outV (c : Dev nD) : S16384x6144.Idx → Elt F .f32 :=
  outOf (V m c main_arg1) (V m c main_arg0) (nvOf m c) (k0_pay27 (V m c main_arg3 wSt0) (V m c main_arg3 wSt1))
/-- The buffers after the run: as launched, but for the result. -/
def Y (c : Dev nD) : (b : Ref sig .tc) → Buf (Elt F) ((c : Thread nD τ).loc b) :=
  Function.update (V m c) main_v0 (outV m c)
theorem Y_main_v0 (c : Dev nD) : Y m c main_v0 = outV m c := Function.update_self ..
theorem Y_main_arg0 (c : Dev nD) : Y m c main_arg0 = V m c main_arg0 := Function.update_of_ne (by decide) ..
theorem Y_main_arg1 (c : Dev nD) : Y m c main_arg1 = V m c main_arg1 := Function.update_of_ne (by decide) ..
/-- The buffers before and after the one point. -/
def wAt (c : Dev nD) (k : ℕ) : (b : Ref sig .tc) → Buf (Elt F) ((c : Thread nD τ).loc b) := if k = 0 then V m c else Y m c
theorem wAt_zero (c : Dev nD) {k : ℕ} (h : k = 0) : wAt m c k = V m c := if_pos h
theorem wAt_succ (c : Dev nD) (k : ℕ) : wAt m c (k + 1) = Y m c := if_neg (Nat.succ_ne_zero k)

def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
  Φ k := Pipeline.Ends spec0 osem0 R0 c (wAt m c k.val)
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 {c : Dev nD} (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 {c : Dev nD} (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

abbrev ms0_0 (t : Fin cfg0.N) : Memref sig .tc .smem S8 .i32 := win0_0.stage (cfg0.slots t 0)
abbrev ms0_1 (t : Fin cfg0.N) : Memref sig .tc .smem S2 .f32 := win0_1.stage (cfg0.slots t 1)

theorem pt_eq (t : Fin cfg0.N) : t = t0_0 := by
  have h1 := t.isLt
  have h2 : cfg0.N = 1 := N_0
  exact Fin.ext (show t.val = 0 by omega)

theorem blk0_val (c : Dev nD) (t : Fin cfg0.N) (x : S8.Idx) : iblk m c 0 t x = V m c main_arg2 x := by
  rw [pt_eq t]
  refine congrArg (V m c main_arg2) (funext fun a => Fin.ext ?_)
  fin_cases a
  exact (Nat.zero_add _).trans (Nat.one_mul _)
theorem blk1_val (c : Dev nD) (t : Fin cfg0.N) (x : S2.Idx) : iblk m c 1 t x = V m c main_arg3 x := by
  rw [pt_eq t]
  refine congrArg (V m c main_arg3) (funext fun a => Fin.ext ?_)
  fin_cases a
  exact (Nat.zero_add _).trans (Nat.one_mul _)

/-! ### The body between its ends -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The ends of the run, buffer by buffer. -/
theorem ends_eq (c : Dev nD) (W : (b : Ref sig .tc) → Buf (Elt F) ((c : Thread nD τ).loc b)) :
    (Pipeline.Ends spec0 osem0 R0 c W : sProp 𝕄)
      = iprop((dyqPt c (W main_arg0) ∗ (xqM.view.loc (c : Thread nD τ) ↦{fullShare} W main_arg1) ∗ dwPt c Finset.univ (W main_v0))
        ∗ (cellFree c 0 ∗ cellFree c 1 ∗ cellFree c 2 ∗ cellFree c 3 ∗ cellFree c 4 ∗ cellFree c 5 ∗ cellFree c 6 ∗ cellFree c 7
          ∗ qFree c ∗ ocellFree c 0 ∗ ocellFree c 1)
        ∗ ((∃ f, lhsPt c f) ∗ (∃ f, xrM.view.loc (c : Thread nD τ) ↦{fullShare} f) ∗ (∃ f, ostM.view.loc (c : Thread nD τ) ↦{fullShare} f))
        ∗ ∃ r, prngReg c r) := by
  unfold Pipeline.Ends
  rw [routed_eq, ownSems00_eq, scopedRest0_eq]; rfl

set_option maxHeartbeats 1000000 in
theorem sound_body (c : Dev nD) (t : Fin cfg0.N) (h1 : 1 ≤ nvOf m c) (h2 : nvOf m c ≤ 40) :
    bodyPre m c t ⊢ wp frame (wpE (defs₀ (F := F)) Variants.none c none) Set.univ (bodyAt0 t) (fun _ => bodyPost m c t) := by
  have ht : t.val = 0 := by rw [pt_eq t]; rfl
  have hv : (iblk m c 0 t) wMeta = BitVec.ofNat 32 (nvOf m c) := by
    rw [blk0_val]; exact (BitVec.ofNat_toNat _ _).symm ▸ (BitVec.setWidth_eq _).symm
  unfold bodyPre bodyPost bodyAt0
  rw [after0_0, after0_1,
    show (dats m 0 c).Φ t.castSucc = Pipeline.Ends spec0 osem0 R0 c (V m c) from congrArg (fun W => Pipeline.Ends spec0 osem0 R0 c W) (wAt_zero m c ht),
    show (dats m 0 c).Φ t.succ = Pipeline.Ends spec0 osem0 R0 c (Y m c) from congrArg (fun W => Pipeline.Ends spec0 osem0 R0 c W) (wAt_succ m c t.val),
    ends_eq, ends_eq, Y_main_v0, Y_main_arg0, Y_main_arg1]
  unfold Dat.owesAt Pipeline.owesWithin
  rw [show (dats m 0 c).owed t.castSucc = 0 from rfl, show (dats m 0 c).owed t.succ = 0 from rfl]
  iintro ⟨⟨⟨HD, HX, HV⟩, ⟨C0, C1, C2, C3, C4, C5, C6, C7, HQ, P0, P1⟩, ⟨HL, HR, HP⟩, Hg⟩, ⟨%W, -, HW⟩, ⟨%d0, H0⟩, ⟨%d1, H1⟩⟩
  rw [before0_0, before0_1]
  ihave HR := (ring_open (F := F) c (V m c main_arg1)) $$ [HR HX C0 C1 C2 C3 C4 C5 C6 C7]
  · isplitl [HR]; · iexact HR
    isplitl [HX]; · iexact HX
    iapply (Entails.of_eq (cells_eq (F := F) c).symm)
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  icases HR with ⟨HR, HX⟩
  ihave HP := (ost_open (F := F) c) $$ [HP P0 P1]
  · isplitl [HP]; · iexact HP
    isplitl [P0]; · iexact P0
    iexact P1
  icases HP with ⟨P0, P1⟩
  iapply (wp_wand _ _ _) $$ [HD HV HQ HL HR P0 P1 HW H0 H1]
  · iapply (body_wp c (V m c main_arg1) (V m c main_arg0) (V m c main_v0) Variants.none (ms0_0 t) (hstage0_0 0) (ms0_1 t) (hstage0_1 0)
      (iblk m c 0 t) (iblk m c 1 t) hv h1 h2)
    unfold held owesSome
    isplitl [H0]; · iexact H0
    isplitl [H1]; · iexact H1
    isplitl [HL]; · iexact HL
    isplitl [HR]; · iexact HR
    isplitl [P0]; · iexact P0
    isplitl [P1]; · iexact P1
    isplitl [HV]; · iexact HV
    isplitl [HD]; · iexact HD
    isplitl [HQ]; · iexact HQ
    iexists W; iexact HW
  iintro %a H
  unfold held owesSome
  rw [blk1_val, blk1_val]
  icases H with ⟨H0, H1, HL, HR, P0, P1, HV, HD, HQ, ⟨%W', HW⟩⟩
  ihave HR := (ring_close (F := F) c (V m c main_arg1)) $$ [HR HX]
  · isplitl [HR]; · iexact HR
    iexact HX
  icases HR with ⟨HR, HX, HC⟩
  ihave HP := (ost_close (F := F) c) $$ [P0 P1]
  · isplitl [P0]; · iexact P0
    iexact P1
  icases HP with ⟨HP, P0, P1⟩
  ihave HC := (Entails.of_eq (cells_eq (F := F) c)) $$ HC
  icases HC with ⟨C0, C1, C2, C3, C4, C5, C6, C7⟩
  isplitl [HD HX HV C0 C1 C2 C3 C4 C5 C6 C7 HQ P0 P1 HL HR HP Hg]
  · isplitl [HD HX HV]
    · isplitl [HD]; · iexact HD
      isplitl [HX]; · iexact HX
      unfold outV
      iexact HV
    isplitl [C0 C1 C2 C3 C4 C5 C6 C7 HQ P0 P1]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [HQ]; · iexact HQ
      isplitl [P0]; · iexact P0
      iexact P1
    isplitl [HL HR HP]
    · isplitl [HL]; · iexact HL
      isplitl [HR]; · iexact HR
      iexact HP
    iexact Hg
  isplitl [HW]
  · iexists W'; isplitr; · ipureintro; exact fun _ _ => Or.inl trivial
    iexact HW
  isplitl [H0]; · iexact H0
  iexact H1

theorem defs₀_row (t : Fin cfg0.N) :
    defs₀ (F := F) .tc cfg0.body (cfg0.bodyArgs t (cfg0.slots t)) = bodyAt0 t := by
  unfold defs₀; rw [Defs.onTc_tc]

theorem body_obligation (c : Dev nD) (h1 : 1 ≤ nvOf m c) (h2 : nvOf m c ≤ 40) :
    BodyObligation (dats (F := F) m 0 c) (defs₀ (F := F)) Variants.none () Set.univ := fun t => by
  rw [bigSep_W0, bigSep_W0, defs₀_row]
  exact triple_restated (sound_body m c t h1 h2) rfl .rfl fun _ => .rfl

/-! ## The run and the frame -/

set_option backward.isDefEq.respectTransparency.types false in
theorem run_main (hn : ∀ c, 1 ≤ nvOf m c ∧ nvOf m c ≤ 40) :
    θ_run defs (onTc (τ := τ) (main (F := F))) (s₀ m ρ) (fun r => Pipeline.RoutedPost cfgs (dats m) 0 R0 (V m) (Y m) r ∧ r.2.sem = fun _ => 0) :=
  Pipeline.θ_run_frame_routed (Q' := _) cfgs (dats m) (0 : Fin 1) launch0 (osem := osem0) ownSemFacts0 defs₀ Variants.none m ρ main
    (hbody := fun c => (body_obligation m c (hn c).1 (hn c).2).loose) (hshare := fun c => (dats m 0 c).share_full fun _ => rfl)
    (howed := fun _ _ => rfl) (V := V m) (hmain := hmainC m Variants.none) (hA := A_eq m) (R := R0) (hR := R0_sub) (Y := Y m)
    (hin := fun c => Entails.of_eq (congrArg (fun W => Pipeline.Ends spec0 osem0 R0 c W) (wAt_zero m c rfl).symm))
    (hout := fun c => Entails.of_eq (congrArg (fun W => Pipeline.Ends spec0 osem0 R0 c W) (wAt_succ m c 0)))

/-- Every run ends, with the result at `outV`, the arguments as launched and every counter at zero. -/
theorem run (hn : ∀ c, 1 ≤ nvOf m c ∧ nvOf m c ≤ 40) :
    θ_run defs (onTc (τ := τ) (main (F := F))) ⟨m, fun _ => 0, ρ⟩ (fun r => (∀ c : Dev nD,
      r.2.mem ((c.tc : Thread nD τ).loc main_v0) = outV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2.1 main_v0 (by decide)).trans (Y_main_v0 m c),
      ((h.1 c).2.1 main_arg0 (by decide)).trans (Y_main_arg0 m c),
      ((h.1 c).2.1 main_arg1 (by decide)).trans (Y_main_arg1 m c),
      ((h.1 c).1 0).trans (((dats m 0 c).arrAt_in 0 rfl _).trans (A_eq m c 0)),
      ((h.1 c).1 1).trans (((dats m 0 c).arrAt_in 1 rfl _).trans (A_eq m c 1))⟩, h.2⟩) (run_main m ρ hn)
end Cert.Kernel.Gen
-- ==== Proof.Transport.lean ====
module
public import proofs.«01_k».proof.Proof.Run
public import proofs.«01_k».proof.Proof.Gen.KernelIdeal.Frame
@[expose] public section
noncomputable section

/-! The kernel over the extended reals is the same program as the kernel over words: its run is the same run. -/

namespace Cert.Transport
open Idealize.ShloMosaic Idealize.ShloMosaic.TcCoe Idealize.SL Idealize.SL.Sem
theorem body_eq {F : FTy → Type} [FloatOps F] : @Cert.KernelIdeal.cc0_wgrad F _ Cert.KernelIdeal.Gen.facts = @Cert.Kernel.cc0_wgrad F _ Cert.Kernel.Gen.facts := rfl
theorem defs₀_eq {F : FTy → Type} [FloatOps F] : Cert.KernelIdeal.defs₀ (F := F) = Cert.Kernel.defs₀ (F := F) := by
  unfold Cert.KernelIdeal.defs₀ Cert.Kernel.defs₀
  refine congrArg (Defs.onTc (nD := Cert.Kernel.nD) (τ := Cert.Kernel.τ) (sig := Cert.Kernel.sig) (Val := Elt F) (Λ := Cert.Kernel.Λ₀)) (funext fun l => ?_)
  match l with
  | 0 => exact funext fun a => rfl
theorem defs_eq {F : FTy → Type} [FloatOps F] : Cert.KernelIdeal.defs (F := F) = Cert.Kernel.defs (F := F) :=
  congrArg (Pipeline.defs (Cert.Kernel.pcfgs (F := F))) defs₀_eq
theorem main_eq {F : FTy → Type} [FloatOps F] : Cert.KernelIdeal.main (F := F) = Cert.Kernel.main (F := F) := rfl

open Cert.KernelIdeal
variable {F : FTy → Type} [FloatOps F]
/-- Every run of the ideal kernel ends, with the result at `outV`, the arguments as launched and every counter at zero. -/
theorem runI (m : (ℓ : Loc nD τ sig) → Buf (Elt F) ℓ) (ρ : Dev nD → PrngReg) (hn : ∀ c, 1 ≤ Cert.Kernel.Gen.nvOf (F := F) m c ∧ Cert.Kernel.Gen.nvOf (F := F) m c ≤ 40) :
    θ_run defs (onTc (τ := τ) (main (F := F))) ⟨m, fun _ => 0, ρ⟩ (fun r => (∀ c : Dev nD,
      r.2.mem ((c.tc : Thread nD τ).loc main_v0) = Cert.Kernel.Gen.outV (F := F) m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  have h := Cert.Kernel.Gen.run (F := F) m ρ hn
  rw [← defs_eq] at h
  exact h
end Cert.Transport
-- ==== Proof.Pre.lean ====
module
public import proofs.«01_k».proof.Pre_some_chunks
public import proofs.«01_k».proof.Proof.Transport
@[expose] public section
noncomputable section

/-! The precondition, read: the number of chunks is between 1 and 40. -/

namespace Cert.Pre_some_chunks
open Idealize.ShloMosaic

/-- What the predicate states of its arrays, proved. -/
instance facts : Facts where
  slices_S8_S1_0 := by decide
  shapeCasts_S1_S_ := by decide

theorem word_bounds (w : BitVec 32) (h1 : BitVec.sle 1#32 w = true) (h2 : BitVec.sle w 40#32 = true) : 1 ≤ w.toNat ∧ w.toNat ≤ 40 := by
  rw [BitVec.sle_eq_decide, decide_eq_true_eq] at h1 h2
  have e1 : (1#32).toInt = 1 := by decide
  have e2 : (40#32).toInt = 40 := by decide
  rw [e1] at h1
  rw [e2] at h2
  have := w.isLt
  rw [BitVec.toInt_eq_toNat_cond] at h1 h2
  split at h1 <;> omega

theorem wMeta_val : (Cert.Kernel.Gen.wMeta 0).val = 0 := by
  unfold Cert.Kernel.Gen.wMeta
  exact (Nat.zero_add _).trans ((Nat.one_mul _).trans (Nat.lt_one_iff.mp (Fin.isLt (n := 1) _)))

theorem bounds {F : FTy → Type} [FloatOps F] (a0 : IVec S16x80x512x128 32) (a1 : IVec S48x5120x128 32) (a2 : IVec S8 32) (a3 : FVec F S2 .f32)
    (h : fn a0 a1 a2 a3 = fun _ => 1#1) : 1 ≤ (a2 Cert.Kernel.Gen.wMeta).toNat ∧ (a2 Cert.Kernel.Gen.wMeta).toNat ≤ 40 := by
  have h0 := congrFun h (fun a => a.elim0)
  have hw : ∀ i, shapeCast S_ (extractStridedSlice S1 ![0] a2 Facts.slices_S8_S1_0) Facts.shapeCasts_S1_S_ i = a2 Cert.Kernel.Gen.wMeta := fun i => by
    refine congrArg a2 (funext fun a => ?_)
    fin_cases a
    refine Fin.ext (Eq.trans (b := 0) ?_ wMeta_val.symm)
    exact (Nat.zero_add _).trans (Nat.lt_one_iff.mp (Fin.isLt (n := 1) _))
  unfold fn at h0
  simp only [andi, cmpi] at h0
  rw [hw] at h0
  change BitVec.ofBool (BitVec.sle 1#32 (a2 Cert.Kernel.Gen.wMeta)) &&& BitVec.ofBool (BitVec.sle (a2 Cert.Kernel.Gen.wMeta) 40#32) = 1#1 at h0
  refine word_bounds _ ?_ ?_
  · cases hb : BitVec.sle 1#32 (a2 Cert.Kernel.Gen.wMeta)
    · rw [hb] at h0; revert h0; cases BitVec.sle (a2 Cert.Kernel.Gen.wMeta) 40#32 <;> decide
    · rfl
  · cases hb : BitVec.sle (a2 Cert.Kernel.Gen.wMeta) 40#32
    · rw [hb] at h0; revert h0; cases BitVec.sle 1#32 (a2 Cert.Kernel.Gen.wMeta) <;> decide
    · rfl
end Cert.Pre_some_chunks
-- ==== Proof.Value.lean ====
module
public import proofs.«01_k».proof.Proof.Run
public import Idealize.ShloMosaic.Lib.Pointwise
public import Idealize.ShloMosaic.Lib.BitcastPair
public import Idealize.ShloMosaic.Lib.BitcastConvert
@[expose] public section
noncomputable section
namespace Cert.Kernel.Gen
open Idealize.ShloMosaic Idealize.ShloMosaic.TcCoe

/-! # The kernel's result as one sum -/

/-- Half `p` of a word, as a bf16. -/
def half {F : FTy → Type} [FloatOps F] (w : BitVec 32) (p : ℕ) : F .bf16 := FloatOps.ofBits .bf16 (w.extractLsb' (16 * p) 16)
/-- Words read as pairs of rows: row `r` is half `r % 2` of word row `r / 2`. -/
theorem bitcast_at {F : FTy → Type} [FloatOps F] (x : IVec S128x128 32) (r : Fin 256) (c : Fin 128) :
    bitcastToFloat (F := F) .bf16 (bitcast S256x128 16 x bitcasts_S128x128_w32_S256x128_w16) (ix2 r c)
      = half (x (ix2 (⟨r.val / 2, by omega⟩ : Fin 128) c)) (r.val % 2) := by
  show FloatOps.ofBits .bf16 (bitcast S256x128 16 x bitcasts_S128x128_w32_S256x128_w16 (ix2 r c)) = _
  rw [bitcast_32_16]
  unfold half
  show FloatOps.ofBits (F := F) .bf16 (BitVec.extractLsb' (16 * (r.val % 2)) 16 _) = _
  refine congrArg (fun w => FloatOps.ofBits (F := F) .bf16 (BitVec.extractLsb' (16 * (r.val % 2)) 16 w)) (congrArg x ?_)
  funext a; apply Fin.ext
  match a with
  | ⟨0, _⟩ => rfl
  | ⟨1, _⟩ => rfl

theorem cat_at {F : FTy → Type} [FloatOps F] (x y : FVec F S256x128 .bf16) (r c : Fin 256) :
    concatenate S256x256 1 [⟨S256x128, x⟩, ⟨S256x128, y⟩] concatenates_S256x128_S256x128_S256x256_d1 (ix2 r c)
      = (if c.val < 128 then x else y) (ix2 r (⟨c.val % 128, Nat.mod_lt _ (by decide)⟩ : Fin 128)) := by
  rw [concatenate_pair_apply]
  split
  · rename_i h
    have h : c.val < 128 := h
    rw [if_pos h]
    refine congrArg x ?_; funext a; apply Fin.ext
    match a with
    | ⟨0, _⟩ => rfl
    | ⟨1, _⟩ => exact (Nat.mod_eq_of_lt h).symm
  · rename_i h
    have h : ¬ c.val < 128 := h
    rw [if_neg h]
    refine congrArg y ?_; funext a; apply Fin.ext
    match a with
    | ⟨0, _⟩ => rfl
    | ⟨1, _⟩ => show c.val - 128 = c.val % 128; omega

theorem cast3_at (x : S1x128x128.Idx → BitVec 32) (r c : Fin 128) :
    shapeCast S128x128 x shapeCasts_S1x128x128_S128x128 (ix2 r c) = x (ix3 (0 : Fin 1) r c) := by
  pointwise
theorem cast4_at (x : S1x1x128x128.Idx → BitVec 32) (r c : Fin 128) :
    shapeCast S128x128 x shapeCasts_S1x1x128x128_S128x128 (ix2 r c) = x (ix4 (0 : Fin 1) (0 : Fin 1) r c) := by
  pointwise

section
variable {F : FTy → Type} [FloatOps F]
theorem pay1_at (a b : Vec F S1x128x128 .i32) (r c : Fin 256) :
    k0_pay1 (F := F) a b (ix2 r c) = half ((if c.val < 128 then a else b) (ix3 (0 : Fin 1) (⟨r.val / 2, by omega⟩ : Fin 128) (⟨c.val % 128, Nat.mod_lt _ (by decide)⟩ : Fin 128))) (r.val % 2) := by
  unfold k0_pay1
  refine (cat_at _ _ r c).trans ?_
  split <;> exact (bitcast_at _ _ _).trans (congrArg (fun w => half w _) (cast3_at _ _ _))
theorem pay2_at (a b : Vec F S1x1x128x128 .i32) (r c : Fin 256) :
    k0_pay2 (F := F) a b (ix2 r c) = half ((if c.val < 128 then a else b) (ix4 (0 : Fin 1) (0 : Fin 1) (⟨r.val / 2, by omega⟩ : Fin 128) (⟨c.val % 128, Nat.mod_lt _ (by decide)⟩ : Fin 128))) (r.val % 2) := by
  unfold k0_pay2
  refine (cat_at _ _ r c).trans ?_
  split <;> exact (bitcast_at _ _ _).trans (congrArg (fun w => half w _) (cast4_at _ _ _))

/-- Element `(t, n)` of the left operand, `(t, k)` of the right one: token `t`, columns `n` and `k`. -/
def dyAt (D : S16x80x512x128.Idx → BitVec 32) (t n : ℕ) : F .bf16 :=
  half (D (ix4 (⟨n / 1024 % 16, Nat.mod_lt _ (by decide)⟩ : Fin 16) (⟨t / 128 % 80, Nat.mod_lt _ (by decide)⟩ : Fin 80)
    (⟨n % 1024 / 2, by omega⟩ : Fin 512) (⟨t % 128, Nat.mod_lt _ (by decide)⟩ : Fin 128))) (n % 2)
def xAt (X : S48x5120x128.Idx → BitVec 32) (t k : ℕ) : F .bf16 :=
  half (X (ix3 (⟨k / 128 % 48, Nat.mod_lt _ (by decide)⟩ : Fin 48) (⟨t / 2 % 5120, Nat.mod_lt _ (by decide)⟩ : Fin 5120)
    (⟨k % 128, Nat.mod_lt _ (by decide)⟩ : Fin 128))) (t % 2)

theorem lhsTile_at (D : S16x80x512x128.Idx → BitVec 32) (v n : ℕ) (hv : v < 40) (hn : n < 16384) (j : Fin 256) :
    lhsTile (F := F) (slabBuf D (n / 1024)) v (n % 1024 / 256) (ix2 (⟨n % 256, Nat.mod_lt _ (by decide)⟩ : Fin 256) j)
      = dyAt D (256 * v + j.val) n := by
  unfold lhsTile
  refine (pay1_at _ _ _ _).trans ?_
  unfold dyAt
  have e1 : n % 256 % 2 = n % 2 := by omega
  show half _ (n % 256 % 2) = _
  rw [e1]
  refine congrArg (fun w => half w _) ?_
  split
  · unfold lhsPlane slabBuf
    refine congrArg D ?_
    funext a; apply Fin.ext
    match a with
    | ⟨0, _⟩ => show n / 1024 % 16 = _; rfl
    | ⟨1, _⟩ => show (2 * v) % 80 = (256 * v + j.val) / 128 % 80; omega
    | ⟨2, _⟩ => show (n % 1024 / 256 * 128 + n % 256 / 2) % 512 = n % 1024 / 2; omega
    | ⟨3, _⟩ => show j.val % 128 = (256 * v + j.val) % 128; omega
  · unfold lhsPlane slabBuf
    refine congrArg D ?_
    funext a; apply Fin.ext
    match a with
    | ⟨0, _⟩ => show n / 1024 % 16 = _; rfl
    | ⟨1, _⟩ => show (2 * v + 1) % 80 = (256 * v + j.val) / 128 % 80; omega
    | ⟨2, _⟩ => show (n % 1024 / 256 * 128 + n % 256 / 2) % 512 = n % 1024 / 2; omega
    | ⟨3, _⟩ => show j.val % 128 = (256 * v + j.val) % 128; omega

theorem wTile_at (X : S48x5120x128.Idx → BitVec 32) (nv b v k : ℕ) (hv : v < 40) (hk : k < 6144) (eb : vOf nv b = v) (ek : kOf nv b = k / 512) (j : Fin 256) :
    wTile (F := F) X nv b (k % 512 / 256) (ix2 j (⟨k % 256, Nat.mod_lt _ (by decide)⟩ : Fin 256))
      = xAt X (256 * v + j.val) k := by
  unfold wTile rhsTile
  rw [pay2_at]
  unfold xAt
  have e1 : j.val % 2 = (256 * v + j.val) % 2 := by omega
  rw [e1]
  refine congrArg (fun w => half w _) ?_
  show (if k % 256 < 128 then _ else _ : S1x1x128x128.Idx → BitVec 32) _ = _
  split
  · unfold rhsPlane blkBuf
    refine congrArg X ?_
    funext a; apply Fin.ext
    match a with
    | ⟨0, _⟩ => show (kOf nv b * 4 + (2 * (k % 512 / 256)) % 4) % 48 = k / 128 % 48; omega
    | ⟨1, _⟩ => show (vOf nv b * 128 + j.val / 2) % 5120 = (256 * v + j.val) / 2 % 5120; omega
    | ⟨2, _⟩ => show k % 256 % 128 = k % 128; omega
  · unfold rhsPlane blkBuf
    refine congrArg X ?_
    funext a; apply Fin.ext
    match a with
    | ⟨0, _⟩ => show (kOf nv b * 4 + (2 * (k % 512 / 256) + 1) % 4) % 48 = k / 128 % 48; omega
    | ⟨1, _⟩ => show (vOf nv b * 128 + j.val / 2) % 5120 = (256 * v + j.val) / 2 % 5120; omega
    | ⟨2, _⟩ => show k % 256 % 128 = k % 128; omega
end

/-- One product of the matrix unit over the extended reals: a sum of 256 products. -/
theorem pass_at (l r : FVec Ideal S256x256 .bf16) (i c : Fin 256) :
    (stg (F := Ideal) r).pass l (ix2 i c) = ∑ j : Fin 256, (l (ix2 i j) : EReal) * (r (ix2 j c) : EReal) := by
  show Ideal.mxuPass (DotDims.plain 256 256 256) l r (ix2 i c) = _
  unfold Ideal.mxuPass
  rw [DotDims.sum_contr₁ (DotDims.plain 256 256 256) (a := (1 : Fin 2)) rfl rfl]
  refine Finset.sum_congr rfl fun j _ => ?_
  congr 2
  · funext a; apply Fin.ext
    match a with
    | ⟨0, _⟩ => rfl
    | ⟨1, _⟩ => rfl
  · funext a; apply Fin.ext
    match a with
    | ⟨0, _⟩ => rfl
    | ⟨1, _⟩ => rfl

theorem vOf_tile (nv t v : ℕ) (hv : v < nv) : vOf nv (t * nv + v) = v := by
  unfold vOf; rw [Nat.mul_add_mod_self_right, Nat.mod_eq_of_lt hv]
theorem kOf_tile (nv t v : ℕ) (hv : v < nv) : kOf nv (t * nv + v) = t % 12 := by
  unfold kOf; rw [Nat.mul_comm, Nat.mul_add_div (by omega), Nat.div_eq_of_lt hv, Nat.add_zero]

theorem tile_row (n k : ℕ) (hk : k < 6144) : (n / 1024 * 12 + k / 512) / 12 = n / 1024 := by omega
theorem tile_col (n k : ℕ) (hk : k < 6144) : (n / 1024 * 12 + k / 512) % 12 = k / 512 := by omega

/-- The partial sum over the first `u + 1` blocks of 256 tokens. -/
theorem psum_at (X : S48x5120x128.Idx → BitVec 32) (D : S16x80x512x128.Idx → BitVec 32) (nv n k : ℕ) (hn : n < 16384) (hk : k < 6144)
    (h2 : nv ≤ 40) (u : ℕ) (hu : u < nv) :
    (psum (F := Ideal) (slabBuf D (n / 1024)) X nv ((n / 1024 * 12 + k / 512) * nv) ⟨k % 512 / 256, by omega⟩ ⟨n % 1024 / 256, by omega⟩ u
      (ix2 (⟨n % 256, Nat.mod_lt _ (by decide)⟩ : Fin 256) (⟨k % 256, Nat.mod_lt _ (by decide)⟩ : Fin 256)) : EReal)
      = ∑ v ∈ Finset.range (u + 1), ∑ j : Fin 256, (dyAt (F := Ideal) D (256 * v + j.val) n : EReal) * (xAt (F := Ideal) X (256 * v + j.val) k : EReal) := by
  have ht : ∀ v, v < nv → (term (F := Ideal) (slabBuf D (n / 1024)) X nv ((n / 1024 * 12 + k / 512) * nv + v) v ⟨k % 512 / 256, by omega⟩ ⟨n % 1024 / 256, by omega⟩
      (ix2 (⟨n % 256, Nat.mod_lt _ (by decide)⟩ : Fin 256) (⟨k % 256, Nat.mod_lt _ (by decide)⟩ : Fin 256)) : EReal)
      = ∑ j : Fin 256, (dyAt (F := Ideal) D (256 * v + j.val) n : EReal) * (xAt (F := Ideal) X (256 * v + j.val) k : EReal) := by
    intro v hv
    unfold term
    rw [pass_at]
    refine Finset.sum_congr rfl fun j _ => ?_
    rw [lhsTile_at D v n (by omega) hn j]
    rw [wTile_at X nv _ v k (by omega) hk (vOf_tile _ _ _ hv) ((kOf_tile _ _ _ hv).trans (tile_col n k hk)) j]
  induction u with
  | zero =>
    rw [Finset.sum_range_one]
    exact ht 0 hu
  | succ u ih =>
    rw [Finset.sum_range_succ, ← ih (by omega) ht, ← ht (u + 1) hu]
    rfl

/-- The result at an index: the sum over the blocks of tokens, scaled. -/
theorem outOf_at (X : S48x5120x128.Idx → BitVec 32) (D : S16x80x512x128.Idx → BitVec 32) (nv : ℕ) (sc : EReal) (h1 : 1 ≤ nv) (h2 : nv ≤ 40)
    (y : S16384x6144.Idx) :
    (outOf (F := Ideal) X D nv sc y : EReal)
      = (∑ v ∈ Finset.range nv, ∑ j : Fin 256, (dyAt (F := Ideal) D (256 * v + j.val) (y 0).val : EReal) * (xAt (F := Ideal) X (256 * v + j.val) (y 1).val : EReal)) * sc := by
  have hn : (y 0).val < 16384 := (y 0).isLt
  have hk : (y 1).val < 6144 := (y 1).isLt
  unfold outOf gOut resOf tileOf
  show (_ : EReal) * sc = _
  refine congrArg (fun z : EReal => z * sc) ?_
  rw [tile_row _ _ hk]
  have := psum_at X D nv (y 0).val (y 1).val hn hk h2 (nv - 1) (by omega)
  rw [show nv - 1 + 1 = nv by omega] at this
  exact this
end Cert.Kernel.Gen
end
-- ==== Proof.RefValue.lean ====
module
public import proofs.«01_k».proof.Proof.Value
public import proofs.«01_k».proof.Proof.Gen.ReferenceIdeal
public import proofs.«01_k».proof.Proof.Gen.ReferenceIdeal.Run
public import Idealize.ShloMosaic.Lib.Pointwise
public import Idealize.ShloMosaic.Lib.BitcastConvert
@[expose] public section
noncomputable section
namespace Cert.RefValue
open Cert.ReferenceIdeal Cert.ReferenceIdeal.Gen Idealize.ShloMosaic Idealize.ShloMosaic.TcCoe
open Cert.Kernel.Gen (half dyAt xAt)

/-! # The reference's result as the same sum -/

/-- The mask: the tokens before `256 * nv`. -/
def mask (M : S8.Idx → BitVec 32) : IVec S10240 1 := cmpi .slt (iotaInDim S10240 32 0) (broadcastInDim S10240 ![] bcast_S_S10240 (muli (constantI S_ 32 256#32) (shapeCast S_ (extractStridedSlice S1 ![0] M slices_S8_S1_0) shapeCasts_S1_S_)))
/-- The two operands with the tokens past the mask at zero. -/
def mdy (D : S16x80x512x128.Idx → BitVec 32) (M : S8.Idx → BitVec 32) : FVec Ideal S10240x16384 .bf16 :=
  (select (broadcastInDim S10240x16384 ![0, 1] bcast_S10240x1_S10240x16384_0_1 (broadcastInDim S10240x1 ![0] bcast_S10240_S10240x1_0 (mask M))) (shapeCast _ (transpose S80x128x16x512x2 [1, 3, 0, 2, 4] (bitcastToFloat (F := Ideal) .bf16 (Host.bitcastConvertNarrow S16x80x512x128x2 16 D splits_S16x80x512x128_w32_S16x80x512x128x2_w16)) transposes_S16x80x512x128x2_S80x128x16x512x2_1_3_0_2_4) shapeCasts_S80x128x16x512x2_S10240x16384) (broadcastInDim S10240x16384 ![] bcast_S_S10240x16384 (constant S_ .bf16 0x0000#16)))
def mx (X : S48x5120x128.Idx → BitVec 32) (M : S8.Idx → BitVec 32) : FVec Ideal S10240x6144 .bf16 :=
  (select (broadcastInDim S10240x6144 ![0, 1] bcast_S10240x1_S10240x6144_0_1 (broadcastInDim S10240x1 ![0] bcast_S10240_S10240x1_0 (mask M))) (shapeCast _ (transpose S5120x2x48x128 [1, 3, 0, 2] (bitcastToFloat (F := Ideal) .bf16 (Host.bitcastConvertNarrow S48x5120x128x2 16 X splits_S48x5120x128_w32_S48x5120x128x2_w16)) transposes_S48x5120x128x2_S5120x2x48x128_1_3_0_2) shapeCasts_S5120x2x48x128_S10240x6144) (broadcastInDim S10240x6144 ![] bcast_S_S10240x6144 (constant S_ .bf16 0x0000#16)))
/-- The scale at every element. -/
def scale (S : S2.Idx → Ideal .f32) : FVec Ideal S16384x6144 .f32 :=
  (broadcastInDim S16384x6144 ![] bcast_S_S16384x6144 (mulf (shapeCast _ (extractStridedSlice S1 ![0] S slices_S2_S1_0) shapeCasts_S1_S_) (shapeCast _ (extractStridedSlice S1 ![1] S slices_S2_S1_1) shapeCasts_S1_S_)))
/-- The reference's result, of its arguments. -/
def refOut (D : S16x80x512x128.Idx → BitVec 32) (X : S48x5120x128.Idx → BitVec 32) (M : S8.Idx → BitVec 32) (S : S2.Idx → Ideal .f32) : FVec Ideal S16384x6144 .f32 :=
  mulf (Host.dotGeneral dot_S10240x16384_S10240x6144_S16384x6144_0_0_1_1_n_n none (mdy D M) (mx X M)) (scale S)

variable (D : S16x80x512x128.Idx → BitVec 32) (X : S48x5120x128.Idx → BitVec 32) (M : S8.Idx → BitVec 32) (S : S2.Idx → Ideal .f32)

theorem dy_at (t : Fin 10240) (n : Fin 16384) :
    (shapeCast S10240x16384 (transpose S80x128x16x512x2 [1, 3, 0, 2, 4] (bitcastToFloat (F := Ideal) .bf16 (Host.bitcastConvertNarrow S16x80x512x128x2 16 D splits_S16x80x512x128_w32_S16x80x512x128x2_w16)) transposes_S16x80x512x128x2_S80x128x16x512x2_1_3_0_2_4) shapeCasts_S80x128x16x512x2_S10240x16384) (ix2 t n)
      = dyAt D t.val n.val := by
  pointwise
  unfold dyAt half
  rw [Nat.mul_comm 16]
  refine congrArg (fun w => Ideal.ofBits .bf16 (BitVec.extractLsb' (n.val % 2 * 16) 16 w)) (congrArg D ?_)
  have ht := t.isLt
  have hn := n.isLt
  funext a; apply Fin.ext
  match a with
  | ⟨0, _⟩ => show n.val / 1024 = n.val / 1024 % 16; omega
  | ⟨1, _⟩ => show t.val / 128 = t.val / 128 % 80; omega
  | ⟨2, _⟩ => show n.val / 2 % 512 = n.val % 1024 / 2; omega
  | ⟨3, _⟩ => rfl
theorem x_at (t : Fin 10240) (n : Fin 6144) :
    (shapeCast S10240x6144 (transpose S5120x2x48x128 [1, 3, 0, 2] (bitcastToFloat (F := Ideal) .bf16 (Host.bitcastConvertNarrow S48x5120x128x2 16 X splits_S48x5120x128_w32_S48x5120x128x2_w16)) transposes_S48x5120x128x2_S5120x2x48x128_1_3_0_2) shapeCasts_S5120x2x48x128_S10240x6144) (ix2 t n)
      = xAt X t.val n.val := by
  pointwise
  unfold xAt half
  rw [Nat.mul_comm 16]
  refine congrArg (fun w => Ideal.ofBits .bf16 (BitVec.extractLsb' (t.val % 2 * 16) 16 w)) (congrArg X ?_)
  have ht := t.isLt
  have hn := n.isLt
  funext a; apply Fin.ext
  match a with
  | ⟨0, _⟩ => show n.val / 128 = n.val / 128 % 48; omega
  | ⟨1, _⟩ => show t.val / 2 = t.val / 2 % 5120; omega
  | ⟨2, _⟩ => rfl
theorem dot_at (l : FVec Ideal S10240x16384 .bf16) (r : FVec Ideal S10240x6144 .bf16) (y : S16384x6144.Idx) :
    (Host.dotGeneral dot_S10240x16384_S10240x6144_S16384x6144_0_0_1_1_n_n none l r : FVec Ideal S16384x6144 .f32) y
      = (∑ t : Fin 10240, (l (ix2 t (y 0)) : EReal) * (r (ix2 t (y 1)) : EReal) : EReal) := by
  pointwise

theorem mask_at (nv : ℕ) (hM : (M (ix1 (0 : Fin 8))).toNat = nv) (h2 : nv ≤ 40) (t : Fin 10240) :
    mask M (ix1 t) = BitVec.ofBool (decide (t.val < 256 * nv)) := by
  unfold mask
  pointwise
  have ht := t.isLt
  have hm : M (ix1 (0 : Fin 8)) = BitVec.ofNat 32 nv := by
    apply BitVec.eq_of_toNat_eq; rw [hM, BitVec.toNat_ofNat]; omega
  have e : IntOp.muli (256#32) (M (ix1 (0 : Fin 8))) = BitVec.ofNat 32 (256 * nv) := by
    rw [hm]; show 256#32 * BitVec.ofNat 32 nv = _
    apply BitVec.eq_of_toNat_eq; rw [BitVec.toNat_mul, BitVec.toNat_ofNat, BitVec.toNat_ofNat, BitVec.toNat_ofNat]; omega
  refine (congrArg (IntOp.cmpi .slt (BitVec.ofNat 32 t.val)) e).trans ?_
  show BitVec.ofBool (BitVec.slt (BitVec.ofNat 32 t.val) (BitVec.ofNat 32 (256 * nv))) = _
  refine congrArg BitVec.ofBool ?_
  unfold BitVec.slt
  have e1 : (BitVec.ofNat 32 t.val).toInt = t.val := by rw [BitVec.toInt_eq_toNat_cond, BitVec.toNat_ofNat]; omega
  have e2 : (BitVec.ofNat 32 (256 * nv)).toInt = ((256 * nv : ℕ) : ℤ) := by rw [BitVec.toInt_eq_toNat_cond, BitVec.toNat_ofNat]; omega
  rw [e1, e2]
  exact decide_eq_decide.mpr Int.ofNat_lt

theorem sel_at {s : Shape} {α : Type} (c : IVec s 1) (a b : s.Idx → α) (i : s.Idx) : select c a b i = Scalar.select (c i) (a i) (b i) := rfl
theorem masked (b : Bool) (x : EReal) : (Scalar.select (BitVec.ofBool b) x (0 : EReal)) = if b then x else 0 := by
  cases b <;> rfl

theorem scale_at (y : S16384x6144.Idx) : (scale S y : EReal) = (S (ix1 (0 : Fin 2)) : EReal) * (S (ix1 (1 : Fin 2)) : EReal) := by
  unfold scale
  pointwise

/-- A sum over the tokens before `256 * nv`, block by block. -/
theorem blocks (f : ℕ → EReal) (nv : ℕ) : ∑ t ∈ Finset.range (256 * nv), f t = ∑ v ∈ Finset.range nv, ∑ j : Fin 256, f (256 * v + j.val) := by
  induction nv with
  | zero => rfl
  | succ n ih =>
    rw [Nat.mul_succ, Finset.sum_range_add, ih, Finset.sum_range_succ (fun v => ∑ j : Fin 256, f (256 * v + j.val)) n]
    refine congrArg (fun z : EReal => (∑ v ∈ Finset.range n, ∑ j : Fin 256, f (256 * v + j.val)) + z) ?_
    exact Finset.sum_range (fun j => f (256 * n + j))
/-- Tokens past `256 * nv` add nothing. -/
theorem sum_masked (f : ℕ → EReal) (nv : ℕ) (h2 : nv ≤ 40) :
    ∑ t : Fin 10240, (if t.val < 256 * nv then f t.val else 0) = ∑ v ∈ Finset.range nv, ∑ j : Fin 256, f (256 * v + j.val) := by
  rw [← blocks, ← Finset.sum_range (fun t => if t < 256 * nv then f t else 0), ← Finset.sum_filter]
  refine Finset.sum_congr ?_ fun _ _ => rfl
  ext t; simp only [Finset.mem_filter, Finset.mem_range]; omega

theorem mdy_at (nv : ℕ) (hM : (M (ix1 (0 : Fin 8))).toNat = nv) (h2 : nv ≤ 40) (t : Fin 10240) (n : Fin 16384) :
    (mdy D M (ix2 t n) : EReal) = if t.val < 256 * nv then (dyAt (F := Ideal) D t.val n.val : EReal) else 0 := by
  unfold mdy
  refine (sel_at _ _ _ _).trans ?_
  rw [dy_at]
  have e : (broadcastInDim S10240x16384 ![0, 1] bcast_S10240x1_S10240x16384_0_1 (broadcastInDim S10240x1 ![0] bcast_S10240_S10240x1_0 (mask M))) (ix2 t n) = mask M (ix1 t) := by
    pointwise
  have z : (broadcastInDim S10240x16384 ![] bcast_S_S10240x16384 (constant (F := Ideal) S_ .bf16 0x0000#16) (ix2 t n) : EReal) = 0 := by
    pointwise
  refine (congrArg₂ (fun c w => Scalar.select c (dyAt (F := Ideal) D t.val n.val : EReal) w) (e.trans (mask_at M nv hM h2 t)) z).trans ?_
  refine (masked _ _).trans ?_
  simp only [decide_eq_true_eq]
theorem mx_at (nv : ℕ) (hM : (M (ix1 (0 : Fin 8))).toNat = nv) (h2 : nv ≤ 40) (t : Fin 10240) (n : Fin 6144) :
    (mx X M (ix2 t n) : EReal) = if t.val < 256 * nv then (xAt (F := Ideal) X t.val n.val : EReal) else 0 := by
  unfold mx
  refine (sel_at _ _ _ _).trans ?_
  rw [x_at]
  have e : (broadcastInDim S10240x6144 ![0, 1] bcast_S10240x1_S10240x6144_0_1 (broadcastInDim S10240x1 ![0] bcast_S10240_S10240x1_0 (mask M))) (ix2 t n) = mask M (ix1 t) := by
    pointwise
  have z : (broadcastInDim S10240x6144 ![] bcast_S_S10240x6144 (constant (F := Ideal) S_ .bf16 0x0000#16) (ix2 t n) : EReal) = 0 := by
    pointwise
  refine (congrArg₂ (fun c w => Scalar.select c (xAt (F := Ideal) X t.val n.val : EReal) w) (e.trans (mask_at M nv hM h2 t)) z).trans ?_
  refine (masked _ _).trans ?_
  simp only [decide_eq_true_eq]

/-- The reference's result at an index. -/
theorem refOut_at (nv : ℕ) (hM : (M (ix1 (0 : Fin 8))).toNat = nv) (h2 : nv ≤ 40) (y : S16384x6144.Idx) :
    (refOut D X M S y : EReal)
      = (∑ v ∈ Finset.range nv, ∑ j : Fin 256, (dyAt (F := Ideal) D (256 * v + j.val) (y 0).val : EReal) * (xAt (F := Ideal) X (256 * v + j.val) (y 1).val : EReal))
        * ((S (ix1 (0 : Fin 2)) : EReal) * (S (ix1 (1 : Fin 2)) : EReal)) := by
  unfold refOut
  refine (congrArg₂ (fun a b : EReal => a * b) (dot_at (mdy D M) (mx X M) y) (scale_at S y)).trans ?_
  refine congrArg (fun a : EReal => a * ((S (ix1 (0 : Fin 2)) : EReal) * (S (ix1 (1 : Fin 2)) : EReal))) ?_
  refine Eq.trans ?_ (sum_masked (fun t => (dyAt (F := Ideal) D t (y 0).val : EReal) * (xAt (F := Ideal) X t (y 1).val : EReal)) nv h2)
  refine Finset.sum_congr rfl fun t _ => ?_
  refine (congrArg₂ (fun a b : EReal => a * b) (mdy_at D M nv hM h2 t (y 0)) (mx_at X M nv hM h2 t (y 1))).trans ?_
  by_cases h : t.val < 256 * nv
  · simp only [if_pos h]
  · simp only [if_neg h]; exact zero_mul 0
end Cert.RefValue
end
-- ==== Proof.AmaxA.lean ====
module
public import proofs.«01_k».proof.Proof.Gen.AmaxKernelIdeal.Frame
public import Idealize.ShloMosaic.Lib.Pointwise
public import Idealize.ShloMosaic.Lib.VecWindow
public import Idealize.ShloMosaic.Lib.WholeRead
@[expose] public section
noncomputable section
namespace Cert.AmaxKernelIdeal.Gen
open Idealize.ShloMosaic Idealize.ShloMosaic.TcCoe Idealize.ShloMosaic.Tactic
open Idealize.SL Idealize.SL.RA Idealize.SL.Sem
variable {F : FTy → Type} [FloatOps F]

/-- The block of rotation `o` read from the three stacked ones. -/
def rblk (x0 : Vec F S3x256x256 .bf16) (o p q : ℕ) : Vec F S1x256x256 .bf16 := fun y =>
  x0 (ix3 ⟨(o + (y 0).val) % 3, Nat.mod_lt _ (by decide)⟩ ⟨(p + (y 1).val) % 256, Nat.mod_lt _ (by decide)⟩ ⟨(q + (y 2).val) % 256, Nat.mod_lt _ (by decide)⟩)

/-- The slab of 256 rows and 512 columns at the offsets `p`, `q`. -/
def slab (x1 : Vec F S512x6144 .bf16) (p q : ℕ) : Vec F S256x512 .bf16 := fun y =>
  x1 (ix2 ⟨(p + (y 0).val) % 512, Nat.mod_lt _ (by decide)⟩ ⟨(q + (y 1).val) % 6144, Nat.mod_lt _ (by decide)⟩)

/-- The running maximum after the first `k` slabs of a point, each rotated once. -/
def acc (x0 : Vec F S3x256x256 .bf16) (x1 : Vec F S512x6144 .bf16) (a : Vec F S8x512 .f32) : ℕ → Vec F S8x512 .f32
  | 0 => a
  | k + 1 => k0_pay3 (rblk x0 0 0 0) (slab x1 (256 * (k / 12)) (512 * (k % 12))) (acc x0 x1 a k)

/-- The running maximum after the first `k` slabs of a point, each rotated by the three parts. -/
def acc3 (x0 : Vec F S3x256x256 .bf16) (x1 : Vec F S512x6144 .bf16) (a : Vec F S8x512 .f32) : ℕ → Vec F S8x512 .f32
  | 0 => a
  | k + 1 => k0_pay71 (slab x1 (256 * (k / 12)) (512 * (k % 12))) (rblk x0 0 0 0) (rblk x0 1 0 0) (rblk x0 2 0 0) (acc3 x0 x1 a k)

theorem ld_r (M : Memref sig .tc .vmem S3x256x256 .bf16) (h : M.IsWhole) (x0 : Vec F S3x256x256 .bf16) (off : Fin 3 → ℕ)
    (inb : ∀ a, off a + (![1, 256, 256] : Fin 3 → ℕ) a ≤ S3x256x256.size a) :
    View.readAt (Elt F) M.view (Rect.unit (s := S3x256x256) off ![1, 256, 256] inb).toLoadRect (h.unread x0) = rblk x0 (off 0) (off 1) (off 2) := by
  funext y
  rw [h.readAt_unread]
  refine congrArg x0 (funext fun a => Fin.ext ?_)
  have h0 := inb 0; have h1 := inb 1; have h2 := inb 2
  have y0 := (y 0).isLt; have y1 := (y 1).isLt; have y2 := (y 2).isLt
  show off a + 1 * (y a).val = _
  fin_cases a
  · show off 0 + 1 * (y 0).val = (off 0 + (y 0).val) % 3
    have : off 0 + 1 ≤ 3 := h0; have : (y 0).val < 1 := y0; omega
  · show off 1 + 1 * (y 1).val = (off 1 + (y 1).val) % 256
    have : off 1 + 256 ≤ 256 := h1; have : (y 1).val < 256 := y1; omega
  · show off 2 + 1 * (y 2).val = (off 2 + (y 2).val) % 256
    have : off 2 + 256 ≤ 256 := h2; have : (y 2).val < 256 := y2; omega

theorem ld_x (M : Memref sig .tc .vmem S512x6144 .bf16) (h : M.IsWhole) (x1 : Vec F S512x6144 .bf16) (off : Fin 2 → ℕ)
    (inb : ∀ a, off a + (![256, 512] : Fin 2 → ℕ) a ≤ S512x6144.size a) :
    View.readAt (Elt F) M.view (Rect.unit (s := S512x6144) off ![256, 512] inb).toLoadRect (h.unread x1) = slab x1 (off 0) (off 1) := by
  funext y
  rw [h.readAt_unread]
  refine congrArg x1 (funext fun a => Fin.ext ?_)
  have h0 := inb 0; have h1 := inb 1
  have y0 := (y 0).isLt; have y1 := (y 1).isLt
  show off a + 1 * (y a).val = _
  fin_cases a
  · show off 0 + 1 * (y 0).val = (off 0 + (y 0).val) % 512
    have : off 0 + 256 ≤ 512 := h0; have : (y 0).val < 256 := y0; omega
  · show off 1 + 1 * (y 1).val = (off 1 + (y 1).val) % 6144
    have : off 1 + 512 ≤ 6144 := h1; have : (y 1).val < 512 := y1; omega

theorem ld_s (M : Memref sig .tc .vmem S8x512 .f32) (h : M.IsWhole) (x : Vec F S8x512 .f32) (off : Fin 2 → ℕ)
    (inb : ∀ a, off a + (![8, 512] : Fin 2 → ℕ) a ≤ S8x512.size a) :
    View.readAt (Elt F) M.view (Rect.unit (s := S8x512) off ![8, 512] inb).toLoadRect (h.unread x) = x :=
  (View.readAt_full _ _ _).trans (h.read_unread x)

theorem cov_s (v : View sig .tc .vmem S8x512 .f32) (inb inb' : ∀ a, (![0, 0] : Fin 2 → ℕ) a + (![8, 512] : Fin 2 → ℕ) a ≤ S8x512.size a)
    (w : (Rect.unit (s := S8x512) ![0, 0] ![8, 512] inb').shape.Idx → Elt F .f32) (L : List (View.Piece (Elt F) S8x512 .f32)) :
    v.readCov (⟨Rect.unit (s := S8x512) ![0, 0] ![8, 512] inb', w⟩ :: L) (Rect.unit (s := S8x512) ![0, 0] ![8, 512] inb).toLoadRect = w :=
  View.readCov_full v _ _ w L
end Cert.AmaxKernelIdeal.Gen
end
-- ==== Proof.AmaxB.lean ====
module
public import proofs.«01_k».proof.Proof.AmaxA
@[expose] public section
noncomputable section
namespace Cert.AmaxKernelIdeal.Gen
open Idealize.ShloMosaic Idealize.ShloMosaic.TcCoe Idealize.ShloMosaic.Tactic
open Idealize.SL Idealize.SL.RA Idealize.SL.Sem
variable {F : FTy → Type} [FloatOps F]

theorem sout0_B_0_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : cond0_0 i) (hc3 : ¬cond0_3 i)
    (x0 : Vec F S3x256x256 .bf16) (x1 : Vec F S512x6144 .bf16) (xt0 : TbBuf0 (F := F) c tbM0_0) (hc1 : cond0_1 i (tbM0_0.view.readAt (Elt F) (Rect.unit (s := S1) ![0] S1.size inb_S1_S1_0).toLoadRect xt0 (Shape.Idx.first (numel1_S1.symm ▸ Nat.one_pos)))) (hc2 : ¬cond0_2 i (tbM0_0.view.readAt (Elt F) (Rect.unit (s := S1) ![0] S1.size inb_S1_S1_0).toLoadRect xt0 (Shape.Idx.first (numel1_S1.symm ▸ Nat.one_pos)))) :
    sout0_B_0 c i arg2 harg2 arg3 harg3 arg4 harg4 arg5 harg5 hc0 hc3 x0 x1 xt0 hc1 hc2 = acc x0 x1 k0_pay1 24 := by
  unfold sout0_B_0
  conv_lhs => arg 3; arg 4; whnf
  refine (View.read_writes_full _ _ _ _ _).trans ?_
  simp only [kernelRun0_B.sl.v21, kernelRun0_B.sl.v33, kernelRun0_B.sl.v45, kernelRun0_B.sl.v57, kernelRun0_B.sl.v69, kernelRun0_B.sl.v81, kernelRun0_B.sl.v93, kernelRun0_B.sl.v105, kernelRun0_B.sl.v117, kernelRun0_B.sl.v129, kernelRun0_B.sl.v141, kernelRun0_B.sl.v153, kernelRun0_B.sl.v165, kernelRun0_B.sl.v177, kernelRun0_B.sl.v189, kernelRun0_B.sl.v201, kernelRun0_B.sl.v213, kernelRun0_B.sl.v225, kernelRun0_B.sl.v237, kernelRun0_B.sl.v249, kernelRun0_B.sl.v261, kernelRun0_B.sl.v273, kernelRun0_B.sl.v285, kernelRun0_B.sl.v297, kernelRun0_B.sl.HS0_1, kernelRun0_B.sl.HS0_2, kernelRun0_B.sl.HS0_3, kernelRun0_B.sl.HS0_4, kernelRun0_B.sl.HS0_5, kernelRun0_B.sl.HS0_6, kernelRun0_B.sl.HS0_7, kernelRun0_B.sl.HS0_8, kernelRun0_B.sl.HS0_9, kernelRun0_B.sl.HS0_10, kernelRun0_B.sl.HS0_11, kernelRun0_B.sl.HS0_12, kernelRun0_B.sl.HS0_13, kernelRun0_B.sl.HS0_14, kernelRun0_B.sl.HS0_15, kernelRun0_B.sl.HS0_16, kernelRun0_B.sl.HS0_17, kernelRun0_B.sl.HS0_18, kernelRun0_B.sl.HS0_19, kernelRun0_B.sl.HS0_20, kernelRun0_B.sl.HS0_21, kernelRun0_B.sl.HS0_22, kernelRun0_B.sl.HS0_23, kernelRun0_B.sl.HS0_24, kernelRun0_B.sl.r, kernelRun0_B.sl.r_1, kernelRun0_B.sl.r_2, kernelRun0_B.sl.r_3, kernelRun0_B.sl.r_4, kernelRun0_B.sl.r_5, cov_s, ld_r, ld_x, ld_s]
  rfl

theorem sout0_F_0_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : ¬cond0_0 i) (hc3 : ¬cond0_3 i)
    (x0 : Vec F S3x256x256 .bf16) (x1 : Vec F S512x6144 .bf16) (xt0 : TbBuf0 (F := F) c tbM0_0) (xs0 : Vec F S8x512 .f32) (hc1 : cond0_1 i (tbM0_0.view.readAt (Elt F) (Rect.unit (s := S1) ![0] S1.size inb_S1_S1_0).toLoadRect xt0 (Shape.Idx.first (numel1_S1.symm ▸ Nat.one_pos)))) (hc2 : ¬cond0_2 i (tbM0_0.view.readAt (Elt F) (Rect.unit (s := S1) ![0] S1.size inb_S1_S1_0).toLoadRect xt0 (Shape.Idx.first (numel1_S1.symm ▸ Nat.one_pos)))) :
    sout0_F_0 c i arg2 harg2 arg3 harg3 arg4 harg4 arg5 harg5 hc0 hc3 x0 x1 xt0 xs0 hc1 hc2 = acc x0 x1 xs0 24 := by
  unfold sout0_F_0
  conv_lhs => arg 3; arg 4; whnf
  refine (View.read_writes_full _ _ _ _ _).trans ?_
  simp only [kernelRun0_F.sl.v33, kernelRun0_F.sl.v45, kernelRun0_F.sl.v57, kernelRun0_F.sl.v69, kernelRun0_F.sl.v81, kernelRun0_F.sl.v93, kernelRun0_F.sl.v105, kernelRun0_F.sl.v117, kernelRun0_F.sl.v129, kernelRun0_F.sl.v141, kernelRun0_F.sl.v153, kernelRun0_F.sl.v165, kernelRun0_F.sl.v177, kernelRun0_F.sl.v189, kernelRun0_F.sl.v201, kernelRun0_F.sl.v213, kernelRun0_F.sl.v225, kernelRun0_F.sl.v237, kernelRun0_F.sl.v249, kernelRun0_F.sl.v261, kernelRun0_F.sl.v273, kernelRun0_F.sl.v285, kernelRun0_F.sl.v297, kernelRun0_F.sl.HS0_1, kernelRun0_F.sl.HS0_2, kernelRun0_F.sl.HS0_3, kernelRun0_F.sl.HS0_4, kernelRun0_F.sl.HS0_5, kernelRun0_F.sl.HS0_6, kernelRun0_F.sl.HS0_7, kernelRun0_F.sl.HS0_8, kernelRun0_F.sl.HS0_9, kernelRun0_F.sl.HS0_10, kernelRun0_F.sl.HS0_11, kernelRun0_F.sl.HS0_12, kernelRun0_F.sl.HS0_13, kernelRun0_F.sl.HS0_14, kernelRun0_F.sl.HS0_15, kernelRun0_F.sl.HS0_16, kernelRun0_F.sl.HS0_17, kernelRun0_F.sl.HS0_18, kernelRun0_F.sl.HS0_19, kernelRun0_F.sl.HS0_20, kernelRun0_F.sl.HS0_21, kernelRun0_F.sl.HS0_22, kernelRun0_F.sl.HS0_23, kernelRun0_F.sl.r, kernelRun0_F.sl.r_1, kernelRun0_F.sl.r_2, kernelRun0_F.sl.r_3, kernelRun0_F.sl.r_4, kernelRun0_F.sl.r_5, cov_s, ld_r, ld_x, ld_s]
  rfl

theorem sout0_J_0_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : ¬cond0_0 i) (hc3 : cond0_3 i)
    (x0 : Vec F S3x256x256 .bf16) (x1 : Vec F S512x6144 .bf16) (xt0 : TbBuf0 (F := F) c tbM0_0) (xs0 : Vec F S8x512 .f32) (hc1 : cond0_1 i (tbM0_0.view.readAt (Elt F) (Rect.unit (s := S1) ![0] S1.size inb_S1_S1_0).toLoadRect xt0 (Shape.Idx.first (numel1_S1.symm ▸ Nat.one_pos)))) (hc2 : ¬cond0_2 i (tbM0_0.view.readAt (Elt F) (Rect.unit (s := S1) ![0] S1.size inb_S1_S1_0).toLoadRect xt0 (Shape.Idx.first (numel1_S1.symm ▸ Nat.one_pos)))) :
    sout0_J_0 c i arg2 harg2 arg3 harg3 arg4 harg4 arg5 harg5 hc0 hc3 x0 x1 xt0 xs0 hc1 hc2 = acc x0 x1 xs0 24 := by
  unfold sout0_J_0
  conv_lhs => arg 3; arg 4; whnf
  refine (View.read_writes_full _ _ _ _ _).trans ?_
  simp only [kernelRun0_J.sl.v33, kernelRun0_J.sl.v45, kernelRun0_J.sl.v57, kernelRun0_J.sl.v69, kernelRun0_J.sl.v81, kernelRun0_J.sl.v93, kernelRun0_J.sl.v105, kernelRun0_J.sl.v117, kernelRun0_J.sl.v129, kernelRun0_J.sl.v141, kernelRun0_J.sl.v153, kernelRun0_J.sl.v165, kernelRun0_J.sl.v177, kernelRun0_J.sl.v189, kernelRun0_J.sl.v201, kernelRun0_J.sl.v213, kernelRun0_J.sl.v225, kernelRun0_J.sl.v237, kernelRun0_J.sl.v249, kernelRun0_J.sl.v261, kernelRun0_J.sl.v273, kernelRun0_J.sl.v285, kernelRun0_J.sl.v297, kernelRun0_J.sl.v14, kernelRun0_J.sl.HS0_1, kernelRun0_J.sl.HS0_2, kernelRun0_J.sl.HS0_3, kernelRun0_J.sl.HS0_4, kernelRun0_J.sl.HS0_5, kernelRun0_J.sl.HS0_6, kernelRun0_J.sl.HS0_7, kernelRun0_J.sl.HS0_8, kernelRun0_J.sl.HS0_9, kernelRun0_J.sl.HS0_10, kernelRun0_J.sl.HS0_11, kernelRun0_J.sl.HS0_12, kernelRun0_J.sl.HS0_13, kernelRun0_J.sl.HS0_14, kernelRun0_J.sl.HS0_15, kernelRun0_J.sl.HS0_16, kernelRun0_J.sl.HS0_17, kernelRun0_J.sl.HS0_18, kernelRun0_J.sl.HS0_19, kernelRun0_J.sl.HS0_20, kernelRun0_J.sl.HS0_21, kernelRun0_J.sl.HS0_22, kernelRun0_J.sl.HS0_23, kernelRun0_J.sl.HS0_24, kernelRun0_J.sl.r, kernelRun0_J.sl.r_1, kernelRun0_J.sl.r_2, kernelRun0_J.sl.r_3, kernelRun0_J.sl.r_4, kernelRun0_J.sl.r_5, cov_s, ld_r, ld_x, ld_s]
  rfl

theorem out0_J_2_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : ¬cond0_0 i) (hc3 : cond0_3 i)
    (x0 : Vec F S3x256x256 .bf16) (x1 : Vec F S512x6144 .bf16) (xt0 : TbBuf0 (F := F) c tbM0_0) (xs0 : Vec F S8x512 .f32) (hc1 : cond0_1 i (tbM0_0.view.readAt (Elt F) (Rect.unit (s := S1) ![0] S1.size inb_S1_S1_0).toLoadRect xt0 (Shape.Idx.first (numel1_S1.symm ▸ Nat.one_pos)))) (hc2 : ¬cond0_2 i (tbM0_0.view.readAt (Elt F) (Rect.unit (s := S1) ![0] S1.size inb_S1_S1_0).toLoadRect xt0 (Shape.Idx.first (numel1_S1.symm ▸ Nat.one_pos)))) :
    out0_J_2 c i arg2 harg2 arg3 harg3 arg4 harg4 arg5 harg5 hc0 hc3 x0 x1 xt0 xs0 hc1 hc2 = k0_pay4 (acc x0 x1 xs0 24) := by
  unfold out0_J_2
  conv_lhs => arg 3; arg 4; whnf
  refine (View.read_writes_full _ _ _ _ _).trans ?_
  simp only [kernelRun0_J.sl.v33, kernelRun0_J.sl.v45, kernelRun0_J.sl.v57, kernelRun0_J.sl.v69, kernelRun0_J.sl.v81, kernelRun0_J.sl.v93, kernelRun0_J.sl.v105, kernelRun0_J.sl.v117, kernelRun0_J.sl.v129, kernelRun0_J.sl.v141, kernelRun0_J.sl.v153, kernelRun0_J.sl.v165, kernelRun0_J.sl.v177, kernelRun0_J.sl.v189, kernelRun0_J.sl.v201, kernelRun0_J.sl.v213, kernelRun0_J.sl.v225, kernelRun0_J.sl.v237, kernelRun0_J.sl.v249, kernelRun0_J.sl.v261, kernelRun0_J.sl.v273, kernelRun0_J.sl.v285, kernelRun0_J.sl.v297, kernelRun0_J.sl.v14, kernelRun0_J.sl.HS0_1, kernelRun0_J.sl.HS0_2, kernelRun0_J.sl.HS0_3, kernelRun0_J.sl.HS0_4, kernelRun0_J.sl.HS0_5, kernelRun0_J.sl.HS0_6, kernelRun0_J.sl.HS0_7, kernelRun0_J.sl.HS0_8, kernelRun0_J.sl.HS0_9, kernelRun0_J.sl.HS0_10, kernelRun0_J.sl.HS0_11, kernelRun0_J.sl.HS0_12, kernelRun0_J.sl.HS0_13, kernelRun0_J.sl.HS0_14, kernelRun0_J.sl.HS0_15, kernelRun0_J.sl.HS0_16, kernelRun0_J.sl.HS0_17, kernelRun0_J.sl.HS0_18, kernelRun0_J.sl.HS0_19, kernelRun0_J.sl.HS0_20, kernelRun0_J.sl.HS0_21, kernelRun0_J.sl.HS0_22, kernelRun0_J.sl.HS0_23, kernelRun0_J.sl.HS0_24, kernelRun0_J.sl.r, kernelRun0_J.sl.r_1, kernelRun0_J.sl.r_2, kernelRun0_J.sl.r_3, kernelRun0_J.sl.r_4, kernelRun0_J.sl.r_5, cov_s, ld_r, ld_x, ld_s]
  rfl

end Cert.AmaxKernelIdeal.Gen
end
-- ==== Proof.AmaxC.lean ====
module
public import proofs.«01_k».proof.Proof.AmaxA
@[expose] public section
noncomputable section
namespace Cert.AmaxKernelIdeal.Gen
open Idealize.ShloMosaic Idealize.ShloMosaic.TcCoe Idealize.ShloMosaic.Tactic
open Idealize.SL Idealize.SL.RA Idealize.SL.Sem
variable {F : FTy → Type} [FloatOps F]

theorem sout0_C_0_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : cond0_0 i) (hc3 : ¬cond0_3 i)
    (x0 : Vec F S3x256x256 .bf16) (x1 : Vec F S512x6144 .bf16) (xt0 : TbBuf0 (F := F) c tbM0_0) (hc1 : ¬cond0_1 i (tbM0_0.view.readAt (Elt F) (Rect.unit (s := S1) ![0] S1.size inb_S1_S1_0).toLoadRect xt0 (Shape.Idx.first (numel1_S1.symm ▸ Nat.one_pos)))) (hc2 : cond0_2 i (tbM0_0.view.readAt (Elt F) (Rect.unit (s := S1) ![0] S1.size inb_S1_S1_0).toLoadRect xt0 (Shape.Idx.first (numel1_S1.symm ▸ Nat.one_pos)))) :
    sout0_C_0 c i arg2 harg2 arg3 harg3 arg4 harg4 arg5 harg5 hc0 hc3 x0 x1 xt0 hc1 hc2 = acc3 x0 x1 k0_pay1 24 := by
  unfold sout0_C_0
  conv_lhs => arg 3; arg 4; whnf
  refine (View.read_writes_full _ _ _ _ _).trans ?_
  simp only [kernelRun0_C.sl.v29, kernelRun0_C.sl.v49, kernelRun0_C.sl.v69, kernelRun0_C.sl.v89, kernelRun0_C.sl.v109, kernelRun0_C.sl.v129, kernelRun0_C.sl.v149, kernelRun0_C.sl.v169, kernelRun0_C.sl.v189, kernelRun0_C.sl.v209, kernelRun0_C.sl.v229, kernelRun0_C.sl.v249, kernelRun0_C.sl.v269, kernelRun0_C.sl.v289, kernelRun0_C.sl.v309, kernelRun0_C.sl.v329, kernelRun0_C.sl.v349, kernelRun0_C.sl.v369, kernelRun0_C.sl.v389, kernelRun0_C.sl.v409, kernelRun0_C.sl.v429, kernelRun0_C.sl.v449, kernelRun0_C.sl.v469, kernelRun0_C.sl.v489, kernelRun0_C.sl.HS0_1, kernelRun0_C.sl.HS0_2, kernelRun0_C.sl.HS0_3, kernelRun0_C.sl.HS0_4, kernelRun0_C.sl.HS0_5, kernelRun0_C.sl.HS0_6, kernelRun0_C.sl.HS0_7, kernelRun0_C.sl.HS0_8, kernelRun0_C.sl.HS0_9, kernelRun0_C.sl.HS0_10, kernelRun0_C.sl.HS0_11, kernelRun0_C.sl.HS0_12, kernelRun0_C.sl.HS0_13, kernelRun0_C.sl.HS0_14, kernelRun0_C.sl.HS0_15, kernelRun0_C.sl.HS0_16, kernelRun0_C.sl.HS0_17, kernelRun0_C.sl.HS0_18, kernelRun0_C.sl.HS0_19, kernelRun0_C.sl.HS0_20, kernelRun0_C.sl.HS0_21, kernelRun0_C.sl.HS0_22, kernelRun0_C.sl.HS0_23, kernelRun0_C.sl.HS0_24, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, cov_s, ld_r, ld_x, ld_s]
  rfl

theorem sout0_G_0_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : ¬cond0_0 i) (hc3 : ¬cond0_3 i)
    (x0 : Vec F S3x256x256 .bf16) (x1 : Vec F S512x6144 .bf16) (xt0 : TbBuf0 (F := F) c tbM0_0) (xs0 : Vec F S8x512 .f32) (hc1 : ¬cond0_1 i (tbM0_0.view.readAt (Elt F) (Rect.unit (s := S1) ![0] S1.size inb_S1_S1_0).toLoadRect xt0 (Shape.Idx.first (numel1_S1.symm ▸ Nat.one_pos)))) (hc2 : cond0_2 i (tbM0_0.view.readAt (Elt F) (Rect.unit (s := S1) ![0] S1.size inb_S1_S1_0).toLoadRect xt0 (Shape.Idx.first (numel1_S1.symm ▸ Nat.one_pos)))) :
    sout0_G_0 c i arg2 harg2 arg3 harg3 arg4 harg4 arg5 harg5 hc0 hc3 x0 x1 xt0 xs0 hc1 hc2 = acc3 x0 x1 xs0 24 := by
  unfold sout0_G_0
  conv_lhs => arg 3; arg 4; whnf
  refine (View.read_writes_full _ _ _ _ _).trans ?_
  simp only [kernelRun0_G.sl.v49, kernelRun0_G.sl.v69, kernelRun0_G.sl.v89, kernelRun0_G.sl.v109, kernelRun0_G.sl.v129, kernelRun0_G.sl.v149, kernelRun0_G.sl.v169, kernelRun0_G.sl.v189, kernelRun0_G.sl.v209, kernelRun0_G.sl.v229, kernelRun0_G.sl.v249, kernelRun0_G.sl.v269, kernelRun0_G.sl.v289, kernelRun0_G.sl.v309, kernelRun0_G.sl.v329, kernelRun0_G.sl.v349, kernelRun0_G.sl.v369, kernelRun0_G.sl.v389, kernelRun0_G.sl.v409, kernelRun0_G.sl.v429, kernelRun0_G.sl.v449, kernelRun0_G.sl.v469, kernelRun0_G.sl.v489, kernelRun0_G.sl.HS0_1, kernelRun0_G.sl.HS0_2, kernelRun0_G.sl.HS0_3, kernelRun0_G.sl.HS0_4, kernelRun0_G.sl.HS0_5, kernelRun0_G.sl.HS0_6, kernelRun0_G.sl.HS0_7, kernelRun0_G.sl.HS0_8, kernelRun0_G.sl.HS0_9, kernelRun0_G.sl.HS0_10, kernelRun0_G.sl.HS0_11, kernelRun0_G.sl.HS0_12, kernelRun0_G.sl.HS0_13, kernelRun0_G.sl.HS0_14, kernelRun0_G.sl.HS0_15, kernelRun0_G.sl.HS0_16, kernelRun0_G.sl.HS0_17, kernelRun0_G.sl.HS0_18, kernelRun0_G.sl.HS0_19, kernelRun0_G.sl.HS0_20, kernelRun0_G.sl.HS0_21, kernelRun0_G.sl.HS0_22, kernelRun0_G.sl.HS0_23, kernelRun0_G.sl.r, kernelRun0_G.sl.r_1, kernelRun0_G.sl.r_2, kernelRun0_G.sl.r_3, kernelRun0_G.sl.r_4, kernelRun0_G.sl.r_5, kernelRun0_G.sl.r_6, kernelRun0_G.sl.r_7, kernelRun0_G.sl.r_8, kernelRun0_G.sl.r_9, kernelRun0_G.sl.r_10, kernelRun0_G.sl.r_11, kernelRun0_G.sl.r_12, kernelRun0_G.sl.r_13, kernelRun0_G.sl.r_14, kernelRun0_G.sl.r_15, kernelRun0_G.sl.r_16, kernelRun0_G.sl.r_17, kernelRun0_G.sl.r_18, kernelRun0_G.sl.r_19, kernelRun0_G.sl.r_20, kernelRun0_G.sl.r_21, kernelRun0_G.sl.r_22, kernelRun0_G.sl.r_23, kernelRun0_G.sl.r_24, cov_s, ld_r, ld_x, ld_s]
  rfl

theorem sout0_K_0_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : ¬cond0_0 i) (hc3 : cond0_3 i)
    (x0 : Vec F S3x256x256 .bf16) (x1 : Vec F S512x6144 .bf16) (xt0 : TbBuf0 (F := F) c tbM0_0) (xs0 : Vec F S8x512 .f32) (hc1 : ¬cond0_1 i (tbM0_0.view.readAt (Elt F) (Rect.unit (s := S1) ![0] S1.size inb_S1_S1_0).toLoadRect xt0 (Shape.Idx.first (numel1_S1.symm ▸ Nat.one_pos)))) (hc2 : cond0_2 i (tbM0_0.view.readAt (Elt F) (Rect.unit (s := S1) ![0] S1.size inb_S1_S1_0).toLoadRect xt0 (Shape.Idx.first (numel1_S1.symm ▸ Nat.one_pos)))) :
    sout0_K_0 c i arg2 harg2 arg3 harg3 arg4 harg4 arg5 harg5 hc0 hc3 x0 x1 xt0 xs0 hc1 hc2 = acc3 x0 x1 xs0 24 := by
  unfold sout0_K_0
  conv_lhs => arg 3; arg 4; whnf
  refine (View.read_writes_full _ _ _ _ _).trans ?_
  simp only [kernelRun0_K.sl.v49, kernelRun0_K.sl.v69, kernelRun0_K.sl.v89, kernelRun0_K.sl.v109, kernelRun0_K.sl.v129, kernelRun0_K.sl.v149, kernelRun0_K.sl.v169, kernelRun0_K.sl.v189, kernelRun0_K.sl.v209, kernelRun0_K.sl.v229, kernelRun0_K.sl.v249, kernelRun0_K.sl.v269, kernelRun0_K.sl.v289, kernelRun0_K.sl.v309, kernelRun0_K.sl.v329, kernelRun0_K.sl.v349, kernelRun0_K.sl.v369, kernelRun0_K.sl.v389, kernelRun0_K.sl.v409, kernelRun0_K.sl.v429, kernelRun0_K.sl.v449, kernelRun0_K.sl.v469, kernelRun0_K.sl.v489, kernelRun0_K.sl.v14, kernelRun0_K.sl.HS0_1, kernelRun0_K.sl.HS0_2, kernelRun0_K.sl.HS0_3, kernelRun0_K.sl.HS0_4, kernelRun0_K.sl.HS0_5, kernelRun0_K.sl.HS0_6, kernelRun0_K.sl.HS0_7, kernelRun0_K.sl.HS0_8, kernelRun0_K.sl.HS0_9, kernelRun0_K.sl.HS0_10, kernelRun0_K.sl.HS0_11, kernelRun0_K.sl.HS0_12, kernelRun0_K.sl.HS0_13, kernelRun0_K.sl.HS0_14, kernelRun0_K.sl.HS0_15, kernelRun0_K.sl.HS0_16, kernelRun0_K.sl.HS0_17, kernelRun0_K.sl.HS0_18, kernelRun0_K.sl.HS0_19, kernelRun0_K.sl.HS0_20, kernelRun0_K.sl.HS0_21, kernelRun0_K.sl.HS0_22, kernelRun0_K.sl.HS0_23, kernelRun0_K.sl.HS0_24, kernelRun0_K.sl.r, kernelRun0_K.sl.r_1, kernelRun0_K.sl.r_2, kernelRun0_K.sl.r_3, kernelRun0_K.sl.r_4, kernelRun0_K.sl.r_5, kernelRun0_K.sl.r_6, kernelRun0_K.sl.r_7, kernelRun0_K.sl.r_8, kernelRun0_K.sl.r_9, kernelRun0_K.sl.r_10, kernelRun0_K.sl.r_11, kernelRun0_K.sl.r_12, kernelRun0_K.sl.r_13, kernelRun0_K.sl.r_14, kernelRun0_K.sl.r_15, kernelRun0_K.sl.r_16, kernelRun0_K.sl.r_17, kernelRun0_K.sl.r_18, kernelRun0_K.sl.r_19, kernelRun0_K.sl.r_20, kernelRun0_K.sl.r_21, kernelRun0_K.sl.r_22, kernelRun0_K.sl.r_23, kernelRun0_K.sl.r_24, cov_s, ld_r, ld_x, ld_s]
  rfl

theorem out0_K_2_eq (c : Dev nD) (i : grid0.Coords) (arg2 : Memref sig .tc .vmem S3x256x256 .bf16) (harg2 : arg2.IsWhole) (arg3 : Memref sig .tc .vmem S512x6144 .bf16) (harg3 : arg3.IsWhole) (arg4 : Memref sig .tc .vmem S8x128 .f32) (harg4 : arg4.IsWhole) (arg5 : Memref sig .tc .vmem S8x512 .f32) (harg5 : arg5.IsWhole) (hc0 : ¬cond0_0 i) (hc3 : cond0_3 i)
    (x0 : Vec F S3x256x256 .bf16) (x1 : Vec F S512x6144 .bf16) (xt0 : TbBuf0 (F := F) c tbM0_0) (xs0 : Vec F S8x512 .f32) (hc1 : ¬cond0_1 i (tbM0_0.view.readAt (Elt F) (Rect.unit (s := S1) ![0] S1.size inb_S1_S1_0).toLoadRect xt0 (Shape.Idx.first (numel1_S1.symm ▸ Nat.one_pos)))) (hc2 : cond0_2 i (tbM0_0.view.readAt (Elt F) (Rect.unit (s := S1) ![0] S1.size inb_S1_S1_0).toLoadRect xt0 (Shape.Idx.first (numel1_S1.symm ▸ Nat.one_pos)))) :
    out0_K_2 c i arg2 harg2 arg3 harg3 arg4 harg4 arg5 harg5 hc0 hc3 x0 x1 xt0 xs0 hc1 hc2 = k0_pay4 (acc3 x0 x1 xs0 24) := by
  unfold out0_K_2
  conv_lhs => arg 3; arg 4; whnf
  refine (View.read_writes_full _ _ _ _ _).trans ?_
  simp only [kernelRun0_K.sl.v49, kernelRun0_K.sl.v69, kernelRun0_K.sl.v89, kernelRun0_K.sl.v109, kernelRun0_K.sl.v129, kernelRun0_K.sl.v149, kernelRun0_K.sl.v169, kernelRun0_K.sl.v189, kernelRun0_K.sl.v209, kernelRun0_K.sl.v229, kernelRun0_K.sl.v249, kernelRun0_K.sl.v269, kernelRun0_K.sl.v289, kernelRun0_K.sl.v309, kernelRun0_K.sl.v329, kernelRun0_K.sl.v349, kernelRun0_K.sl.v369, kernelRun0_K.sl.v389, kernelRun0_K.sl.v409, kernelRun0_K.sl.v429, kernelRun0_K.sl.v449, kernelRun0_K.sl.v469, kernelRun0_K.sl.v489, kernelRun0_K.sl.v14, kernelRun0_K.sl.HS0_1, kernelRun0_K.sl.HS0_2, kernelRun0_K.sl.HS0_3, kernelRun0_K.sl.HS0_4, kernelRun0_K.sl.HS0_5, kernelRun0_K.sl.HS0_6, kernelRun0_K.sl.HS0_7, kernelRun0_K.sl.HS0_8, kernelRun0_K.sl.HS0_9, kernelRun0_K.sl.HS0_10, kernelRun0_K.sl.HS0_11, kernelRun0_K.sl.HS0_12, kernelRun0_K.sl.HS0_13, kernelRun0_K.sl.HS0_14, kernelRun0_K.sl.HS0_15, kernelRun0_K.sl.HS0_16, kernelRun0_K.sl.HS0_17, kernelRun0_K.sl.HS0_18, kernelRun0_K.sl.HS0_19, kernelRun0_K.sl.HS0_20, kernelRun0_K.sl.HS0_21, kernelRun0_K.sl.HS0_22, kernelRun0_K.sl.HS0_23, kernelRun0_K.sl.HS0_24, kernelRun0_K.sl.r, kernelRun0_K.sl.r_1, kernelRun0_K.sl.r_2, kernelRun0_K.sl.r_3, kernelRun0_K.sl.r_4, kernelRun0_K.sl.r_5, kernelRun0_K.sl.r_6, kernelRun0_K.sl.r_7, kernelRun0_K.sl.r_8, kernelRun0_K.sl.r_9, kernelRun0_K.sl.r_10, kernelRun0_K.sl.r_11, kernelRun0_K.sl.r_12, kernelRun0_K.sl.r_13, kernelRun0_K.sl.r_14, kernelRun0_K.sl.r_15, kernelRun0_K.sl.r_16, kernelRun0_K.sl.r_17, kernelRun0_K.sl.r_18, kernelRun0_K.sl.r_19, kernelRun0_K.sl.r_20, kernelRun0_K.sl.r_21, kernelRun0_K.sl.r_22, kernelRun0_K.sl.r_23, kernelRun0_K.sl.r_24, cov_s, ld_r, ld_x, ld_s]
  rfl

end Cert.AmaxKernelIdeal.Gen
end
-- ==== Proof.AmaxD.lean ====
module
public import proofs.«01_k».proof.Proof.AmaxB
public import proofs.«01_k».proof.Proof.AmaxC
public import Idealize.ShloMosaic.Lib.Pipeline.ValueKit
@[expose] public section
noncomputable section
namespace Cert.AmaxKernelIdeal.Gen
open Idealize.ShloMosaic Idealize.ShloMosaic.TcCoe Idealize.ShloMosaic.Tactic
open Idealize.SL Idealize.SL.RA Idealize.SL.Sem
open Idealize.ShloMosaic.Pipeline (Dat Cfg Window BodyObligation cellOf)
variable {F : FTy → Type} [FloatOps F]
variable (m : (ℓ : Loc nD τ sig) → Buf (Elt F) ℓ) (ρ : Dev nD → PrngReg)

/-! # The call's result over its grid -/

/-- The prefetched word: zero when the rotation is exact in one part. -/
abbrev word : BitVec 32 := tbM0_0.view.readAt (Elt F) (Rect.unit (s := S1) ![0] S1.size inb_S1_S1_0).toLoadRect (tbl m 0) (Shape.Idx.first (numel1_S1.symm ▸ Nat.one_pos))

theorem c1 (i : grid0.Coords) (w : BitVec 32) : cond0_1 i w ↔ w = 0#32 := by
  unfold cond0_1
  by_cases h : w = 0#32
  · subst h; simp [Scalar.cmpi, Scalar.extui, IntOp.cmpi]
  · have hb : (w == 0#32) = false := by simpa using h
    have hn : (w != 0#32) = true := by simpa using h
    simp [Scalar.cmpi, Scalar.extui, IntOp.cmpi, h, hb, hn]

theorem c2 (i : grid0.Coords) (w : BitVec 32) : cond0_2 i w ↔ ¬ w = 0#32 := by
  unfold cond0_2
  by_cases h : w = 0#32
  · subst h; simp [Scalar.cmpi, Scalar.extui, IntOp.cmpi]
  · have hb : (w == 0#32) = false := by simpa using h
    have hn : (w != 0#32) = true := by simpa using h
    simp [Scalar.cmpi, Scalar.extui, IntOp.cmpi, h, hb, hn]

/-- One grid point's step of the running maximum. -/
def stp (w : BitVec 32) (x0 : Vec F S3x256x256 .bf16) (x1 : Vec F S512x6144 .bf16) (a : Vec F S8x512 .f32) : Vec F S8x512 .f32 :=
  if w = 0#32 then acc x0 x1 a 24 else acc3 x0 x1 a 24

theorem outs_zero (hO : Ok m) (c : Dev nD) (t : Fin (cfgM m hO).N) (ht : t.val = 0) :
    (outsAt0 m hO c t.val t.isLt).2 = stp (word m) (iblk m hO c 0 t) (iblk m hO c 1 t) k0_pay1 := by
  unfold stp
  split
  · rename_i h
    rw [outsAt0_B m hO c t (by omega) ((c1 _ _).2 h) (fun h' => (c2 _ _).1 h' h) (by omega)]
    dsimp only
    exact sout0_B_0_eq (F := F) ..
  · rename_i h
    rw [outsAt0_C m hO c t (by omega) (fun h' => h ((c1 _ _).1 h')) ((c2 _ _).2 h) (by omega)]
    dsimp only
    exact sout0_C_0_eq (F := F) ..

theorem outs_succ (hO : Ok m) (c : Dev nD) (t : Fin (cfgM m hO).N) (ht : t.val ≠ 0) (h20 : t.val < 20) :
    (outsAt0 m hO c t.val t.isLt).2 = stp (word m) (iblk m hO c 0 t) (iblk m hO c 1 t)
      (outsAt0 m hO c (t.val - 1) (Nat.lt_of_le_of_lt (Nat.sub_le _ _) t.isLt)).2 := by
  unfold stp
  by_cases h19 : t.val % 20 = 19
  · split
    · rename_i h
      rw [outsAt0_J m hO c t (by omega) ((c1 _ _).2 h) (fun h' => (c2 _ _).1 h' h) h19]
      dsimp only
      exact sout0_J_0_eq (F := F) ..
    · rename_i h
      rw [outsAt0_K m hO c t (by omega) (fun h' => h ((c1 _ _).1 h')) ((c2 _ _).2 h) h19]
      dsimp only
      exact sout0_K_0_eq (F := F) ..
  · split
    · rename_i h
      rw [outsAt0_F m hO c t (by omega) ((c1 _ _).2 h) (fun h' => (c2 _ _).1 h' h) h19]
      dsimp only
      exact sout0_F_0_eq (F := F) ..
    · rename_i h
      rw [outsAt0_G m hO c t (by omega) (fun h' => h ((c1 _ _).1 h')) ((c2 _ _).2 h) h19]
      dsimp only
      exact sout0_G_0_eq (F := F) ..

theorem outs_last (hO : Ok m) (c : Dev nD) (t : Fin (cfgM m hO).N) (ht : t.val = 19) :
    (outsAt0 m hO c t.val t.isLt).1 = k0_pay4 (outsAt0 m hO c t.val t.isLt).2 := by
  rw [outs_succ m hO c t (by omega) (by omega)]
  unfold stp
  split
  · rename_i h
    rw [outsAt0_J m hO c t (by omega) ((c1 _ _).2 h) (fun h' => (c2 _ _).1 h' h) (by omega)]
    dsimp only
    exact out0_J_2_eq (F := F) ..
  · rename_i h
    rw [outsAt0_K m hO c t (by omega) (fun h' => h ((c1 _ _).1 h')) ((c2 _ _).2 h) (by omega)]
    dsimp only
    exact out0_K_2_eq (F := F) ..

theorem ok : Ok m := by unfold Ok ok0; trivial

/-- The last grid point. -/
def tL : Fin (cfgM m (ok m)).N := ⟨19, (by decide : 19 < grid0.N)⟩

theorem final_o (c : Dev nD) : (dats m (ok m) 0 c).arrAt 2 (cfgM m (ok m)).N = k0_pay4 (outsAt0 m (ok m) c 19 (tL m).isLt).2 := by
  refine (dats m (ok m) 0 c).arrAt_eq_of_after_last 2 (tL m) ⟨(flush0_2 (adm m (ok m)) (tL m)).2 rfl, fun t h => Fin.ext ?_, ?_⟩ _ fun j => ?_
  · have := (flush0_2 (adm m (ok m)) t).1 h
    have h2 : t.val < 20 := t.isLt
    show t.val = 19
    omega
  · intro a
    fin_cases a <;> exact ⟨rfl, rfl⟩
  · rw [after0_2]
    have h := outs_last m (ok m) c (tL m) rfl
    rw [h]
    rfl

theorem run_val : θ_run defs (onTc (τ := τ) (main (F := F))) ⟨m, fun _ => 0, ρ⟩ (fun r => ∀ c : Dev nD,
      r.2.mem ((c.tc : Thread nD τ).loc main_v36) = k0_pay4 (outsAt0 m (ok m) c 19 (tL m).isLt).2
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_o m c),
      ((h c).1 1).trans (((dats m (ok m) 0 c).arrAt_in 1 rfl _).trans ((A_eq m (ok m) c 1).trans (V_main_arg0 m c))),
      ((h c).2 main_arg1 (by decide : main_arg1 ∈ Pipeline.restRefs sig spec0)).trans (V_main_arg1 m c)⟩) (run_main m ρ (ok m))
end Cert.AmaxKernelIdeal.Gen
end
-- ==== Proof.AmaxE.lean ====
module
public import proofs.«01_k».proof.Proof.AmaxD
@[expose] public section
noncomputable section
namespace Cert.AmaxKernelIdeal.Gen
open Idealize.ShloMosaic Idealize.ShloMosaic.TcCoe

/-! # One step of the running maximum, on extended reals -/

/-- The absolute value, as the operations have it. -/
def av (z : EReal) : EReal := max z (-z)

theorem pay3_le (r : Vec Ideal S1x256x256 .bf16) (x : Vec Ideal S256x512 .bf16) (a : Vec Ideal S8x512 .f32) (p : Fin 8) (q : Fin 512) (v : EReal) :
    k0_pay3 r x a (ix2 p q) ≤ v ↔ a (ix2 p q) ≤ v ∧ ∀ g : Fin 32,
      av (∑ j : Fin 256, r (ix3 (0 : Fin 1) (⟨g.val * 8 + p.val, by omega⟩ : Fin 256) j) * x (ix2 j q)) ≤ v := by
  unfold k0_pay3
  pointwise
  rw [max_le_iff, Finset.fold_max_le]
  have hb : Ideal.ofBits FTy.f32 4286578688#32 = ⊥ := by simp [Ideal.ofBits, Ideal.ieee]
  rw [hb]
  simp only [bot_le, true_and, Finset.mem_univ, true_implies]
  exact Iff.rfl

theorem pay71_le (r0 r1 r2 : Vec Ideal S1x256x256 .bf16) (x : Vec Ideal S256x512 .bf16) (a : Vec Ideal S8x512 .f32) (p : Fin 8) (q : Fin 512) (v : EReal) :
    k0_pay71 x r0 r1 r2 a (ix2 p q) ≤ v ↔ a (ix2 p q) ≤ v ∧ ∀ g : Fin 32,
      av ((∑ j : Fin 256, r0 (ix3 (0 : Fin 1) (⟨g.val * 8 + p.val, by omega⟩ : Fin 256) j) * x (ix2 j q))
        + ((∑ j : Fin 256, r1 (ix3 (0 : Fin 1) (⟨g.val * 8 + p.val, by omega⟩ : Fin 256) j) * x (ix2 j q))
          + (∑ j : Fin 256, r2 (ix3 (0 : Fin 1) (⟨g.val * 8 + p.val, by omega⟩ : Fin 256) j) * x (ix2 j q)))) ≤ v := by
  unfold k0_pay71
  pointwise
  rw [max_le_iff, Finset.fold_max_le]
  have hb : Ideal.ofBits FTy.f32 4286578688#32 = ⊥ := by simp [Ideal.ofBits, Ideal.ieee]
  rw [hb]
  simp only [bot_le, true_and, Finset.mem_univ, true_implies]
  exact Iff.rfl

theorem pay1_eq (i : Fin 8) (j : Fin 512) : k0_pay1 (F := Ideal) (ix2 i j) = 0 := by
  unfold k0_pay1
  pointwise

/-! ## The parts of an infinite factor -/

/-- Infinite, of either sign. -/
def isInf (z : EReal) : Prop := z = ⊤ ∨ z = ⊥

theorem av_inf {z : EReal} (h : isInf z) : av z = ⊤ := by
  rcases h with h | h <;> subst h <;> simp [av]

theorem isInf_add {a b : EReal} (h : isInf a) : isInf (a + b) := by
  rcases h with h | h
  · subst h
    by_cases hb : b = ⊥
    · subst hb; exact Or.inr (EReal.add_bot _)
    · exact Or.inl (EReal.top_add_of_ne_bot hb)
  · subst h; exact Or.inr (EReal.bot_add _)

theorem isInf_sum {n : ℕ} (f : Fin n → EReal) (j : Fin n) (h : isInf (f j)) : isInf (∑ k, f k) := by
  rw [← Finset.add_sum_erase Finset.univ f (Finset.mem_univ j)]
  exact isInf_add h

theorem isInf_mul {a b : EReal} (h : isInf a) (hb : b ≠ 0) : isInf (a * b) := by
  rcases lt_or_gt_of_ne hb with hb | hb
  · rcases h with h | h <;> subst h
    · exact Or.inr (EReal.top_mul_of_neg hb)
    · exact Or.inl (EReal.bot_mul_of_neg hb)
  · rcases h with h | h <;> subst h
    · exact Or.inl (EReal.top_mul_of_pos hb)
    · exact Or.inr (EReal.bot_mul_of_pos hb)

theorem sub_self_of {r : EReal} (h : ¬ isInf r) : r - r = 0 := by
  refine EReal.sub_self (fun e => h (Or.inl e)) (fun e => h (Or.inr e))

/-- The two remainders of a row change no absolute value: they are zero unless a factor is infinite, and then the first part's
    sum is infinite already. -/
theorem av_parts {n : ℕ} (r x : Fin n → EReal) :
    av ((∑ j, r j * x j) + ((∑ j, (r j - r j) * x j) + (∑ j, ((r j - r j) - (r j - r j)) * x j))) = av (∑ j, r j * x j) := by
  by_cases h : ∃ j, isInf (r j) ∧ x j ≠ 0
  · obtain ⟨j, h1, h2⟩ := h
    have h3 : isInf (∑ j, r j * x j) := isInf_sum (fun j => r j * x j) j (isInf_mul h1 h2)
    rw [av_inf h3, av_inf (isInf_add h3)]
  · have h1 : ∀ j, (r j - r j) * x j = 0 ∧ ((r j - r j) - (r j - r j)) * x j = 0 := by
      intro j
      by_cases hr : isInf (r j)
      · have hx : x j = 0 := by_contra fun hx => h ⟨j, hr, hx⟩
        rw [hx]; exact ⟨mul_zero _, mul_zero _⟩
      · rw [sub_self_of hr]; simp
    rw [Finset.sum_eq_zero (fun j _ => (h1 j).1), Finset.sum_eq_zero (fun j _ => (h1 j).2), add_zero, add_zero]

/-! ## A point's step -/

theorem rblk_at (x0 : Vec Ideal S3x256x256 .bf16) (o : Fin 3) (i j : Fin 256) :
    rblk x0 o.val 0 0 (ix3 (0 : Fin 1) i j) = x0 (ix3 o i j) := by
  refine congrArg x0 (funext fun a => Fin.ext ?_)
  have h0 := o.isLt
  have h1 := i.isLt
  have h2 := j.isLt
  fin_cases a
  · exact Nat.mod_eq_of_lt h0
  · exact (congrArg (· % 256) (Nat.zero_add _)).trans (Nat.mod_eq_of_lt h1)
  · exact (congrArg (· % 256) (Nat.zero_add _)).trans (Nat.mod_eq_of_lt h2)

/-- Column `q` of the 512 columns, row `j` of the 256 rows of a point's slab `k`. -/
def xat (x1 : Vec Ideal S512x6144 .bf16) (k : ℕ) (j : Fin 256) (q : Fin 512) : EReal :=
  slab x1 (256 * (k / 12)) (512 * (k % 12)) (ix2 j q)

theorem acc_le (x0 : Vec Ideal S3x256x256 .bf16) (x1 : Vec Ideal S512x6144 .bf16) (a : Vec Ideal S8x512 .f32)
    (R : Fin 256 → Fin 256 → EReal) (hR : ∀ i j, x0 (ix3 (0 : Fin 3) i j) = R i j)
    (p : Fin 8) (q : Fin 512) (v : EReal) (k : ℕ) :
    acc x0 x1 a k (ix2 p q) ≤ v ↔ a (ix2 p q) ≤ v ∧ ∀ k' < k, ∀ g : Fin 32,
      av (∑ j : Fin 256, R (⟨g.val * 8 + p.val, by omega⟩ : Fin 256) j * xat x1 k' j q) ≤ v := by
  have step : ∀ k' (g : Fin 32), (∑ j : Fin 256, rblk x0 0 0 0 (ix3 (0 : Fin 1) (⟨g.val * 8 + p.val, by omega⟩ : Fin 256) j)
      * slab x1 (256 * (k' / 12)) (512 * (k' % 12)) (ix2 j q))
      = ∑ j : Fin 256, R (⟨g.val * 8 + p.val, by omega⟩ : Fin 256) j * xat x1 k' j q := fun k' g =>
    Finset.sum_congr rfl fun j _ => congrArg₂ (· * ·) ((rblk_at x0 0 _ j).trans (hR _ j)) rfl
  induction k with
  | zero => simp [acc]
  | succ k ih =>
    refine (pay3_le _ _ _ p q v).trans ((and_congr_left fun _ => ih).trans (and_assoc.trans ?_))
    refine and_congr_right fun _ => ⟨fun h k' hk' => ?_, fun h => ⟨fun k' hk' => h k' (by omega), fun g => ?_⟩⟩
    · rcases Nat.lt_succ_iff_lt_or_eq.mp hk' with hk' | hk'
      · exact h.1 k' hk'
      · subst hk'
        exact fun g => le_of_eq_of_le (congrArg av (step k' g).symm) (h.2 g)
    · exact le_of_eq_of_le (congrArg av (step k g)) (h k (by omega) g)

theorem acc3_le (x0 : Vec Ideal S3x256x256 .bf16) (x1 : Vec Ideal S512x6144 .bf16) (a : Vec Ideal S8x512 .f32)
    (R : Fin 256 → Fin 256 → EReal) (hR : ∀ i j, x0 (ix3 (0 : Fin 3) i j) = R i j) (hM : ∀ i j, x0 (ix3 (1 : Fin 3) i j) = R i j - R i j)
    (hL : ∀ i j, x0 (ix3 (2 : Fin 3) i j) = (R i j - R i j) - (R i j - R i j))
    (p : Fin 8) (q : Fin 512) (v : EReal) (k : ℕ) :
    acc3 x0 x1 a k (ix2 p q) ≤ v ↔ a (ix2 p q) ≤ v ∧ ∀ k' < k, ∀ g : Fin 32,
      av (∑ j : Fin 256, R (⟨g.val * 8 + p.val, by omega⟩ : Fin 256) j * xat x1 k' j q) ≤ v := by
  have step : ∀ k' (g : Fin 32), av ((∑ j : Fin 256, rblk x0 0 0 0 (ix3 (0 : Fin 1) (⟨g.val * 8 + p.val, by omega⟩ : Fin 256) j)
      * slab x1 (256 * (k' / 12)) (512 * (k' % 12)) (ix2 j q))
      + ((∑ j : Fin 256, rblk x0 1 0 0 (ix3 (0 : Fin 1) (⟨g.val * 8 + p.val, by omega⟩ : Fin 256) j)
      * slab x1 (256 * (k' / 12)) (512 * (k' % 12)) (ix2 j q))
      + (∑ j : Fin 256, rblk x0 2 0 0 (ix3 (0 : Fin 1) (⟨g.val * 8 + p.val, by omega⟩ : Fin 256) j)
      * slab x1 (256 * (k' / 12)) (512 * (k' % 12)) (ix2 j q))))
      = av (∑ j : Fin 256, R (⟨g.val * 8 + p.val, by omega⟩ : Fin 256) j * xat x1 k' j q) := fun k' g => by
    refine Eq.trans ?_ (av_parts (R (⟨g.val * 8 + p.val, by omega⟩ : Fin 256)) fun j => xat x1 k' j q)
    refine congrArg av (congrArg₂ (· + ·) (Finset.sum_congr rfl fun j _ => congrArg₂ (· * ·) ((rblk_at x0 0 _ j).trans (hR _ j)) rfl)
      (congrArg₂ (· + ·) (Finset.sum_congr rfl fun j _ => congrArg₂ (· * ·) ((rblk_at x0 1 _ j).trans (hM _ j)) rfl)
        (Finset.sum_congr rfl fun j _ => congrArg₂ (· * ·) ((rblk_at x0 2 _ j).trans (hL _ j)) rfl)))
  induction k with
  | zero => simp [acc3]
  | succ k ih =>
    refine (pay71_le _ _ _ _ _ p q v).trans ((and_congr_left fun _ => ih).trans (and_assoc.trans ?_))
    refine and_congr_right fun _ => ⟨fun h k' hk' => ?_, fun h => ⟨fun k' hk' => h k' (by omega), fun g => ?_⟩⟩
    · rcases Nat.lt_succ_iff_lt_or_eq.mp hk' with hk' | hk'
      · exact h.1 k' hk'
      · subst hk'
        exact fun g => le_of_eq_of_le (step k' g).symm (h.2 g)
    · exact le_of_eq_of_le (step k g) (h k (by omega) g)

theorem stp_le (w : BitVec 32) (x0 : Vec Ideal S3x256x256 .bf16) (x1 : Vec Ideal S512x6144 .bf16) (a : Vec Ideal S8x512 .f32)
    (R : Fin 256 → Fin 256 → EReal) (hR : ∀ i j, x0 (ix3 (0 : Fin 3) i j) = R i j) (hM : ∀ i j, x0 (ix3 (1 : Fin 3) i j) = R i j - R i j)
    (hL : ∀ i j, x0 (ix3 (2 : Fin 3) i j) = (R i j - R i j) - (R i j - R i j))
    (p : Fin 8) (q : Fin 512) (v : EReal) :
    stp w x0 x1 a (ix2 p q) ≤ v ↔ a (ix2 p q) ≤ v ∧ ∀ k' < 24, ∀ g : Fin 32,
      av (∑ j : Fin 256, R (⟨g.val * 8 + p.val, by omega⟩ : Fin 256) j * xat x1 k' j q) ≤ v := by
  unfold stp
  split
  · exact acc_le x0 x1 a R hR p q v 24
  · exact acc3_le x0 x1 a R hR hM hL p q v 24

theorem stp_le' (z : Vec Ideal S8x512 .f32) (w : BitVec 32) (x0 : Vec Ideal S3x256x256 .bf16) (x1 : Vec Ideal S512x6144 .bf16) (a : Vec Ideal S8x512 .f32)
    (hz : z = stp w x0 x1 a)
    (R : Fin 256 → Fin 256 → EReal) (hR : ∀ i j, x0 (ix3 (0 : Fin 3) i j) = R i j) (hM : ∀ i j, x0 (ix3 (1 : Fin 3) i j) = R i j - R i j)
    (hL : ∀ i j, x0 (ix3 (2 : Fin 3) i j) = (R i j - R i j) - (R i j - R i j))
    (p : Fin 8) (q : Fin 512) (v : EReal) :
    z (ix2 p q) ≤ v ↔ a (ix2 p q) ≤ v ∧ ∀ k' < 24, ∀ g : Fin 32,
      av (∑ j : Fin 256, R (⟨g.val * 8 + p.val, by omega⟩ : Fin 256) j * xat x1 k' j q) ≤ v := by
  subst hz
  exact stp_le w x0 x1 a R hR hM hL p q v

/-! ## The whole grid -/

theorem grid_le (O : (n : ℕ) → n < 20 → Vec Ideal S8x512 .f32) (w : BitVec 32) (X0 : Fin 20 → Vec Ideal S3x256x256 .bf16) (X1 : Fin 20 → Vec Ideal S512x6144 .bf16)
    (hz : ∀ h, O 0 h = stp w (X0 ⟨0, h⟩) (X1 ⟨0, h⟩) (k0_pay1 (F := Ideal)))
    (hs : ∀ n h, O (n + 1) h = stp w (X0 ⟨n + 1, h⟩) (X1 ⟨n + 1, h⟩) (O n (Nat.lt_of_succ_lt h)))
    (R : Fin 256 → Fin 256 → EReal)
    (h0 : ∀ t i j, X0 t (ix3 (0 : Fin 3) i j) = R i j)
    (h1 : ∀ t i j, X0 t (ix3 (1 : Fin 3) i j) = R i j - R i j)
    (h2 : ∀ t i j, X0 t (ix3 (2 : Fin 3) i j) = (R i j - R i j) - (R i j - R i j))
    (p : Fin 8) (q : Fin 512) (v : EReal) (n : ℕ) (hn : n < 20) :
    O n hn (ix2 p q) ≤ v ↔ 0 ≤ v ∧ ∀ t : Fin 20, t.val ≤ n → ∀ k' < 24, ∀ g : Fin 32,
      av (∑ j : Fin 256, R (⟨g.val * 8 + p.val, by omega⟩ : Fin 256) j * xat (X1 t) k' j q) ≤ v := by
  induction n with
  | zero =>
    refine (stp_le' _ _ _ _ _ (hz hn) R (h0 _) (h1 _) (h2 _) p q v).trans ?_
    rw [pay1_eq]
    refine and_congr_right fun _ => ⟨fun h t ht => ?_, fun h => h ⟨0, hn⟩ (le_refl _)⟩
    obtain rfl : t = ⟨0, hn⟩ := Fin.ext (by simpa using ht)
    exact h
  | succ n ih =>
    refine (stp_le' _ _ _ _ _ (hs n hn) R (h0 _) (h1 _) (h2 _) p q v).trans ?_
    refine (and_congr_left fun _ => ih (Nat.lt_of_succ_lt hn)).trans (and_assoc.trans ?_)
    refine and_congr_right fun _ => ⟨fun h t ht => ?_, fun h => ⟨fun t ht => h t (by omega), h ⟨n + 1, hn⟩ (le_refl _)⟩⟩
    rcases Nat.le_succ_iff.mp ht with ht | ht
    · exact h.1 t ht
    · obtain rfl : t = ⟨n + 1, hn⟩ := Fin.ext ht
      exact h.2

variable (m : (ℓ : Loc nD τ sig) → Buf (Elt Ideal) ℓ)

theorem idx0 (t : Fin (cfgM m (ok m)).N) (a : Fin 3) : ((cfgM m (ok m)).win 0).index t a = 0 :=
  (by decide : ∀ (t : Fin grid0.N) (a : Fin 3), cc0_transform_0 (grid0.coords t) a = 0) t a
theorem idx1 (t : Fin (cfgM m (ok m)).N) : ((cfgM m (ok m)).win 1).index t (0 : Fin 2) = t.val ∧ ((cfgM m (ok m)).win 1).index t (1 : Fin 2) = 0 :=
  (by decide : ∀ t : Fin grid0.N, cc0_transform_1 (grid0.coords t) 0 = t.val ∧ cc0_transform_1 (grid0.coords t) 1 = 0) t

theorem iblk1_at (c : Dev nD) (t : Fin (cfgM m (ok m)).N) (a : Fin 512) (b : Fin 6144) :
    (iblk m (ok m) c 1 t : Vec Ideal S512x6144 .bf16) (ix2 a b)
      = m ((c.tc : Thread nD τ).loc main_arg0) (ix2 (⟨t.val * 512 + a.val, by have : t.val < 20 := t.isLt; omega⟩ : Fin 10240) b) := by
  rw [← V_main_arg0 m c]
  refine congrArg (V m c main_arg0 : Vec Ideal S10240x6144 .bf16) (funext fun d => Fin.ext ?_)
  have h := idx1 m t
  fin_cases d
  · blk_simp
    exact congrArg (· * 512 + a.val) h.1
  · blk_simp
    exact (congrArg (· * 6144 + b.val) h.2).trans (by simp)
theorem iblk0_at (c : Dev nD) (t : Fin (cfgM m (ok m)).N) (o : Fin 3) (a b : Fin 256) :
    (iblk m (ok m) c 0 t : Vec Ideal S3x256x256 .bf16) (ix3 o a b) = V m c main_v27 (ix3 o a b) := by
  refine congrArg (V m c main_v27 : Vec Ideal S3x256x256 .bf16) (funext fun d => Fin.ext ?_)
  have h := idx0 m t
  fin_cases d
  · blk_simp
    exact (congrArg (· * 3 + o.val) (h 0)).trans (by simp)
  · blk_simp
    exact (congrArg (· * 256 + a.val) (h 1)).trans (by simp)
  · blk_simp
    exact (congrArg (· * 256 + b.val) (h 2)).trans (by simp)

/-- The running maximum after the last point, element by element: an upper bound of it bounds zero and every rotated element. -/
theorem outs_le (c : Dev nD) (R : Fin 256 → Fin 256 → EReal)
    (h0 : ∀ i j, (V m c main_v27 : Vec Ideal S3x256x256 .bf16) (ix3 (0 : Fin 3) i j) = R i j)
    (h1 : ∀ i j, (V m c main_v27 : Vec Ideal S3x256x256 .bf16) (ix3 (1 : Fin 3) i j) = R i j - R i j)
    (h2 : ∀ i j, (V m c main_v27 : Vec Ideal S3x256x256 .bf16) (ix3 (2 : Fin 3) i j) = (R i j - R i j) - (R i j - R i j))
    (p : Fin 8) (q : Fin 512) (v : EReal) :
    (outsAt0 m (ok m) c 19 (tL m).isLt).2 (ix2 p q) ≤ v ↔ 0 ≤ v ∧ ∀ t : Fin 20, t.val ≤ 19 → ∀ k' < 24, ∀ g : Fin 32,
      av (∑ j : Fin 256, R (⟨g.val * 8 + p.val, by omega⟩ : Fin 256) j * xat (iblk m (ok m) c 1 t) k' j q) ≤ v :=
  grid_le (fun n h => (outsAt0 m (ok m) c n h).2) (word m) (fun t => iblk m (ok m) c 0 t) (fun t => iblk m (ok m) c 1 t)
    (fun h => outs_zero m (ok m) c ⟨0, h⟩ rfl) (fun n h => outs_succ m (ok m) c ⟨n + 1, h⟩ (Nat.succ_ne_zero n) h) R
    (fun t i j => (iblk0_at m c t 0 i j).trans (h0 i j)) (fun t i j => (iblk0_at m c t 1 i j).trans (h1 i j))
    (fun t i j => (iblk0_at m c t 2 i j).trans (h2 i j)) p q v 19 (by decide)
end Cert.AmaxKernelIdeal.Gen
end
-- ==== Proof.AmaxF.lean ====
module
public import proofs.«01_k».proof.Proof.AmaxE
public import Idealize.ShloMosaic.Lib.StableHlo.Run
@[expose] public section
noncomputable section
namespace Cert.AmaxKernelIdeal.Gen
open Idealize.ShloMosaic Idealize.ShloMosaic.TcCoe
variable (m : (ℓ : Loc nD τ sig) → Buf (Elt Ideal) ℓ)

/-- The table of signs the rotation is built from. -/
def hd (a b : Fin 16) : EReal := Ideal.ofBits FTy.f32 (lit0 (S16x16.rowMajor (ix2 a b)))

/-- One element of the block rotation: sixteen by sixteen blocks on the diagonal, zero elsewhere. -/
def big (s : FVec Ideal S16 .f32) (i j : Fin 256) : EReal :=
  (if i.val / 16 = j.val / 16 then 1 else 0) * hd ⟨i.val % 16, by omega⟩ ⟨j.val % 16, by omega⟩
    * (s (ix1 (⟨j.val % 16, by omega⟩ : Fin 16)) * Ideal.ofBits FTy.f32 1048576000#32)

theorem eye_at : ∀ a b : Fin 16, (FloatOps.uitofp FTy.f32 (IntOp.cmpi CmpIPredicate.eq (IntOp.addi (BitVec.ofNat 32 a.val) 0#32) (BitVec.ofNat 32 b.val)) : Ideal .f32)
    = ((if a.val = b.val then 1 else 0 : EReal)) := by
  intro a b
  have h : IntOp.cmpi CmpIPredicate.eq (IntOp.addi (BitVec.ofNat 32 a.val) 0#32) (BitVec.ofNat 32 b.val) = if a.val = b.val then 1#1 else 0#1 := by
    revert a b; decide
  rw [h]
  split
  · simp [FloatOps.uitofp]
  · simp [FloatOps.uitofp]

theorem eye_big (i j : Fin 256) : (FloatOps.uitofp FTy.f32 (IntOp.cmpi CmpIPredicate.eq (IntOp.addi (BitVec.ofNat 32 (i.val / 16)) 0#32) (BitVec.ofNat 32 (j.val / 16))) : Ideal .f32)
    = ((if i.val / 16 = j.val / 16 then 1 else 0 : EReal)) :=
  eye_at ⟨i.val / 16, by omega⟩ ⟨j.val / 16, by omega⟩

set_option maxRecDepth 8192 in
set_option maxHeartbeats 2000000 in
theorem v14 (c : Dev nD) (i j : Fin 256) : (V m c main_v14 : Vec Ideal S256x256 .f32) (ix2 i j) = big (m ((c.tc : Thread nD τ).loc main_arg1)) i j := by
  unfold V
  simp only [hostOps0, hostOps0_1, hostOps0_2, List.flatten, List.append, StableHlo.TRef.ternary, StableHlo.TRef.binary, StableHlo.TRef.unary, StableHlo.TRef.toBuf, StableHlo.TRef.ofBuf, cast_eq]
  after_results_simp
  pointwise
  rw [eye_big]
  rfl

set_option maxRecDepth 8192 in
set_option maxHeartbeats 2000000 in
theorem v27_0 (c : Dev nD) (i j : Fin 256) : (V m c main_v27 : Vec Ideal S3x256x256 .bf16) (ix3 (0 : Fin 3) i j) = big (m ((c.tc : Thread nD τ).loc main_arg1)) i j := by
  unfold V
  simp only [hostOps0, hostOps0_1, hostOps0_2, List.flatten, List.append, StableHlo.TRef.ternary, StableHlo.TRef.binary, StableHlo.TRef.unary, StableHlo.TRef.toBuf, StableHlo.TRef.ofBuf, cast_eq]
  after_results_simp
  pointwise
  after_results_simp
  pointwise
  rw [eye_big]
  rfl

set_option maxRecDepth 8192 in
set_option maxHeartbeats 2000000 in
theorem v27_1 (c : Dev nD) (i j : Fin 256) : (V m c main_v27 : Vec Ideal S3x256x256 .bf16) (ix3 (1 : Fin 3) i j)
    = big (m ((c.tc : Thread nD τ).loc main_arg1)) i j - big (m ((c.tc : Thread nD τ).loc main_arg1)) i j := by
  unfold V
  simp only [hostOps0, hostOps0_1, hostOps0_2, List.flatten, List.append, StableHlo.TRef.ternary, StableHlo.TRef.binary, StableHlo.TRef.unary, StableHlo.TRef.toBuf, StableHlo.TRef.ofBuf, cast_eq]
  after_results_simp
  pointwise
  after_results_simp
  pointwise
  rw [eye_big]
  rfl

set_option maxRecDepth 8192 in
set_option maxHeartbeats 2000000 in
theorem v27_2 (c : Dev nD) (i j : Fin 256) : (V m c main_v27 : Vec Ideal S3x256x256 .bf16) (ix3 (2 : Fin 3) i j)
    = (big (m ((c.tc : Thread nD τ).loc main_arg1)) i j - big (m ((c.tc : Thread nD τ).loc main_arg1)) i j)
      - (big (m ((c.tc : Thread nD τ).loc main_arg1)) i j - big (m ((c.tc : Thread nD τ).loc main_arg1)) i j) := by
  unfold V
  simp only [hostOps0, hostOps0_1, hostOps0_2, List.flatten, List.append, StableHlo.TRef.ternary, StableHlo.TRef.binary, StableHlo.TRef.unary, StableHlo.TRef.toBuf, StableHlo.TRef.ofBuf, cast_eq]
  after_results_simp
  pointwise
  after_results_simp
  pointwise
  rw [eye_big]
  rfl
end Cert.AmaxKernelIdeal.Gen
end
-- ==== Proof.AmaxG.lean ====
module
public import proofs.«01_k».proof.Proof.Gen.AmaxReferenceIdeal.Run
public import Idealize.ShloMosaic.Lib.Pointwise
@[expose] public section
noncomputable section
namespace Cert.AmaxReferenceIdeal.Value
open Idealize.ShloMosaic Idealize.ShloMosaic.TcCoe Idealize.SL.Sem Cert.AmaxReferenceIdeal.Gen
set_option maxRecDepth 8192

/-- The sixteen by sixteen rotation with its signs and its quarter. -/
def rot (s : FVec Ideal S16 .f32) : FVec Ideal S16x16 .f32 :=
  mulf (mulf (id (select (cmpi .eq (andi (ctpop (andi (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0))))) (broadcastInDim S16x16 ![] bcast_S_S16x16 (constantI S_ 32 1#32))) (broadcastInDim S16x16 ![] bcast_S_S16x16 (constantI S_ 32 0#32))) (broadcastInDim S16x16 ![] bcast_S_S16x16 (constant S_ .f32 0x3F800000#32)) (broadcastInDim S16x16 ![] bcast_S_S16x16 (constant S_ .f32 0xBF800000#32)))) (broadcastInDim S16x16 ![0, 1] bcast_S1x16_S16x16_0_1 (broadcastInDim S1x16 ![1] bcast_S16_S1x16_1 s))) (broadcastInDim S16x16 ![] bcast_S_S16x16 (constant S_ .f32 0x3E800000#32))

/-- The largest absolute value of the rotated array. -/
def top (x : FVec Ideal S10240x6144 .bf16) (r : FVec Ideal S16x16 .f32) : FVec Ideal S_ .f32 :=
  Host.reduce (FloatOps.maximumf (F := Ideal) (φ := .f32)) (Host.absf (transpose S6144x640x16 [1, 0, 2] (Host.dotGeneral dot_S640x16x6144_S16x16_S640x6144x16_1_1_02_0_n_n (some .fp32) (shapeCast _ (extf .f32 x bitsLt_bf16_f32) shapeCasts_S10240x6144_S640x16x6144) r) transposes_S640x6144x16_S6144x640x16_1_0_2)) (constant (F := Ideal) S_ .f32 0xFF800000#32) reducesTo_S6144x640x16_S_d0_1_2 h_S_

/-- The scale of a largest absolute value. -/
def scale (t : FVec Ideal S_ .f32) : FVec Ideal S8x128 .f32 :=
  broadcastInDim S8x128 ![] bcast_S_S8x128 (select (cmpf .ogt t (constant S_ .f32 0x00000000#32)) (Host.divf t (constant S_ .f32 0x45280000#32)) (id (constant (F := Ideal) S_ .f32 0x3F800000#32)))

theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = scale (top (m ((c.tc : Thread nD τ).loc main_arg0)) (rot (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := run (F := Ideal) m ρ

/-- The sign pattern: one where the two indices share an even number of bits, minus one elsewhere. -/
def pat (i j : Fin 16) : BitVec 1 :=
  IntOp.cmpi CmpIPredicate.eq (IntOp.andi (IntOp.ctpop (IntOp.andi (BitVec.ofNat 32 i.val) (BitVec.ofNat 32 j.val))) 1#32) 0#32
theorem rot_at (s : FVec Ideal S16 .f32) (i j : Fin 16) : rot s (ix2 i j) =
    Scalar.select (pat i j) 1 (Ideal.ofBits FTy.f32 3212836864#32) * s (ix1 j) * Ideal.ofBits FTy.f32 1048576000#32 := by
  unfold rot
  simp only [id_eq]
  pointwise
  rfl
theorem scale_at (t : FVec Ideal S_ .f32) (a : Fin 8) (b : Fin 128) : scale t (ix2 a b) =
    if 0 < t ix0 then Ideal.div (t ix0) (Ideal.ofBits FTy.f32 1160249344#32) else 1 := by
  unfold scale
  simp only [id_eq]
  pointwise
theorem top_le (x : FVec Ideal S10240x6144 .bf16) (r : FVec Ideal S16x16 .f32) (v : EReal) :
    top x r ix0 ≤ v ↔ ∀ (g : Fin 640) (q : Fin 6144) (i : Fin 16),
      (fun z : EReal => max z (-z)) (∑ j : Fin 16, x (ix2 (⟨g.val * 16 + j.val, by omega⟩ : Fin 10240) q) * r (ix2 i j)) ≤ v := by
  unfold top
  pointwise
  rw [Finset.fold_max_le]
  have hb : Ideal.ofBits FTy.f32 4286578688#32 = ⊥ := by simp [Ideal.ofBits, Ideal.ieee]
  rw [hb]
  simp only [bot_le, true_and, Finset.mem_univ, true_implies]
  exact ⟨fun h g q i => h (q, g, i), fun h x => h x.2.1 x.1 x.2.2⟩
end Cert.AmaxReferenceIdeal.Value
end
-- ==== Proof.AmaxH.lean ====
module
public import proofs.«01_k».proof.Proof.AmaxF
public import proofs.«01_k».proof.Proof.AmaxG
@[expose] public section
noncomputable section
namespace Cert.AmaxKernelIdeal.Gen
open Idealize.ShloMosaic Idealize.ShloMosaic.TcCoe

/-! # The kernel's largest absolute value is the reference's -/

theorem lit_eq : ∀ i j : Fin 16, lit0 (S16x16.rowMajor (ix2 i j)) = if Cert.AmaxReferenceIdeal.Value.pat i j = 1#1 then 1065353216#32 else 3212836864#32 := by
  decide +kernel

theorem hd_eq (i j : Fin 16) : hd i j = Scalar.select (Cert.AmaxReferenceIdeal.Value.pat i j) 1 (Ideal.ofBits FTy.f32 3212836864#32) := by
  unfold hd Scalar.select
  rw [lit_eq]
  split
  · simp [*]
  · simp [*]

/-- One row of the block rotation meets sixteen rows of the array. -/
theorem big_sum (s : FVec Ideal S16 .f32) (i : Fin 256) (X : Fin 256 → EReal) :
    ∑ j : Fin 256, big s i j * X j
      = ∑ j : Fin 16, X ⟨i.val / 16 * 16 + j.val, by omega⟩ * Cert.AmaxReferenceIdeal.Value.rot s (ix2 (⟨i.val % 16, by omega⟩ : Fin 16) j) := by
  rw [← Equiv.sum_comp (finProdFinEquiv (m := 16) (n := 16)) (fun j : Fin 256 => big s i j * X j), Fintype.sum_prod_type,
    Finset.sum_eq_single (⟨i.val / 16, by omega⟩ : Fin 16)]
  · refine Finset.sum_congr rfl fun j _ => ?_
    have hj : (finProdFinEquiv (m := 16) (n := 16) ((⟨i.val / 16, by omega⟩ : Fin 16), j)) = (⟨i.val / 16 * 16 + j.val, by omega⟩ : Fin 256) :=
      Fin.ext (by simp [finProdFinEquiv]; omega)
    refine (congrArg (fun k : Fin 256 => big s i k * X k) hj).trans ?_
    have h1 : (i.val / 16 * 16 + j.val) / 16 = i.val / 16 := by omega
    have h2 : (i.val / 16 * 16 + j.val) % 16 = j.val := by omega
    simp only [big, h1, h2, if_true, one_mul, hd_eq, Cert.AmaxReferenceIdeal.Value.rot_at]
    rw [mul_comm, mul_assoc]
  · intro a _ ha
    refine Finset.sum_eq_zero fun j _ => ?_
    have hj : (finProdFinEquiv (m := 16) (n := 16) (a, j)).val / 16 = a.val := by
      simp [finProdFinEquiv]; omega
    have hn : ¬ i.val / 16 = (finProdFinEquiv (m := 16) (n := 16) (a, j)).val / 16 := by
      rw [hj]; exact fun h => ha (Fin.ext h.symm)
    simp only [big]
    rw [if_neg hn, zero_mul, zero_mul, zero_mul]
  · intro h; exact absurd (Finset.mem_univ _) h

theorem av_nonneg (z : EReal) : 0 ≤ av z := by
  unfold av
  rcases le_total 0 z with h | h
  · exact h.trans (le_max_left _ _)
  · exact (EReal.neg_nonneg.mpr h).trans (le_max_right _ _)

variable (m : (ℓ : Loc nD τ sig) → Buf (Elt Ideal) ℓ)

/-- One element of the rotated array. -/
def el (x : FVec Ideal S10240x6144 .bf16) (r : FVec Ideal S16x16 .f32) (row : Fin 10240) (col : Fin 6144) : EReal :=
  ∑ j : Fin 16, x (ix2 (⟨row.val / 16 * 16 + j.val, by omega⟩ : Fin 10240) col) * r (ix2 (⟨row.val % 16, by omega⟩ : Fin 16) j)

theorem one_at (c : Dev nD) (s : FVec Ideal S16 .f32) (t : Fin 20) (k : ℕ) (hk : k < 24) (g : Fin 32) (p : Fin 8) (q : Fin 512) :
    ∑ j : Fin 256, big s (⟨g.val * 8 + p.val, by omega⟩ : Fin 256) j * xat (iblk m (ok m) c 1 t) k j q
      = el (m ((c.tc : Thread nD τ).loc main_arg0)) (Cert.AmaxReferenceIdeal.Value.rot s)
          ⟨t.val * 512 + 256 * (k / 12) + g.val * 8 + p.val, by omega⟩ ⟨512 * (k % 12) + q.val, by omega⟩ := by
  refine (big_sum s _ _).trans (Finset.sum_congr rfl fun j _ => ?_)
  refine congrArg₂ (fun a b : EReal => a * b) ?_ (congrArg (fun a : Fin 16 => Cert.AmaxReferenceIdeal.Value.rot s (ix2 a j)) (Fin.ext ?_))
  · refine (iblk1_at m c t ⟨(256 * (k / 12) + ((g.val * 8 + p.val) / 16 * 16 + j.val)) % 512, Nat.mod_lt _ (by decide)⟩
      ⟨(512 * (k % 12) + q.val) % 6144, Nat.mod_lt _ (by decide)⟩).trans ?_
    refine congrArg₂ (fun (a : Fin 10240) (b : Fin 6144) => (m ((c.tc : Thread nD τ).loc main_arg0) : FVec Ideal S10240x6144 .bf16) (ix2 a b)) (Fin.ext ?_) (Fin.ext ?_)
    · show t.val * 512 + (256 * (k / 12) + ((g.val * 8 + p.val) / 16 * 16 + j.val)) % 512
        = (t.val * 512 + 256 * (k / 12) + g.val * 8 + p.val) / 16 * 16 + j.val
      omega
    · show (512 * (k % 12) + q.val) % 6144 = 512 * (k % 12) + q.val
      omega
  · show (g.val * 8 + p.val) % 16 = (t.val * 512 + 256 * (k / 12) + g.val * 8 + p.val) % 16
    omega

theorem top_eq (c : Dev nD) (s : FVec Ideal S16 .f32) (hs : s = m ((c.tc : Thread nD τ).loc main_arg1)) :
    Finset.fold max (⊥ : EReal) (fun x : Fin 8 × Fin 512 => (outsAt0 m (ok m) c 19 (tL m).isLt).2 (ix2 x.1 x.2)) Finset.univ
      = Cert.AmaxReferenceIdeal.Value.top (m ((c.tc : Thread nD τ).loc main_arg0)) (Cert.AmaxReferenceIdeal.Value.rot s) Idealize.ShloMosaic.ix0 := by
  refine eq_of_forall_ge_iff fun v => ?_
  refine Iff.trans ?_ (Cert.AmaxReferenceIdeal.Value.top_le _ _ v).symm
  rw [Finset.fold_max_le]
  subst hs
  constructor
  · rintro ⟨-, h⟩ g q i
    have hx := ((outs_le m c (big (m ((c.tc : Thread nD τ).loc main_arg1))) (v27_0 m c) (v27_1 m c) (v27_2 m c)
      ⟨(g.val * 16 + i.val) % 8, by omega⟩ ⟨q.val % 512, by omega⟩ v).mp (h (⟨(g.val * 16 + i.val) % 8, by omega⟩, ⟨q.val % 512, by omega⟩) (Finset.mem_univ _))).2
      ⟨(g.val * 16 + i.val) / 512, by omega⟩ (by show (g.val * 16 + i.val) / 512 ≤ 19; omega)
      (12 * ((g.val * 16 + i.val) % 512 / 256) + q.val / 512) (by omega) ⟨(g.val * 16 + i.val) % 256 / 8, by omega⟩
    rw [one_at m c _ _ _ (by omega)] at hx
    refine le_of_eq_of_le (congrArg av ?_) hx
    have hr : (⟨(g.val * 16 + i.val) / 512 * 512 + 256 * ((12 * ((g.val * 16 + i.val) % 512 / 256) + q.val / 512) / 12)
        + (g.val * 16 + i.val) % 256 / 8 * 8 + (g.val * 16 + i.val) % 8, by omega⟩ : Fin 10240) = ⟨g.val * 16 + i.val, by omega⟩ := Fin.ext (by
      show (g.val * 16 + i.val) / 512 * 512 + 256 * ((12 * ((g.val * 16 + i.val) % 512 / 256) + q.val / 512) / 12)
        + (g.val * 16 + i.val) % 256 / 8 * 8 + (g.val * 16 + i.val) % 8 = g.val * 16 + i.val
      omega)
    have hq : (⟨512 * ((12 * ((g.val * 16 + i.val) % 512 / 256) + q.val / 512) % 12) + q.val % 512, by omega⟩ : Fin 6144) = q := Fin.ext (by
      show 512 * ((12 * ((g.val * 16 + i.val) % 512 / 256) + q.val / 512) % 12) + q.val % 512 = q.val
      omega)
    refine Eq.trans ?_ (congrArg₂ (el (m ((c.tc : Thread nD τ).loc main_arg0)) (Cert.AmaxReferenceIdeal.Value.rot (m ((c.tc : Thread nD τ).loc main_arg1)))) hr hq).symm
    refine Finset.sum_congr rfl fun j _ => ?_
    have h1 : (g.val * 16 + i.val) / 16 = g.val := by omega
    have h2 : (g.val * 16 + i.val) % 16 = i.val := by omega
    simp only [h1, h2]
  · intro h
    refine ⟨bot_le, fun x _ => ?_⟩
    refine (outs_le m c (big (m ((c.tc : Thread nD τ).loc main_arg1))) (v27_0 m c) (v27_1 m c) (v27_2 m c) x.1 x.2 v).mpr
      ⟨(av_nonneg _).trans (h 0 0 0), fun t _ k hk g => ?_⟩
    rw [one_at m c _ _ _ hk]
    have hx := h ⟨(t.val * 512 + 256 * (k / 12) + g.val * 8 + x.1.val) / 16, by omega⟩ ⟨512 * (k % 12) + x.2.val, by omega⟩
      ⟨(t.val * 512 + 256 * (k / 12) + g.val * 8 + x.1.val) % 16, by omega⟩
    exact hx

/-- The kernel's result is the reference's. -/
theorem amax_eq (c : Dev nD) :
    k0_pay4 (outsAt0 m (ok m) c 19 (tL m).isLt).2 = Cert.AmaxReferenceIdeal.Value.scale
      (Cert.AmaxReferenceIdeal.Value.top (m ((c.tc : Thread nD τ).loc main_arg0)) (Cert.AmaxReferenceIdeal.Value.rot (m ((c.tc : Thread nD τ).loc main_arg1)))) := by
  funext y
  obtain ⟨a, b, rfl⟩ : ∃ (a : Fin 8) (b : Fin 128), y = ix2 a b := ⟨y 0, y 1, by funext d; fin_cases d <;> rfl⟩
  refine Eq.trans ?_ (Cert.AmaxReferenceIdeal.Value.scale_at _ a b).symm
  rw [← top_eq m c _ rfl]
  generalize (outsAt0 m (ok m) c 19 (tL m).isLt).2 = z
  unfold k0_pay4
  pointwise
  have hb : Ideal.ofBits FTy.f32 4286578688#32 = ⊥ := by simp [Ideal.ofBits, Ideal.ieee]
  rw [hb]
end Cert.AmaxKernelIdeal.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.AmaxKernel
public import proofs.«01_k».proof.Proof.Gen.AmaxKernel.Skeleton
public import proofs.«01_k».proof.Proof.Gen.AmaxKernel.Launch
public import proofs.«01_k».proof.Proof.Gen.AmaxKernel.Points
public import proofs.«01_k».proof.Proof.Gen.AmaxKernel.Frame
public import proofs.«01_k».proof.Proof.Gen.AmaxKernelIdeal
public import proofs.«01_k».proof.Proof.Gen.AmaxKernelIdeal.Skeleton
public import proofs.«01_k».proof.Proof.Gen.AmaxKernelIdeal.Launch
public import proofs.«01_k».proof.Proof.Gen.AmaxKernelIdeal.Points
public import proofs.«01_k».proof.Proof.Gen.AmaxKernelIdeal.Frame
public import proofs.«01_k».proof.Proof.Gen.AmaxReferenceIdeal
public import proofs.«01_k».proof.Proof.Gen.AmaxReferenceIdeal.Run
public import proofs.«01_k».proof.Proof.Transport
public import proofs.«01_k».proof.Proof.Pre
public import proofs.«01_k».proof.Proof.Value
public import proofs.«01_k».proof.Proof.RefValue
public import proofs.«01_k».proof.Proof.AmaxH
public import Idealize.ShloMosaic.Adequacy
public import Idealize.ShloMosaic.Init

@[expose] public section

noncomputable section

namespace Cert.Proof
open Idealize.ShloMosaic Idealize.ShloMosaic.TcCoe Idealize.SL.Sem

/-- Every run of the kernel ends, faults nowhere and leaves its arguments as they were. -/
theorem frame_p : Cert.quiescent_Kernel := fun m ρ h =>
  (θ_run _ _ _).mono (fun _ h => ⟨fun c => (h.1 c).2, h.2⟩)
    (Cert.Kernel.Gen.run (F := Bits) m ρ fun c => Cert.Pre_some_chunks.bounds _ _ _ _ (h c))

/-- The same of the ideal kernel. -/
theorem frame_pi : Cert.quiescent_KernelIdeal := fun m ρ h =>
  (θ_run _ _ _).mono (fun _ h => ⟨fun c => (h.1 c).2, h.2⟩)
    (Cert.Transport.runI (F := Ideal) m ρ fun c => Cert.Pre_some_chunks.bounds _ _ _ _ (h c))

/-- The same of the reference: a list of host operations, without semaphores. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The words the kernel reads from its two small operands. -/
theorem meta_ix : Cert.Kernel.Gen.wMeta = ix1 (0 : Fin 8) := by
  funext a; match a with | ⟨0, _⟩ => exact Fin.ext Cert.Pre_some_chunks.wMeta_val
theorem st0_val : (Cert.Kernel.Gen.wSt0 0).val = 0 := by
  unfold Cert.Kernel.Gen.wSt0
  exact (Nat.zero_add _).trans ((Nat.one_mul _).trans (Nat.lt_one_iff.mp (Fin.isLt (n := 1) _)))
theorem st1_val : (Cert.Kernel.Gen.wSt1 0).val = 1 := by
  unfold Cert.Kernel.Gen.wSt1
  exact congrArg (1 + ·) ((Nat.one_mul _).trans (Nat.lt_one_iff.mp (Fin.isLt (n := 1) _)))
theorem st0_ix : Cert.Kernel.Gen.wSt0 = ix1 (0 : Fin 2) := by
  funext a; match a with | ⟨0, _⟩ => exact Fin.ext st0_val
theorem st1_ix : Cert.Kernel.Gen.wSt1 = ix1 (1 : Fin 2) := by
  funext a; match a with | ⟨0, _⟩ => exact Fin.ext st1_val

/-- Kernel and reference give one value, of any arguments with `1 ≤ nv ≤ 40`. -/
theorem value (D : Cert.Kernel.S16x80x512x128.Idx → BitVec 32) (X : Cert.Kernel.S48x5120x128.Idx → BitVec 32) (M : Cert.Kernel.S8.Idx → BitVec 32)
    (S : Cert.Kernel.S2.Idx → Ideal .f32) (h1 : 1 ≤ (M Cert.Kernel.Gen.wMeta).toNat) (h2 : (M Cert.Kernel.Gen.wMeta).toNat ≤ 40) :
    Cert.RefValue.refOut D X M S
      = Cert.Kernel.Gen.outOf (F := Ideal) X D (M Cert.Kernel.Gen.wMeta).toNat (Cert.Kernel.Gen.k0_pay27 (F := Ideal) (S Cert.Kernel.Gen.wSt0) (S Cert.Kernel.Gen.wSt1)) := by
  funext y
  refine (Cert.RefValue.refOut_at D X M S (M Cert.Kernel.Gen.wMeta).toNat (by rw [meta_ix]) h2 y).trans ?_
  refine Eq.trans ?_ (Cert.Kernel.Gen.outOf_at X D _ _ h1 h2 y).symm
  rw [st0_ix, st1_ix]
  rfl

/-- The ideal kernel and the reference, from equal arguments, leave equal results. -/
theorem algebraic : Cert.algebraic_KernelIdeal_ReferenceIdeal := fun m ρ m' ρ' h e =>
  ⟨fun c => Cert.Kernel.Gen.outV (F := Ideal) m c,
    (θ_run _ _ _).mono (fun _ h => h.1) (Cert.Transport.runI (F := Ideal) m ρ fun c => Cert.Pre_some_chunks.bounds _ _ _ _ (h c)),
    (θ_run Cert.ReferenceIdeal.defs _ _).mono (fun r hr c => by
      obtain ⟨e0, e1, e2, e3⟩ := e c
      have hb := Cert.Pre_some_chunks.bounds _ _ _ _ (h c)
      refine ⟨(hr c).1.trans ?_, (hr c).2⟩
      rw [e0, e1, e2, e3]
      exact value _ _ _ _ hb.1 hb.2)
    (Cert.ReferenceIdeal.Value.run (F := Ideal) m' ρ')⟩

/-- The call for the tensor scale ends, faults nowhere and leaves its arguments as they were. -/
theorem frame_p2 : Cert.quiescent_AmaxKernel := fun m ρ _ =>
  Cert.AmaxKernel.Gen.frame (F := Bits) m ρ (by unfold Cert.AmaxKernel.Gen.Ok Cert.AmaxKernel.ok0; trivial)

/-- The same of its ideal reading. -/
theorem frame_pi2 : Cert.quiescent_AmaxKernelIdeal := fun m ρ _ =>
  Cert.AmaxKernelIdeal.Gen.frame (F := Ideal) m ρ (Cert.AmaxKernelIdeal.Gen.ok m)

/-- The same of its reference. -/
theorem frame_ri2 : Cert.quiescent_AmaxReferenceIdeal := fun m ρ _ =>
  (θ_run Cert.AmaxReferenceIdeal.defs _ _).mono (fun r h => ⟨fun c => (h c).2, Idealize.ShloMosaic.sem_eq_zero_of_no_sems (by decide) r.2⟩)
    (Cert.AmaxReferenceIdeal.Value.run_res m ρ)

/-- The tensor scale of the kernel is the reference's. -/
theorem algebraic2 : Cert.algebraic_AmaxKernelIdeal_AmaxReferenceIdeal := fun m ρ m' ρ' _ e =>
  ⟨fun c => Cert.AmaxKernelIdeal.Gen.k0_pay4 (Cert.AmaxKernelIdeal.Gen.outsAt0 m (Cert.AmaxKernelIdeal.Gen.ok m) c 19 (Cert.AmaxKernelIdeal.Gen.tL m).isLt).2,
    Cert.AmaxKernelIdeal.Gen.run_val (F := Ideal) m ρ,
    (θ_run Cert.AmaxReferenceIdeal.defs _ _).mono (fun r hr c => by
      obtain ⟨e0, e1⟩ := e c
      refine ⟨(hr c).1.trans ?_, (hr c).2⟩
      rw [e0, e1]
      exact (Cert.AmaxKernelIdeal.Gen.amax_eq m c).symm)
    (Cert.AmaxReferenceIdeal.Value.run_res m' ρ')⟩

theorem claim : Cert.Claim :=
  ⟨Cert.Kernel.Gen.facts, Cert.KernelIdeal.Gen.facts, Cert.ReferenceIdeal.Gen.facts, Cert.AmaxKernel.Gen.facts, Cert.AmaxKernelIdeal.Gen.facts,
    Cert.AmaxReferenceIdeal.Gen.facts, Cert.Pre_some_chunks.facts, frame_p, frame_pi, frame_ri, frame_p2, frame_pi2, frame_ri2, trivial, algebraic,
    trivial, algebraic2⟩
end Cert.Proof

end
